-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_01 [hPre_mask_01 : Cert.Pre_mask_01.Facts] (m : (ℓ : Loc Cert.KernelIdeal.nD Cert.KernelIdeal.τ Cert.KernelIdeal.sig) → Buf (Elt Ideal) ℓ) : Prop :=
  ∀ c : Dev Cert.KernelIdeal.nD,
    (Cert.Pre_mask_01.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_01 [hPre_mask_01 : Cert.Pre_mask_01.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_01.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_01 [hKernelIdeal : Cert.KernelIdeal.Facts] [hPre_mask_01 : Cert.Pre_mask_01.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_01 m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_01 [hReferenceIdeal : Cert.ReferenceIdeal.Facts] [hPre_mask_01 : Cert.Pre_mask_01.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_01 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_mask_01 [hKernelIdeal : Cert.KernelIdeal.Facts] [hReferenceIdeal : Cert.ReferenceIdeal.Facts] [hPre_mask_01 : Cert.Pre_mask_01.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_01 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mask_01 : Cert.Pre_mask_01.Facts),
    quiescent_Kernel (hKernel := hKernel)
    ∧ quiescent_KernelIdeal (hKernelIdeal := hKernelIdeal)
    ∧ quiescent_KernelIdeal_pre_mask_01 (hKernelIdeal := hKernelIdeal) (hPre_mask_01 := hPre_mask_01)
    ∧ quiescent_ReferenceIdeal (hReferenceIdeal := hReferenceIdeal)
    ∧ quiescent_ReferenceIdeal_pre_mask_01 (hReferenceIdeal := hReferenceIdeal) (hPre_mask_01 := hPre_mask_01)
    ∧ preserves_Kernel_KernelIdeal
    ∧ algebraic_KernelIdeal_ReferenceIdeal_pre_mask_01 (hKernelIdeal := hKernelIdeal) (hReferenceIdeal := hReferenceIdeal) (hPre_mask_01 := hPre_mask_01)
-- ==== Pre_mask_01.lean ====
abbrev S256x196x768 : Shape := ⟨3, ![256, 196, 768]⟩
abbrev S196x1 : Shape := ⟨2, ![196, 1]⟩
abbrev S_ : Shape := ⟨0, ![]⟩

class Facts : Prop where
  bcast_S_S196x1 : S_.BroadcastsInDim S196x1 (![] : Fin 0 → Fin S196x1.rank)
  reducesTo_S196x1_S_d0_1 : S196x1.ReducesTo [0, 1] S_
  h_S_ : 0 < S_.numel

variable [Facts]

def fn {F : FTy → Type} [FloatOps F] (main_arg0 : FVec F S256x196x768 .f32) (main_arg1 : IVec S196x1 32) : IVec S_ 1 :=
  let main_c : IVec S_ 32 := constantI S_ 32 0#32
  let main_v0 : IVec S196x1 32 := broadcastInDim S196x1 ![] bcast_S_S196x1 main_c
  let main_v1 : IVec S196x1 1 := cmpi .eq main_arg1 main_v0
  let main_c_0 : IVec S_ 32 := constantI S_ 32 1#32
  let main_v2 : IVec S196x1 32 := broadcastInDim S196x1 ![] bcast_S_S196x1 main_c_0
  let main_v3 : IVec S196x1 1 := cmpi .eq main_arg1 main_v2
  let main_v4 : IVec S196x1 1 := ori main_v1 main_v3
  let main_c_1 : IVec S_ 1 := constantI S_ 1 1#1
  let main_v5 : IVec S_ 1 := (fun x v => Host.reduce IntOp.andi x v reducesTo_S196x1_S_d0_1 h_S_) main_v4 main_c_1
  main_v5
-- ==== Kernel.lean ====
abbrev S256x196x768 : Shape := ⟨3, ![256, 196, 768]⟩
abbrev S196x1 : Shape := ⟨2, ![196, 1]⟩
abbrev S196x256x768 : Shape := ⟨3, ![196, 256, 768]⟩
abbrev S150528x2x128 : Shape := ⟨3, ![150528, 2, 128]⟩
abbrev S196 : Shape := ⟨1, ![196]⟩
abbrev S_ : Shape := ⟨0, ![]⟩
abbrev S12 : Shape := ⟨1, ![12]⟩
abbrev S208 : Shape := ⟨1, ![208]⟩
abbrev S48x2x128 : Shape := ⟨3, ![48, 2, 128]⟩
abbrev S624 : Shape := ⟨1, ![624]⟩
abbrev S4x48x2x128 : Shape := ⟨4, ![4, 48, 2, 128]⟩
abbrev S4 : Shape := ⟨1, ![4]⟩
abbrev S16 : Shape := ⟨1, ![16]⟩
abbrev S48 : Shape := ⟨1, ![48]⟩
abbrev S1x48x2x128 : Shape := ⟨4, ![1, 48, 2, 128]⟩
abbrev S1 : Shape := ⟨1, ![1]⟩

abbrev nBuf : Table → Nat
  | .hbm => 13
  | .local .scVector .vmem => 7
  | _ => 0

abbrev bufTy : (tb : Table) → Fin (nBuf tb) → BufTy
  | .hbm, ⟨0, _⟩ => ⟨S256x196x768, .f32⟩
  | .hbm, ⟨1, _⟩ => ⟨S196x1, .i32⟩
  | .hbm, ⟨2, _⟩ => ⟨S196x256x768, .f32⟩
  | .hbm, ⟨3, _⟩ => ⟨S150528x2x128, .f32⟩
  | .hbm, ⟨4, _⟩ => ⟨S196, .i32⟩
  | .hbm, ⟨5, _⟩ => ⟨S_, .i32⟩
  | .hbm, ⟨6, _⟩ => ⟨S12, .i32⟩
  | .hbm, ⟨7, _⟩ => ⟨S208, .i32⟩
  | .hbm, ⟨8, _⟩ => ⟨S_, .f32⟩
  | .hbm, ⟨9, _⟩ => ⟨S48x2x128, .f32⟩
  | .hbm, ⟨10, _⟩ => ⟨S150528x2x128, .f32⟩
  | .hbm, ⟨11, _⟩ => ⟨S196x256x768, .f32⟩
  | .hbm, ⟨12, _⟩ => ⟨S256x196x768, .f32⟩
  | .local .scVector .vmem, ⟨0, _⟩ => ⟨S208, .i32⟩
  | .local .scVector .vmem, ⟨1, _⟩ => ⟨S208, .i32⟩
  | .local .scVector .vmem, ⟨2, _⟩ => ⟨S208, .i32⟩
  | .local .scVector .vmem, ⟨3, _⟩ => ⟨S624, .i32⟩
  | .local .scVector .vmem, ⟨4, _⟩ => ⟨S624, .i32⟩
  | .local .scVector .vmem, ⟨5, _⟩ => ⟨S4x48x2x128, .f32⟩
  | .local .scVector .vmem, ⟨6, _⟩ => ⟨S48x2x128, .f32⟩
  | _, _ => ⟨S256x196x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v1_scv : Ref sig .scVector := ⟨.hbm, 3, rfl⟩
abbrev main_v4_scv : Ref sig .scVector := ⟨.hbm, 7, rfl⟩
abbrev main_v5_scv : Ref sig .scVector := ⟨.hbm, 9, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v25 : IVec S16 32) : Prop :=
  (∀ a x, ((![v25] : Fin 1 → IVec S16 32) a x).toNat < S208.size a)
theorem k0_idx1_inb : ∀ (v25 : IVec S16 32) (k0_hw1 : k0_chk1 v25), ∀ a x, ((![v25] : Fin 1 → IVec S16 32) a x).toNat < S208.size a := fun v25 k0_hw1 => k0_hw1

def k0_chk2 (v33 : IVec S16 32) : Prop :=
  (∀ a x, ((![v33] : Fin 1 → IVec S16 32) a x).toNat < S208.size a)
theorem k0_idx2_inb : ∀ (v33 : IVec S16 32) (k0_hw2 : k0_chk2 v33), ∀ a x, ((![v33] : Fin 1 → IVec S16 32) a x).toNat < S208.size a := fun v33 k0_hw2 => k0_hw2

def k0_chk3 (v75 : IVec S16 32) : Prop :=
  (∀ a x, ((![v75] : Fin 1 → IVec S16 32) a x).toNat < S208.size a)
theorem k0_idx3_inb : ∀ (v75 : IVec S16 32) (k0_hw3 : k0_chk3 v75), ∀ a x, ((![v75] : Fin 1 → IVec S16 32) a x).toNat < S208.size a := fun v75 k0_hw3 => k0_hw3

def k0_chk4 (v83 : IVec S16 32) : Prop :=
  (∀ a x, ((![v83] : Fin 1 → IVec S16 32) a x).toNat < S208.size a)
theorem k0_idx4_inb : ∀ (v83 : IVec S16 32) (k0_hw4 : k0_chk4 v83), ∀ a x, ((![v83] : Fin 1 → IVec S16 32) a x).toNat < S208.size a := fun v83 k0_hw4 => k0_hw4

def k0_chk5 (v125 : IVec S16 32) : Prop :=
  (∀ a x, ((![v125] : Fin 1 → IVec S16 32) a x).toNat < S208.size a)
theorem k0_idx5_inb : ∀ (v125 : IVec S16 32) (k0_hw5 : k0_chk5 v125), ∀ a x, ((![v125] : Fin 1 → IVec S16 32) a x).toNat < S208.size a := fun v125 k0_hw5 => k0_hw5

def k0_chk6 (v133 : IVec S16 32) : Prop :=
  (∀ a x, ((![v133] : Fin 1 → IVec S16 32) a x).toNat < S208.size a)
theorem k0_idx6_inb : ∀ (v133 : IVec S16 32) (k0_hw6 : k0_chk6 v133), ∀ a x, ((![v133] : Fin 1 → IVec S16 32) a x).toNat < S208.size a := fun v133 k0_hw6 => k0_hw6

def k0_chk7 (v175 : IVec S16 32) : Prop :=
  (∀ a x, ((![v175] : Fin 1 → IVec S16 32) a x).toNat < S208.size a)
theorem k0_idx7_inb : ∀ (v175 : IVec S16 32) (k0_hw7 : k0_chk7 v175), ∀ a x, ((![v175] : Fin 1 → IVec S16 32) a x).toNat < S208.size a := fun v175 k0_hw7 => k0_hw7

def k0_chk8 (v183 : IVec S16 32) : Prop :=
  (∀ a x, ((![v183] : Fin 1 → IVec S16 32) a x).toNat < S208.size a)
theorem k0_idx8_inb : ∀ (v183 : IVec S16 32) (k0_hw8 : k0_chk8 v183), ∀ a x, ((![v183] : Fin 1 → IVec S16 32) a x).toNat < S208.size a := fun v183 k0_hw8 => k0_hw8

def k0_chk9 (v225 : IVec S16 32) : Prop :=
  (∀ a x, ((![v225] : Fin 1 → IVec S16 32) a x).toNat < S208.size a)
theorem k0_idx9_inb : ∀ (v225 : IVec S16 32) (k0_hw9 : k0_chk9 v225), ∀ a x, ((![v225] : Fin 1 → IVec S16 32) a x).toNat < S208.size a := fun v225 k0_hw9 => k0_hw9

def k0_chk10 (v233 : IVec S16 32) : Prop :=
  (∀ a x, ((![v233] : Fin 1 → IVec S16 32) a x).toNat < S208.size a)
theorem k0_idx10_inb : ∀ (v233 : IVec S16 32) (k0_hw10 : k0_chk10 v233), ∀ a x, ((![v233] : Fin 1 → IVec S16 32) a x).toNat < S208.size a := fun v233 k0_hw10 => k0_hw10

def k0_chk11 (v275 : IVec S16 32) : Prop :=
  (∀ a x, ((![v275] : Fin 1 → IVec S16 32) a x).toNat < S208.size a)
theorem k0_idx11_inb : ∀ (v275 : IVec S16 32) (k0_hw11 : k0_chk11 v275), ∀ a x, ((![v275] : Fin 1 → IVec S16 32) a x).toNat < S208.size a := fun v275 k0_hw11 => k0_hw11

def k0_chk12 (v283 : IVec S16 32) : Prop :=
  (∀ a x, ((![v283] : Fin 1 → IVec S16 32) a x).toNat < S208.size a)
theorem k0_idx12_inb : ∀ (v283 : IVec S16 32) (k0_hw12 : k0_chk12 v283), ∀ a x, ((![v283] : Fin 1 → IVec S16 32) a x).toNat < S208.size a := fun v283 k0_hw12 => k0_hw12

def k0_chk13 (v325 : IVec S16 32) : Prop :=
  (∀ a x, ((![v325] : Fin 1 → IVec S16 32) a x).toNat < S208.size a)
theorem k0_idx13_inb : ∀ (v325 : IVec S16 32) (k0_hw13 : k0_chk13 v325), ∀ a x, ((![v325] : Fin 1 → IVec S16 32) a x).toNat < S208.size a := fun v325 k0_hw13 => k0_hw13

def k0_chk14 (v333 : IVec S16 32) : Prop :=
  (∀ a x, ((![v333] : Fin 1 → IVec S16 32) a x).toNat < S208.size a)
theorem k0_idx14_inb : ∀ (v333 : IVec S16 32) (k0_hw14 : k0_chk14 v333), ∀ a x, ((![v333] : Fin 1 → IVec S16 32) a x).toNat < S208.size a := fun v333 k0_hw14 => k0_hw14

def k0_chk15 (v375 : IVec S16 32) : Prop :=
  (∀ a x, ((![v375] : Fin 1 → IVec S16 32) a x).toNat < S208.size a)
theorem k0_idx15_inb : ∀ (v375 : IVec S16 32) (k0_hw15 : k0_chk15 v375), ∀ a x, ((![v375] : Fin 1 → IVec S16 32) a x).toNat < S208.size a := fun v375 k0_hw15 => k0_hw15

def k0_chk16 (v383 : IVec S16 32) : Prop :=
  (∀ a x, ((![v383] : Fin 1 → IVec S16 32) a x).toNat < S208.size a)
theorem k0_idx16_inb : ∀ (v383 : IVec S16 32) (k0_hw16 : k0_chk16 v383), ∀ a x, ((![v383] : Fin 1 → IVec S16 32) a x).toNat < S208.size a := fun v383 k0_hw16 => k0_hw16

def k0_chk17 (v425 : IVec S16 32) : Prop :=
  (∀ a x, ((![v425] : Fin 1 → IVec S16 32) a x).toNat < S208.size a)
theorem k0_idx17_inb : ∀ (v425 : IVec S16 32) (k0_hw17 : k0_chk17 v425), ∀ a x, ((![v425] : Fin 1 → IVec S16 32) a x).toNat < S208.size a := fun v425 k0_hw17 => k0_hw17

def k0_chk18 (v433 : IVec S16 32) : Prop :=
  (∀ a x, ((![v433] : Fin 1 → IVec S16 32) a x).toNat < S208.size a)
theorem k0_idx18_inb : ∀ (v433 : IVec S16 32) (k0_hw18 : k0_chk18 v433), ∀ a x, ((![v433] : Fin 1 → IVec S16 32) a x).toNat < S208.size a := fun v433 k0_hw18 => k0_hw18

def k0_chk19 (v475 : IVec S16 32) : Prop :=
  (∀ a x, ((![v475] : Fin 1 → IVec S16 32) a x).toNat < S208.size a)
theorem k0_idx19_inb : ∀ (v475 : IVec S16 32) (k0_hw19 : k0_chk19 v475), ∀ a x, ((![v475] : Fin 1 → IVec S16 32) a x).toNat < S208.size a := fun v475 k0_hw19 => k0_hw19

def k0_chk20 (v483 : IVec S16 32) : Prop :=
  (∀ a x, ((![v483] : Fin 1 → IVec S16 32) a x).toNat < S208.size a)
theorem k0_idx20_inb : ∀ (v483 : IVec S16 32) (k0_hw20 : k0_chk20 v483), ∀ a x, ((![v483] : Fin 1 → IVec S16 32) a x).toNat < S208.size a := fun v483 k0_hw20 => k0_hw20

def k0_chk21 (v525 : IVec S16 32) : Prop :=
  (∀ a x, ((![v525] : Fin 1 → IVec S16 32) a x).toNat < S208.size a)
theorem k0_idx21_inb : ∀ (v525 : IVec S16 32) (k0_hw21 : k0_chk21 v525), ∀ a x, ((![v525] : Fin 1 → IVec S16 32) a x).toNat < S208.size a := fun v525 k0_hw21 => k0_hw21

def k0_chk22 (v533 : IVec S16 32) : Prop :=
  (∀ a x, ((![v533] : Fin 1 → IVec S16 32) a x).toNat < S208.size a)
theorem k0_idx22_inb : ∀ (v533 : IVec S16 32) (k0_hw22 : k0_chk22 v533), ∀ a x, ((![v533] : Fin 1 → IVec S16 32) a x).toNat < S208.size a := fun v533 k0_hw22 => k0_hw22

def k0_chk23 (v575 : IVec S16 32) : Prop :=
  (∀ a x, ((![v575] : Fin 1 → IVec S16 32) a x).toNat < S208.size a)
theorem k0_idx23_inb : ∀ (v575 : IVec S16 32) (k0_hw23 : k0_chk23 v575), ∀ a x, ((![v575] : Fin 1 → IVec S16 32) a x).toNat < S208.size a := fun v575 k0_hw23 => k0_hw23

def k0_chk24 (v583 : IVec S16 32) : Prop :=
  (∀ a x, ((![v583] : Fin 1 → IVec S16 32) a x).toNat < S208.size a)
theorem k0_idx24_inb : ∀ (v583 : IVec S16 32) (k0_hw24 : k0_chk24 v583), ∀ a x, ((![v583] : Fin 1 → IVec S16 32) a x).toNat < S208.size a := fun v583 k0_hw24 => k0_hw24

def k0_chk25 (v625 : IVec S16 32) : Prop :=
  (∀ a x, ((![v625] : Fin 1 → IVec S16 32) a x).toNat < S208.size a)
theorem k0_idx25_inb : ∀ (v625 : IVec S16 32) (k0_hw25 : k0_chk25 v625), ∀ a x, ((![v625] : Fin 1 → IVec S16 32) a x).toNat < S208.size a := fun v625 k0_hw25 => k0_hw25

def k0_chk26 (v633 : IVec S16 32) : Prop :=
  (∀ a x, ((![v633] : Fin 1 → IVec S16 32) a x).toNat < S208.size a)
theorem k0_idx26_inb : ∀ (v633 : IVec S16 32) (k0_hw26 : k0_chk26 v633), ∀ a x, ((![v633] : Fin 1 → IVec S16 32) a x).toNat < S208.size a := fun v633 k0_hw26 => k0_hw26

def k0_chk27 (v659 : IVec S16 32) : Prop :=
  (∀ a x, ((![v659] : Fin 1 → IVec S16 32) a x).toNat < S208.size a) ∧
  (∀ a x, ((![v659] : Fin 1 → IVec S16 32) a x).toNat < S208.size a)
theorem k0_idx27_inb : ∀ (v659 : IVec S16 32) (k0_hw27 : k0_chk27 v659), ∀ a x, ((![v659] : Fin 1 → IVec S16 32) a x).toNat < S208.size a := fun v659 k0_hw27 => k0_hw27.1
theorem k0_idx28_inb : ∀ (v659 : IVec S16 32) (k0_hw27 : k0_chk27 v659), ∀ a x, ((![v659] : Fin 1 → IVec S16 32) a x).toNat < S208.size a := fun v659 k0_hw27 => k0_hw27.2

def k0_chk28 (v664 : IVec S16 32) : Prop :=
  (∀ a x, ((![v664] : Fin 1 → IVec S16 32) a x).toNat < S208.size a) ∧
  (∀ a x, ((![v664] : Fin 1 → IVec S16 32) a x).toNat < S208.size a)
theorem k0_idx29_inb : ∀ (v664 : IVec S16 32) (k0_hw28 : k0_chk28 v664), ∀ a x, ((![v664] : Fin 1 → IVec S16 32) a x).toNat < S208.size a := fun v664 k0_hw28 => k0_hw28.1
theorem k0_idx30_inb : ∀ (v664 : IVec S16 32) (k0_hw28 : k0_chk28 v664), ∀ a x, ((![v664] : Fin 1 → IVec S16 32) a x).toNat < S208.size a := fun v664 k0_hw28 => k0_hw28.2

def k0_chk29 (v669 : IVec S16 32) : Prop :=
  (∀ a x, ((![v669] : Fin 1 → IVec S16 32) a x).toNat < S208.size a) ∧
  (∀ a x, ((![v669] : Fin 1 → IVec S16 32) a x).toNat < S208.size a)
theorem k0_idx31_inb : ∀ (v669 : IVec S16 32) (k0_hw29 : k0_chk29 v669), ∀ a x, ((![v669] : Fin 1 → IVec S16 32) a x).toNat < S208.size a := fun v669 k0_hw29 => k0_hw29.1
theorem k0_idx32_inb : ∀ (v669 : IVec S16 32) (k0_hw29 : k0_chk29 v669), ∀ a x, ((![v669] : Fin 1 → IVec S16 32) a x).toNat < S208.size a := fun v669 k0_hw29 => k0_hw29.2

def k0_chk30 (v674 : IVec S16 32) : Prop :=
  (∀ a x, ((![v674] : Fin 1 → IVec S16 32) a x).toNat < S208.size a) ∧
  (∀ a x, ((![v674] : Fin 1 → IVec S16 32) a x).toNat < S208.size a)
theorem k0_idx33_inb : ∀ (v674 : IVec S16 32) (k0_hw30 : k0_chk30 v674), ∀ a x, ((![v674] : Fin 1 → IVec S16 32) a x).toNat < S208.size a := fun v674 k0_hw30 => k0_hw30.1
theorem k0_idx34_inb : ∀ (v674 : IVec S16 32) (k0_hw30 : k0_chk30 v674), ∀ a x, ((![v674] : Fin 1 → IVec S16 32) a x).toNat < S208.size a := fun v674 k0_hw30 => k0_hw30.2

def k0_chk31 (v679 : IVec S16 32) : Prop :=
  (∀ a x, ((![v679] : Fin 1 → IVec S16 32) a x).toNat < S208.size a) ∧
  (∀ a x, ((![v679] : Fin 1 → IVec S16 32) a x).toNat < S208.size a)
theorem k0_idx35_inb : ∀ (v679 : IVec S16 32) (k0_hw31 : k0_chk31 v679), ∀ a x, ((![v679] : Fin 1 → IVec S16 32) a x).toNat < S208.size a := fun v679 k0_hw31 => k0_hw31.1
theorem k0_idx36_inb : ∀ (v679 : IVec S16 32) (k0_hw31 : k0_chk31 v679), ∀ a x, ((![v679] : Fin 1 → IVec S16 32) a x).toNat < S208.size a := fun v679 k0_hw31 => k0_hw31.2

def k0_chk32 (v684 : IVec S16 32) : Prop :=
  (∀ a x, ((![v684] : Fin 1 → IVec S16 32) a x).toNat < S208.size a) ∧
  (∀ a x, ((![v684] : Fin 1 → IVec S16 32) a x).toNat < S208.size a)
theorem k0_idx37_inb : ∀ (v684 : IVec S16 32) (k0_hw32 : k0_chk32 v684), ∀ a x, ((![v684] : Fin 1 → IVec S16 32) a x).toNat < S208.size a := fun v684 k0_hw32 => k0_hw32.1
theorem k0_idx38_inb : ∀ (v684 : IVec S16 32) (k0_hw32 : k0_chk32 v684), ∀ a x, ((![v684] : Fin 1 → IVec S16 32) a x).toNat < S208.size a := fun v684 k0_hw32 => k0_hw32.2

def k0_chk33 (v689 : IVec S16 32) : Prop :=
  (∀ a x, ((![v689] : Fin 1 → IVec S16 32) a x).toNat < S208.size a) ∧
  (∀ a x, ((![v689] : Fin 1 → IVec S16 32) a x).toNat < S208.size a)
theorem k0_idx39_inb : ∀ (v689 : IVec S16 32) (k0_hw33 : k0_chk33 v689), ∀ a x, ((![v689] : Fin 1 → IVec S16 32) a x).toNat < S208.size a := fun v689 k0_hw33 => k0_hw33.1
theorem k0_idx40_inb : ∀ (v689 : IVec S16 32) (k0_hw33 : k0_chk33 v689), ∀ a x, ((![v689] : Fin 1 → IVec S16 32) a x).toNat < S208.size a := fun v689 k0_hw33 => k0_hw33.2

def k0_chk34 (v694 : IVec S16 32) : Prop :=
  (∀ a x, ((![v694] : Fin 1 → IVec S16 32) a x).toNat < S208.size a) ∧
  (∀ a x, ((![v694] : Fin 1 → IVec S16 32) a x).toNat < S208.size a)
theorem k0_idx41_inb : ∀ (v694 : IVec S16 32) (k0_hw34 : k0_chk34 v694), ∀ a x, ((![v694] : Fin 1 → IVec S16 32) a x).toNat < S208.size a := fun v694 k0_hw34 => k0_hw34.1
theorem k0_idx42_inb : ∀ (v694 : IVec S16 32) (k0_hw34 : k0_chk34 v694), ∀ a x, ((![v694] : Fin 1 → IVec S16 32) a x).toNat < S208.size a := fun v694 k0_hw34 => k0_hw34.2

def k0_chk35 (v699 : IVec S16 32) : Prop :=
  (∀ a x, ((![v699] : Fin 1 → IVec S16 32) a x).toNat < S208.size a) ∧
  (∀ a x, ((![v699] : Fin 1 → IVec S16 32) a x).toNat < S208.size a)
theorem k0_idx43_inb : ∀ (v699 : IVec S16 32) (k0_hw35 : k0_chk35 v699), ∀ a x, ((![v699] : Fin 1 → IVec S16 32) a x).toNat < S208.size a := fun v699 k0_hw35 => k0_hw35.1
theorem k0_idx44_inb : ∀ (v699 : IVec S16 32) (k0_hw35 : k0_chk35 v699), ∀ a x, ((![v699] : Fin 1 → IVec S16 32) a x).toNat < S208.size a := fun v699 k0_hw35 => k0_hw35.2

def k0_chk36 (v704 : IVec S16 32) : Prop :=
  (∀ a x, ((![v704] : Fin 1 → IVec S16 32) a x).toNat < S208.size a) ∧
  (∀ a x, ((![v704] : Fin 1 → IVec S16 32) a x).toNat < S208.size a)
theorem k0_idx45_inb : ∀ (v704 : IVec S16 32) (k0_hw36 : k0_chk36 v704), ∀ a x, ((![v704] : Fin 1 → IVec S16 32) a x).toNat < S208.size a := fun v704 k0_hw36 => k0_hw36.1
theorem k0_idx46_inb : ∀ (v704 : IVec S16 32) (k0_hw36 : k0_chk36 v704), ∀ a x, ((![v704] : Fin 1 → IVec S16 32) a x).toNat < S208.size a := fun v704 k0_hw36 => k0_hw36.2

def k0_chk37 (v709 : IVec S16 32) : Prop :=
  (∀ a x, ((![v709] : Fin 1 → IVec S16 32) a x).toNat < S208.size a) ∧
  (∀ a x, ((![v709] : Fin 1 → IVec S16 32) a x).toNat < S208.size a)
theorem k0_idx47_inb : ∀ (v709 : IVec S16 32) (k0_hw37 : k0_chk37 v709), ∀ a x, ((![v709] : Fin 1 → IVec S16 32) a x).toNat < S208.size a := fun v709 k0_hw37 => k0_hw37.1
theorem k0_idx48_inb : ∀ (v709 : IVec S16 32) (k0_hw37 : k0_chk37 v709), ∀ a x, ((![v709] : Fin 1 → IVec S16 32) a x).toNat < S208.size a := fun v709 k0_hw37 => k0_hw37.2

def k0_chk38 (v714 : IVec S16 32) : Prop :=
  (∀ a x, ((![v714] : Fin 1 → IVec S16 32) a x).toNat < S208.size a) ∧
  (∀ a x, ((![v714] : Fin 1 → IVec S16 32) a x).toNat < S208.size a)
theorem k0_idx49_inb : ∀ (v714 : IVec S16 32) (k0_hw38 : k0_chk38 v714), ∀ a x, ((![v714] : Fin 1 → IVec S16 32) a x).toNat < S208.size a := fun v714 k0_hw38 => k0_hw38.1
theorem k0_idx50_inb : ∀ (v714 : IVec S16 32) (k0_hw38 : k0_chk38 v714), ∀ a x, ((![v714] : Fin 1 → IVec S16 32) a x).toNat < S208.size a := fun v714 k0_hw38 => k0_hw38.2

def k0_chk39 (v719 : IVec S16 32) : Prop :=
  (∀ a x, ((![v719] : Fin 1 → IVec S16 32) a x).toNat < S208.size a) ∧
  (∀ a x, ((![v719] : Fin 1 → IVec S16 32) a x).toNat < S208.size a)
theorem k0_idx51_inb : ∀ (v719 : IVec S16 32) (k0_hw39 : k0_chk39 v719), ∀ a x, ((![v719] : Fin 1 → IVec S16 32) a x).toNat < S208.size a := fun v719 k0_hw39 => k0_hw39.1
theorem k0_idx52_inb : ∀ (v719 : IVec S16 32) (k0_hw39 : k0_chk39 v719), ∀ a x, ((![v719] : Fin 1 → IVec S16 32) a x).toNat < S208.size a := fun v719 k0_hw39 => k0_hw39.2
@[reducible] def k0_t1_loop : Scf.Loop 32 :=
  let c0_i32_199 : BitVec 32 := 0#32
  let c8_i32 : BitVec 32 := 8#32
  let v734 : BitVec 32 := Scalar.addi c0_i32_199 c8_i32
  let c1_i32_200 : BitVec 32 := 1#32
  ⟨c0_i32_199, v734, c1_i32_200⟩
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x196x768 : Shape := ⟨3, ![256, 196, 768]⟩
abbrev S196x1 : Shape := ⟨2, ![196, 1]⟩
abbrev S196 : Shape := ⟨1, ![196]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S256x196x768, .f32⟩
  | .hbm, ⟨1, _⟩ => ⟨S196x1, .i32⟩
  | .hbm, ⟨2, _⟩ => ⟨S196, .i32⟩
  | .hbm, ⟨3, _⟩ => ⟨S196x1, .i32⟩
  | .hbm, ⟨4, _⟩ => ⟨S196x1, .i32⟩
  | .hbm, ⟨5, _⟩ => ⟨S196, .i32⟩
  | .hbm, ⟨6, _⟩ => ⟨S_, .i32⟩
  | .hbm, ⟨7, _⟩ => ⟨S196, .i32⟩
  | .hbm, ⟨8, _⟩ => ⟨S196, .i1⟩
  | .hbm, ⟨9, _⟩ => ⟨S_, .i32⟩
  | .hbm, ⟨10, _⟩ => ⟨S196, .i32⟩
  | .hbm, ⟨11, _⟩ => ⟨S196, .i32⟩
  | .hbm, ⟨12, _⟩ => ⟨S196, .i32⟩
  | .hbm, ⟨13, _⟩ => ⟨S196x1, .i32⟩
  | .hbm, ⟨14, _⟩ => ⟨S_, .f32⟩
  | .hbm, ⟨15, _⟩ => ⟨S256x196x768, .f32⟩
  | .hbm, ⟨16, _⟩ => ⟨S256x196x768, .f32⟩
  | _, _ => ⟨S256x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Frag.lean ====
/-
  The batch loop's body as a sequence of steps.

  The body is unrolled thirteen times. Here each of the unrolled steps is one function of the chunk's
  number, and the body is shown to be their sequence.
-/
module

public import proofs.«01_k».proof.Defs
public import Idealize.ShloMosaic.Lib.SparseCore.Ops
public import Idealize.ShloMosaic.Lib.SparseCore.Stream
public import Idealize.ShloMosaic.Lib.SparseCore.Scatter
public import proofs.«01_k».proof.Proof.Gen.KernelIdeal
public import proofs.«01_k».proof.Proof.Gen.KernelIdeal.Skeleton

@[expose] public section

noncomputable section

namespace Cert.Proof.Frag

open Cert.KernelIdeal Cert.KernelIdeal.Gen
open Idealize.ShloMosaic Idealize.SL.Sem

variable {F : FTy → Type} [FloatOps F]

/-- The program of a tile. -/
abbrev Tile (F : FTy → Type) (i : grid0.Coords) (α : Type) :=
  Prog (TpuEff nD τ sig (Elt F) Λ₀ (.scVector ((i 0).castLE hcore0) ((i 1).castLE hsub0))) α

/-- Chunk `j` is used where more than `16 * j` rows are listed: the test as the kernel spells it. -/
abbrev used (n : BitVec 32) (j : Fin 13) : BitVec 1 :=
  Scalar.cmpi .ne (Scalar.extui (Scalar.cmpi .sgt n (BitVec.ofNat 32 (16 * j.val)))) 0#32

/-- … and the chunk four later is not. -/
abbrev lastUsed (n : BitVec 32) (j : Fin 13) : BitVec 1 :=
  Scalar.cmpi .ne (Scalar.extui (Scalar.andi (Scalar.cmpi .sgt n (BitVec.ofNat 32 (16 * j.val)))
    (Scalar.cmpi .sle n (BitVec.ofNat 32 (16 * (j.val + 4)))))) 0#32

theorem inb_list (j : Fin 13) : ∀ a : Fin 1, (![16 * j.val] : Fin 1 → ℕ) a + S16.size a ≤ S208.size a := by
  intro a; fin_cases a; show 16 * j.val + 16 ≤ 208; omega

theorem inb_entry (j : Fin 13) (t : Fin 3) : ∀ a : Fin 1, (![48 * j.val + 16 * t.val] : Fin 1 → ℕ) a + S16.size a ≤ S624.size a := by
  intro a; fin_cases a; show 48 * j.val + 16 * t.val + 16 ≤ 624; omega

theorem inb_win (j : Fin 13) : ∀ a : Fin 1, (![48 * j.val] : Fin 1 → ℕ) a + S48.size a ≤ S624.size a := by
  intro a; fin_cases a; show 48 * j.val + 48 ≤ 624; omega

theorem inb_slot (s : Fin 4) : ∀ a : Fin 4, (![s.val, 0, 0, 0] : Fin 4 → ℕ) a + S1x48x2x128.size a ≤ S4x48x2x128.size a := by
  intro a
  fin_cases a
  · show s.val + 1 ≤ 4; omega
  · show 0 + 48 ≤ 48; omega
  · show 0 + 2 ≤ 2; omega
  · show 0 + 128 ≤ 128; omega

theorem inb_sem (s : Fin 4) : ∀ a : Fin 1, (![s.val] : Fin 1 → ℕ) a + S1.size a ≤ S4.size a := by
  intro a; fin_cases a; show s.val + 1 ≤ 4; omega

/-- The ring slot of chunk `j`. -/
def slotOf (j : Fin 13) : Fin 4 := ⟨j.val % 4, Nat.mod_lt _ (by decide)⟩

/-- The sixteen list entries of chunk `j`. -/
abbrev listRect (j : Fin 13) : Rect S208 := Rect.unit (s := S208) ![16 * j.val] S16.size (inb_list j)
/-- The sixteen row numbers of chunk `j` and third `t`. -/
abbrev entryRect (j : Fin 13) (t : Fin 3) : Rect S624 := Rect.unit (s := S624) ![48 * j.val + 16 * t.val] S16.size (inb_entry j t)

/-- The forty-eight row numbers of chunk `j`. -/
abbrev win (lst : Memref sig .scVector .vmem S624 .i32) (j : Fin 13) : Memref sig .scVector .vmem S48 .i32 :=
  lst.slice (Rect.unit (s := S624) ![48 * j.val] S48.size (inb_win j)) (fun _ => rfl)

/-- A whole array of rows, as the copies name it. -/
abbrev rowsOf (x : Memref sig .scVector .hbm S150528x2x128 .f32) : Memref sig .scVector .hbm S150528x2x128 .f32 :=
  x.slice (Rect.unit (s := S150528x2x128) ![0, 0, 0] S150528x2x128.size inb_S150528x2x128_S150528x2x128_0_0_0) (fun _ => rfl)

/-- Slot `s` of the ring. -/
abbrev slot (g : Memref sig .scVector .vmem S4x48x2x128 .f32) (s : Fin 4) : Memref sig .scVector .vmem S48x2x128 .f32 :=
  (g.slice (Rect.unit (s := S4x48x2x128) ![s.val, 0, 0, 0] S1x48x2x128.size (inb_slot s)) (fun _ => rfl)).squeeze S48x2x128
    squeezes_S1x48x2x128_S48x2x128

/-- Slot `s`'s semaphore. -/
abbrev slotSem (g : DmaSems sig S4) (s : Fin 4) : DmaSem sig :=
  ((g.slice (Rect.unit (s := S4) ![s.val] S1.size (inb_sem s))).squeeze S_ squeezes_S1_S_).sem

/-- The row numbers of third `t` of the listed tokens `l`, in the batch at `base`. -/
def rowNums (base : IVec S16 32) (l : IVec S16 32) (t : Fin 3) : IVec S16 32 :=
  addi (muli (addi (muli l (broadcast S16 256#32)) base) (broadcast S16 3#32)) (broadcast S16 (BitVec.ofNat 32 t.val))

section Steps

variable (i : grid0.Coords)
variable (x out : Memref sig .scVector .hbm S150528x2x128 .f32) (tok : Memref sig .scVector .vmem S208 .i32)
variable (lst : Memref sig .scVector .vmem S624 .i32) (g : Memref sig .scVector .vmem S4x48x2x128 .f32)
variable (z : Memref sig .scVector .vmem S48x2x128 .f32) (hz : z.IsWhole) (gs ss : DmaSems sig S4) (zs : DmaSems sig S_)

/-- Chunk `j`'s row numbers written to its window of the list. -/
def fill (base : IVec S16 32) (j : Fin 13) : Tile F i PUnit := do
  let v : Vec F S16 .i32 ← Prog.lift (.load tok (listRect j).toLoadRect (View.loadsAt_vmem h_S16))
  let _ : Vec F S16 .i32 ← Prog.lift (.load lst (entryRect j 0).toLoadRect (View.loadsAt_vmem h_S16))
  Prog.lift (.store lst (entryRect j 0) (rowNums base v 0) Finset.univ (View.stores_vmem_bits_univ h_S16 rfl) (.inl rfl))
  let _ : Vec F S16 .i32 ← Prog.lift (.load lst (entryRect j 1).toLoadRect (View.loadsAt_vmem h_S16))
  Prog.lift (.store lst (entryRect j 1) (rowNums base v 1) Finset.univ (View.stores_vmem_bits_univ h_S16 rfl) (.inl rfl))
  let _ : Vec F S16 .i32 ← Prog.lift (.load lst (entryRect j 2).toLoadRect (View.loadsAt_vmem h_S16))
  Prog.lift (.store lst (entryRect j 2) (rowNums base v 2) Finset.univ (View.stores_vmem_bits_univ h_S16 rfl) (.inl rfl))

/-- The wait for the rows chunk `j` sent out of its slot. -/
def sWait (j : Fin 13) : Tile F i PUnit :=
  SparseCore.waitIndirectScatter (slotSem ss (slotOf j)) (slot g (slotOf j)) (rowsOf out) ((View.wordExact_bits rfl).reshape _ _) (View.wordExact_bits rfl)

/-- Chunk `j`'s rows fetched into its slot. -/
def gIssue (j : Fin 13) : Tile F i PUnit :=
  SparseCore.enqueueIndirectGather rfl (rowsOf x) (slot g (slotOf j)) gathers_S150528x2x128_S48x2x128 (win lst j) rfl (slotSem gs (slotOf j))
    (View.wordExact_bits rfl) rfl (Or.inl rfl)

/-- Chunk `j`'s rows landed. -/
def gWait (j : Fin 13) : Tile F i PUnit :=
  SparseCore.waitIndirectGather (slotSem gs (slotOf j)) (rowsOf x) (slot g (slotOf j)) (View.wordExact_bits rfl) ((View.wordExact_bits rfl).reshape _ _)

/-- Chunk `j`'s rows sent out of its slot. -/
def sIssue (j : Fin 13) : Tile F i PUnit :=
  SparseCore.enqueueIndirectScatter rfl (slot g (slotOf j)) (rowsOf out) gathers_S150528x2x128_S48x2x128 (win lst j) rfl (slotSem ss (slotOf j)) rfl (Or.inl rfl)

/-- Rows of zeros sent to chunk `j`'s row numbers. -/
def zSend (j : Fin 13) : Tile F i PUnit :=
  SparseCore.enqueueIndirectScatter rfl z (rowsOf out) gathers_S150528x2x128_S48x2x128 (win lst j) rfl zs.sem rfl (Or.inl rfl)

/-- One wait for them. -/
def zRecv : Tile F i PUnit :=
  SparseCore.waitIndirectScatter zs.sem z (rowsOf out) hz.wordExact (View.wordExact_bits rfl)

variable {α : Type} (k : Tile F i α)

/-- Chunk `j` of the rows of zeros, then the rest `k`. -/
def zIssue (base : IVec S16 32) (n : BitVec 32) (j : Fin 13) : Tile F i α :=
  if used n j = 1#1 then do
    fill i tok lst base j
    zSend i out lst z zs j
    k
  else k

/-- One wait for chunk `j` of them, then the rest. -/
def zWait (n : BitVec 32) (j : Fin 13) : Tile F i α :=
  if used n j = 1#1 then do
    zRecv i out z hz zs
    k
  else k

/-- One of the first four chunks fetched: its slot is free. -/
def fetch0 (base : IVec S16 32) (n : BitVec 32) (j : Fin 13) : Tile F i α :=
  if used n j = 1#1 then do
    fill i tok lst base j
    gIssue i x lst g gs j
    k
  else k

/-- A later chunk `j` fetched, its slot still sending chunk `j'`'s rows. -/
def fetch (base : IVec S16 32) (n : BitVec 32) (j' j : Fin 13) : Tile F i α :=
  if used n j = 1#1 then do
    sWait i out g ss j'
    fill i tok lst base j
    gIssue i x lst g gs j
    k
  else k

/-- Chunk `j`'s rows landed and sent on. -/
def send (n : BitVec 32) (j : Fin 13) : Tile F i α :=
  if used n j = 1#1 then do
    gWait i x g gs j
    sIssue i out lst g ss j
    k
  else k

/-- The wait for the last rows a slot sent. -/
def drain (n : BitVec 32) (j : Fin 13) : Tile F i α :=
  if lastUsed n j = 1#1 then do
    sWait i out g ss j
    k
  else k

end Steps

section Parts

variable (i : grid0.Coords) (arg2 : Memref sig .scVector .hbm S150528x2x128 .f32) (harg2 : arg2.IsWhole) (arg3 : Memref sig .scVector .hbm S208 .i32) (harg3 : arg3.IsWhole) (arg4 : Memref sig .scVector .hbm S48x2x128 .f32) (harg4 : arg4.IsWhole) (arg5 : Memref sig .scVector .hbm S150528x2x128 .f32) (harg5 : arg5.IsWhole) (arg6 : Memref sig .scVector .vmem S208 .i32) (harg6 : arg6.IsWhole) (arg7 : Memref sig .scVector .vmem S208 .i32) (harg7 : arg7.IsWhole) (arg8 : Memref sig .scVector .vmem S208 .i32) (harg8 : arg8.IsWhole) (arg9 : Memref sig .scVector .vmem S624 .i32) (harg9 : arg9.IsWhole) (arg10 : Memref sig .scVector .vmem S624 .i32) (harg10 : arg10.IsWhole) (arg11 : Memref sig .scVector .vmem S4x48x2x128 .f32) (harg11 : arg11.IsWhole) (arg12 : Memref sig .scVector .vmem S48x2x128 .f32) (harg12 : arg12.IsWhole) (arg13 : DmaSems sig S4) (arg14 : DmaSems sig S4) (arg15 : DmaSems sig S_) (v735_r0 : DmaSems sig S_) (v735_r1 : DmaSems sig S_)

set_option maxRecDepth 65536 in
theorem part10_eq (v1 : BitVec 32) (nz : BitVec 32) (t : Fin k0_t1_loop.trips) :
    k0_part10 (F := F) i arg2 harg2 arg3 harg3 arg4 harg4 arg5 harg5 arg6 harg6 arg7 harg7 arg8 harg8 arg9 harg9 arg10 harg10 arg11 harg11 arg12 harg12 arg13 arg14 arg15 v735_r0 v735_r1 v1 nz 0#32 1#32 t
      = (
        zIssue i arg5 arg8 arg10 arg12 arg15 (base := k0_pay37 v1 0#32 1#32 t) (n := nz) (j := 0) <|
        zIssue i arg5 arg8 arg10 arg12 arg15 (base := k0_pay37 v1 0#32 1#32 t) (n := nz) (j := 1) <|
        zIssue i arg5 arg8 arg10 arg12 arg15 (base := k0_pay37 v1 0#32 1#32 t) (n := nz) (j := 2) <|
        zIssue i arg5 arg8 arg10 arg12 arg15 (base := k0_pay37 v1 0#32 1#32 t) (n := nz) (j := 3) <|
        zIssue i arg5 arg8 arg10 arg12 arg15 (base := k0_pay37 v1 0#32 1#32 t) (n := nz) (j := 4) <|
        zIssue i arg5 arg8 arg10 arg12 arg15 (base := k0_pay37 v1 0#32 1#32 t) (n := nz) (j := 5) <|
        zIssue i arg5 arg8 arg10 arg12 arg15 (base := k0_pay37 v1 0#32 1#32 t) (n := nz) (j := 6) <|
        zIssue i arg5 arg8 arg10 arg12 arg15 (base := k0_pay37 v1 0#32 1#32 t) (n := nz) (j := 7) <|
        zIssue i arg5 arg8 arg10 arg12 arg15 (base := k0_pay37 v1 0#32 1#32 t) (n := nz) (j := 8) <|
        pure ⟨k0_pay37 v1 0#32 1#32 t, 144#32⟩) := by
  rw [k0_part10_eq_skeleton]
  unfold k0_part10_skel
  rfl

set_option maxRecDepth 65536 in
theorem part11_eq (nk nz : BitVec 32) (base : IVec S16 32) :
    k0_part11 (F := F) i arg2 harg2 arg3 harg3 arg4 harg4 arg5 harg5 arg6 harg6 arg7 harg7 arg8 harg8 arg9 harg9 arg10 harg10 arg11 harg11 arg12 harg12 arg13 arg14 arg15 v735_r0 v735_r1 nk nz base 144#32
      = (
        zIssue i arg5 arg8 arg10 arg12 arg15 (base := base) (n := nz) (j := 9) <|
        zIssue i arg5 arg8 arg10 arg12 arg15 (base := base) (n := nz) (j := 10) <|
        zIssue i arg5 arg8 arg10 arg12 arg15 (base := base) (n := nz) (j := 11) <|
        zIssue i arg5 arg8 arg10 arg12 arg15 (base := base) (n := nz) (j := 12) <|
        fetch0 i arg2 arg7 arg9 arg11 arg13 (base := base) (n := nk) (j := 0) <|
        fetch0 i arg2 arg7 arg9 arg11 arg13 (base := base) (n := nk) (j := 1) <|
        send i arg2 arg5 arg9 arg11 arg13 arg14 (n := nk) (j := 0) <|
        fetch0 i arg2 arg7 arg9 arg11 arg13 (base := base) (n := nk) (j := 2) <|
        send i arg2 arg5 arg9 arg11 arg13 arg14 (n := nk) (j := 1) <|
        fetch0 i arg2 arg7 arg9 arg11 arg13 (base := base) (n := nk) (j := 3) <|
        pure 32#32) := by
  rw [k0_part11_eq_skeleton]
  unfold k0_part11_skel
  rfl

set_option maxRecDepth 65536 in
theorem part12_eq (nk : BitVec 32) (base : IVec S16 32) :
    k0_part12 (F := F) i arg2 harg2 arg3 harg3 arg4 harg4 arg5 harg5 arg6 harg6 arg7 harg7 arg8 harg8 arg9 harg9 arg10 harg10 arg11 harg11 arg12 harg12 arg13 arg14 arg15 v735_r0 v735_r1 nk base 32#32
      = (
        send i arg2 arg5 arg9 arg11 arg13 arg14 (n := nk) (j := 2) <|
        fetch i arg2 arg5 arg7 arg9 arg11 arg13 arg14 (base := base) (n := nk) (j' := 0) (j := 4) <|
        send i arg2 arg5 arg9 arg11 arg13 arg14 (n := nk) (j := 3) <|
        fetch i arg2 arg5 arg7 arg9 arg11 arg13 arg14 (base := base) (n := nk) (j' := 1) (j := 5) <|
        send i arg2 arg5 arg9 arg11 arg13 arg14 (n := nk) (j := 4) <|
        fetch i arg2 arg5 arg7 arg9 arg11 arg13 arg14 (base := base) (n := nk) (j' := 2) (j := 6) <|
        send i arg2 arg5 arg9 arg11 arg13 arg14 (n := nk) (j := 5) <|
        fetch i arg2 arg5 arg7 arg9 arg11 arg13 arg14 (base := base) (n := nk) (j' := 3) (j := 7) <|
        send i arg2 arg5 arg9 arg11 arg13 arg14 (n := nk) (j := 6) <|
        fetch i arg2 arg5 arg7 arg9 arg11 arg13 arg14 (base := base) (n := nk) (j' := 4) (j := 8) <|
        pure 112#32) := by
  rw [k0_part12_eq_skeleton]
  unfold k0_part12_skel
  rw [k0_part1_eq_skeleton, k0_part2_eq_skeleton, k0_part3_eq_skeleton, k0_part4_eq_skeleton, k0_part5_eq_skeleton]
  rfl

set_option maxRecDepth 65536 in
theorem part13_eq (nk : BitVec 32) (base : IVec S16 32) :
    k0_part13 (F := F) i arg2 harg2 arg3 harg3 arg4 harg4 arg5 harg5 arg6 harg6 arg7 harg7 arg8 harg8 arg9 harg9 arg10 harg10 arg11 harg11 arg12 harg12 arg13 arg14 arg15 v735_r0 v735_r1 nk base 112#32
      = (
        send i arg2 arg5 arg9 arg11 arg13 arg14 (n := nk) (j := 7) <|
        fetch i arg2 arg5 arg7 arg9 arg11 arg13 arg14 (base := base) (n := nk) (j' := 5) (j := 9) <|
        send i arg2 arg5 arg9 arg11 arg13 arg14 (n := nk) (j := 8) <|
        fetch i arg2 arg5 arg7 arg9 arg11 arg13 arg14 (base := base) (n := nk) (j' := 6) (j := 10) <|
        send i arg2 arg5 arg9 arg11 arg13 arg14 (n := nk) (j := 9) <|
        fetch i arg2 arg5 arg7 arg9 arg11 arg13 arg14 (base := base) (n := nk) (j' := 7) (j := 11) <|
        send i arg2 arg5 arg9 arg11 arg13 arg14 (n := nk) (j := 10) <|
        fetch i arg2 arg5 arg7 arg9 arg11 arg13 arg14 (base := base) (n := nk) (j' := 8) (j := 12) <|
        send i arg2 arg5 arg9 arg11 arg13 arg14 (n := nk) (j := 11) <|
        send i arg2 arg5 arg9 arg11 arg13 arg14 (n := nk) (j := 12) <|
        pure 0#32) := by
  rw [k0_part13_eq_skeleton]
  unfold k0_part13_skel
  rw [k0_part6_eq_skeleton, k0_part7_eq_skeleton, k0_part8_eq_skeleton, k0_part9_eq_skeleton]
  rfl

set_option maxRecDepth 65536 in
theorem part14_eq (nk : BitVec 32) :
    k0_part14 (F := F) i arg2 harg2 arg3 harg3 arg4 harg4 arg5 harg5 arg6 harg6 arg7 harg7 arg8 harg8 arg9 harg9 arg10 harg10 arg11 harg11 arg12 harg12 arg13 arg14 arg15 v735_r0 v735_r1 nk 0#32
      = (
        drain i arg5 arg11 arg14 (n := nk) (j := 0) <|
        drain i arg5 arg11 arg14 (n := nk) (j := 1) <|
        drain i arg5 arg11 arg14 (n := nk) (j := 2) <|
        drain i arg5 arg11 arg14 (n := nk) (j := 3) <|
        drain i arg5 arg11 arg14 (n := nk) (j := 4) <|
        drain i arg5 arg11 arg14 (n := nk) (j := 5) <|
        pure ⟨Scalar.extui (Scalar.andi (Scalar.cmpi .sgt nk 96#32) (Scalar.cmpi .sle nk 160#32)), 0#32⟩) := by
  rw [k0_part14_eq_skeleton]
  unfold k0_part14_skel
  rfl

set_option maxRecDepth 65536 in
theorem part15_eq (nk nz : BitVec 32) :
    k0_part15 (F := F) i arg2 harg2 arg3 harg3 arg4 harg4 arg5 harg5 arg6 harg6 arg7 harg7 arg8 harg8 arg9 harg9 arg10 harg10 arg11 harg11 arg12 harg12 arg13 arg14 arg15 v735_r0 v735_r1 nk nz (Scalar.extui (Scalar.andi (Scalar.cmpi .sgt nk 96#32) (Scalar.cmpi .sle nk 160#32))) 0#32
      = (
        drain i arg5 arg11 arg14 (n := nk) (j := 6) <|
        drain i arg5 arg11 arg14 (n := nk) (j := 7) <|
        drain i arg5 arg11 arg14 (n := nk) (j := 8) <|
        drain i arg5 arg11 arg14 (n := nk) (j := 9) <|
        drain i arg5 arg11 arg14 (n := nk) (j := 10) <|
        drain i arg5 arg11 arg14 (n := nk) (j := 11) <|
        drain i arg5 arg11 arg14 (n := nk) (j := 12) <|
        pure ⟨Scalar.extui (Scalar.cmpi .sgt nz 0#32), 0#32⟩) := by
  rw [k0_part15_eq_skeleton]
  unfold k0_part15_skel
  rfl

set_option maxRecDepth 65536 in
theorem part16_eq (nz : BitVec 32) :
    k0_part16 (F := F) i arg2 harg2 arg3 harg3 arg4 harg4 arg5 harg5 arg6 harg6 arg7 harg7 arg8 harg8 arg9 harg9 arg10 harg10 arg11 harg11 arg12 harg12 arg13 arg14 arg15 v735_r0 v735_r1 nz (Scalar.extui (Scalar.cmpi .sgt nz 0#32)) 0#32
      = (
        zWait i arg5 arg12 harg12 arg15 (n := nz) (j := 0) <|
        zWait i arg5 arg12 harg12 arg15 (n := nz) (j := 1) <|
        zWait i arg5 arg12 harg12 arg15 (n := nz) (j := 2) <|
        zWait i arg5 arg12 harg12 arg15 (n := nz) (j := 3) <|
        zWait i arg5 arg12 harg12 arg15 (n := nz) (j := 4) <|
        zWait i arg5 arg12 harg12 arg15 (n := nz) (j := 5) <|
        zWait i arg5 arg12 harg12 arg15 (n := nz) (j := 6) <|
        zWait i arg5 arg12 harg12 arg15 (n := nz) (j := 7) <|
        zWait i arg5 arg12 harg12 arg15 (n := nz) (j := 8) <|
        zWait i arg5 arg12 harg12 arg15 (n := nz) (j := 9) <|
        pure ⟨Scalar.extui (Scalar.cmpi .sgt nz 160#32), 0#32⟩) := by
  rw [k0_part16_eq_skeleton]
  unfold k0_part16_skel
  rfl

end Parts

end Cert.Proof.Frag
-- ==== Proof.PreFrag.lean ====
/-
  The tile's first part, before its batches, as a sequence of steps.

  The body is unrolled: thirteen chunks of sixteen tokens are compacted, then thirteen chunks of the
  two lists are filled up. Here a step is one function of the chunk's number.
-/
module

public import proofs.«01_k».proof.Proof.Frag

@[expose] public section

noncomputable section

namespace Cert.Proof.PreFrag

open Cert.KernelIdeal Cert.KernelIdeal.Gen Cert.Proof.Frag
open Idealize.ShloMosaic Idealize.SL.Sem

variable {F : FTy → Type} [FloatOps F]

/-! ## The vectors a chunk computes -/

abbrev zeros : IVec S16 32 := broadcast S16 0#32
abbrev ones : IVec S16 32 := broadcast S16 1#32
/-- The chunk's tokens. -/
def toks (j : Fin 13) : IVec S16 32 := addi (broadcast S16 (BitVec.ofNat 32 (16 * j.val))) (iota .scVector S16 32 [0] iota_S16_d0_w32_scVector)
/-- The lanes that are tokens. -/
def valid (j : Fin 13) : IVec S16 1 := cmpi .slt (toks j) (broadcast S16 196#32)
/-- The lanes kept, -/
def keepM (j : Fin 13) (v : IVec S16 32) : IVec S16 1 := andi (andi (cmpi .eq v zeros) (cmpi .sgt (toks j) zeros)) (valid j)
/-- zeroed. -/
def zeroM (j : Fin 13) (v : IVec S16 32) : IVec S16 1 := andi (xori (keepM j v) (constantI S16 1 1#1)) (valid j)
/-- The running count of a mask's lanes. -/
def counts (m : IVec S16 1) : IVec S16 32 := scan .sum (select m ones zeros)
/-- Where a chunk's lanes go, `n` being listed already. -/
def places (n : IVec S16 32) (m : IVec S16 1) : IVec S16 32 := maxsi (subi (addi n (counts m)) ones) zeros
/-- The number listed after the chunk. -/
def total (n : IVec S16 32) (m : IVec S16 1) : IVec S16 32 := addi n (broadcast S16 (extractAt ![15] (counts m) inpos_S16_p15))
/-- The greatest of sixteen signed words. -/
def greatest (v : IVec S16 32) : BitVec 32 :=
  extractAt ![15] (xori (scan .max (xori v (broadcast S16 2147483648#32))) (broadcast S16 2147483648#32)) inpos_S16_p15
/-- The last token kept so far. -/
def latest (l : BitVec 32) (j : Fin 13) (m : IVec S16 1) : BitVec 32 := Scalar.maxsi l (greatest (select m (toks j) zeros))

/-- Every word names an element of a list. -/
abbrev InList (v : IVec S16 32) : Prop := ∀ a x, ((![v] : Fin 1 → IVec S16 32) a x).toNat < S208.size a
abbrev InLists (v : IVec S16 32) : Prop := InList v ∧ InList v

section Steps

variable (i : grid0.Coords) (mk kt zt : Memref sig .scVector .vmem S208 .i32) {α : Type}

/-- A chunk of tokens put on its two lists, then the rest. -/
def chunk (dk dz : ∀ v, Decidable (InList v)) (j : Fin 13) (n z : IVec S16 32) (l : BitVec 32)
    (k : IVec S16 32 → IVec S16 32 → BitVec 32 → Tile F i α) : Tile F i α := do
  let v : Vec F S16 .i32 ← Prog.lift (.load mk (listRect j).toLoadRect (View.loadsAt_vmem h_S16))
  have hk : InList (places n (keepM j v)) := (← Prog.lift (TpuEff.assume (InList (places n (keepM j v))) (dk _))).down
  have hz : InList (places z (zeroM j v)) := (← Prog.lift (TpuEff.assume (InList (places z (zeroM j v))) (dz _))).down
  SparseCore.vectorStoreIdx kt ![places n (keepM j v)] (toks j) (keepM j v) false hk (View.stores_vmem_bits_univ h_S208 rfl)
  SparseCore.vectorStoreIdx zt ![places z (zeroM j v)] (toks j) (zeroM j v) false hz (View.stores_vmem_bits_univ h_S208 rfl)
  k (total n (keepM j v)) (total z (zeroM j v)) (latest l j (keepM j v))

/-- A chunk of the two lists filled up past their ends, then the rest. -/
def pad (d : ∀ v, Decidable (InLists v)) (j : Fin 13) (n z : IVec S16 32) (l : BitVec 32) (k : Tile F i α) : Tile F i α := do
  have h : InLists (toks j) := (← Prog.lift (TpuEff.assume (InLists (toks j)) (d _))).down
  SparseCore.vectorStoreIdx kt ![toks j] (muli ones (broadcast S16 l)) (cmpi .sge (toks j) n) false h.1 (View.stores_vmem_bits_univ h_S208 rfl)
  SparseCore.vectorStoreIdx zt ![toks j] zeros (cmpi .sge (toks j) z) false h.2 (View.stores_vmem_bits_univ h_S208 rfl)
  k

end Steps

section Whole

variable (i : grid0.Coords) (arg2 : Memref sig .scVector .hbm S150528x2x128 .f32) (harg2 : arg2.IsWhole) (arg3 : Memref sig .scVector .hbm S208 .i32) (harg3 : arg3.IsWhole) (arg4 : Memref sig .scVector .hbm S48x2x128 .f32) (harg4 : arg4.IsWhole) (arg5 : Memref sig .scVector .hbm S150528x2x128 .f32) (harg5 : arg5.IsWhole) (arg6 : Memref sig .scVector .vmem S208 .i32) (harg6 : arg6.IsWhole) (arg7 : Memref sig .scVector .vmem S208 .i32) (harg7 : arg7.IsWhole) (arg8 : Memref sig .scVector .vmem S208 .i32) (harg8 : arg8.IsWhole) (arg9 : Memref sig .scVector .vmem S624 .i32) (harg9 : arg9.IsWhole) (arg10 : Memref sig .scVector .vmem S624 .i32) (harg10 : arg10.IsWhole) (arg11 : Memref sig .scVector .vmem S4x48x2x128 .f32) (harg11 : arg11.IsWhole) (arg12 : Memref sig .scVector .vmem S48x2x128 .f32) (harg12 : arg12.IsWhole) (arg13 : DmaSems sig S4) (arg14 : DmaSems sig S4) (arg15 : DmaSems sig S_) (v735_r0 : DmaSems sig S_) (v735_r1 : DmaSems sig S_)

/-- The tile's number. -/
def wid : BitVec 32 := Scalar.addi (Scalar.muli (BitVec.ofNat 32 (i 1).val) 2#32) (BitVec.ofNat 32 (i 0).val)

set_option maxRecDepth 65536 in
set_option maxHeartbeats 4000000 in
/-- The tile's body. -/
theorem tile_eq : cc0__sc_body (F := F) i arg2 harg2 arg3 harg3 arg4 harg4 arg5 harg5 arg6 harg6 arg7 harg7 arg8 harg8 arg9 harg9 arg10 harg10 arg11 harg11 arg12 harg12 arg13 arg14 arg15 v735_r0 v735_r1
      = (do
        Prog.lift (.enqueueDma arg3 (.here arg6) (.dma v735_r0.sem) harg3.wordExact harg6.wordExact ⟨Or.inl rfl, trivial⟩)
        Prog.lift (.waitDma2 v735_r0.sem arg3 arg6 harg3.wordExact harg6.wordExact)
        Prog.lift (.enqueueDma arg4 (.here arg12) (.dma v735_r1.sem) harg4.wordExact harg12.wordExact ⟨Or.inl rfl, trivial⟩)
        Prog.lift (.waitDma2 v735_r1.sem arg4 arg12 harg4.wordExact harg12.wordExact)
        chunk i arg6 arg7 arg8 k0_chk1.dec k0_chk2.dec 0 zeros zeros 0#32 fun n0 z0 l0 =>
        chunk i arg6 arg7 arg8 k0_chk3.dec k0_chk4.dec 1 n0 z0 l0 fun n1 z1 l1 =>
        chunk i arg6 arg7 arg8 k0_chk5.dec k0_chk6.dec 2 n1 z1 l1 fun n2 z2 l2 =>
        chunk i arg6 arg7 arg8 k0_chk7.dec k0_chk8.dec 3 n2 z2 l2 fun n3 z3 l3 =>
        chunk i arg6 arg7 arg8 k0_chk9.dec k0_chk10.dec 4 n3 z3 l3 fun n4 z4 l4 =>
        chunk i arg6 arg7 arg8 k0_chk11.dec k0_chk12.dec 5 n4 z4 l4 fun n5 z5 l5 =>
        chunk i arg6 arg7 arg8 k0_chk13.dec k0_chk14.dec 6 n5 z5 l5 fun n6 z6 l6 =>
        chunk i arg6 arg7 arg8 k0_chk15.dec k0_chk16.dec 7 n6 z6 l6 fun n7 z7 l7 =>
        chunk i arg6 arg7 arg8 k0_chk17.dec k0_chk18.dec 8 n7 z7 l7 fun n8 z8 l8 =>
        chunk i arg6 arg7 arg8 k0_chk19.dec k0_chk20.dec 9 n8 z8 l8 fun n9 z9 l9 =>
        chunk i arg6 arg7 arg8 k0_chk21.dec k0_chk22.dec 10 n9 z9 l9 fun n10 z10 l10 =>
        chunk i arg6 arg7 arg8 k0_chk23.dec k0_chk24.dec 11 n10 z10 l10 fun n11 z11 l11 =>
        chunk i arg6 arg7 arg8 k0_chk25.dec k0_chk26.dec 12 n11 z11 l11 fun n12 z12 l12 =>
        pad i arg7 arg8 k0_chk27.dec 0 n12 z12 l12 <|
        pad i arg7 arg8 k0_chk28.dec 1 n12 z12 l12 <|
        pad i arg7 arg8 k0_chk29.dec 2 n12 z12 l12 <|
        pad i arg7 arg8 k0_chk30.dec 3 n12 z12 l12 <|
        pad i arg7 arg8 k0_chk31.dec 4 n12 z12 l12 <|
        pad i arg7 arg8 k0_chk32.dec 5 n12 z12 l12 <|
        pad i arg7 arg8 k0_chk33.dec 6 n12 z12 l12 <|
        pad i arg7 arg8 k0_chk34.dec 7 n12 z12 l12 <|
        pad i arg7 arg8 k0_chk35.dec 8 n12 z12 l12 <|
        pad i arg7 arg8 k0_chk36.dec 9 n12 z12 l12 <|
        pad i arg7 arg8 k0_chk37.dec 10 n12 z12 l12 <|
        pad i arg7 arg8 k0_chk38.dec 11 n12 z12 l12 <|
        pad i arg7 arg8 k0_chk39.dec 12 n12 z12 l12 <|
        do
          Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 arg14 arg15 v735_r0 v735_r1 (wid i) (greatest n12) (greatest z12) 0#32)
          pure ⟨⟩) := by
  rfl

end Whole

end Cert.Proof.PreFrag
-- ==== Proof.Marks.lean ====
/-
  Marked row scatters.

  A row scatter whose list may name one row of the target more than once: the target is held in write mode, with one
  fixed value per element that every write agrees on, so the rows need not be distinct and a share of the target is
  enough to issue the scatter. What comes back at the end is the same share, the named rows marked as written.

  The scatters of one semaphore share a batch: each list entry is one transfer of the batch, all of one amount.
-/
module

public import Idealize.ShloMosaic.Lib.SparseCore.Scatter
public import Idealize.ShloMosaic.Lib.SparseCore.Ops
public import Idealize.ShloMosaic.Lib.WriteMode
public import Idealize.ShloMosaic.Lib.Batch

@[expose] public section

noncomputable section

namespace Cert.Proof.Marks

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open PCS

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## Cutting a share -/

/-- A sum over a set with one member more. -/
theorem bigSep_ins {M : Type} [URA M] {J : Type} [DecidableEq J] {s : Finset J} {i : J} (hi : i ∉ s) {Φ : J → sProp M} :
    bigSep (insert i s) Φ = iprop(Φ i ∗ bigSep s Φ) := BI.bigSep_insert hi

/-- Piece `i` of a share cut into `n + 1` pieces. -/
def cut (n : ℕ) (q : PosShare TreeShare) (i : ℕ) : PosShare TreeShare :=
  if i < n then Transfers.shareTokN q i else Transfers.shareDrop q n

/-- Elements in write mode: share `q` of `I`, old values `f`, every element's target given by `g`, marks `W`. -/
abbrev tok (emb : UEmb (WmRA nD τ sig (Elt F)) U) (ℓ : Loc nD τ sig) (I : Finset (Idx ℓ)) (q : PosShare TreeShare)
    (f : Buf (Elt F) ℓ) (g : Buf (Elt F) ℓ) (W : Finset (Idx ℓ)) : sProp 𝕄 :=
  willBeTo emb ℓ I q f (fun i => some (g i)) W

variable {emb : UEmb (WmRA nD τ sig (Elt F)) U} {ℓ : Loc nD τ sig} {I : Finset (Idx ℓ)}
variable {f g : Buf (Elt F) ℓ}

omit [Preorder Lvl] in
/-- Two shares of write mode compose to one, the marks joined. -/
theorem tok_share {q q₁ q₂ : PosShare TreeShare} (h : q ∈ q₁ ·? q₂) (W₁ W₂ : Finset (Idx ℓ)) :
    (tok emb ℓ I q f g (W₁ ∪ W₂) : sProp 𝕄) ⊣⊢ iprop(tok emb ℓ I q₁ f g W₁ ∗ tok emb ℓ I q₂ f g W₂) :=
  BI.Region.held_share h fun i _ => by
    simp only [Finset.mem_union, Bool.decide_or]
    exact Region.WB.mem_mk_op_mk _ _ _ _

omit [Preorder Lvl] in
/-- Tokens cut off a share one after another. -/
theorem tok_range (q : PosShare TreeShare) (W₀ : Finset (Idx ℓ)) (W : ℕ → Finset (Idx ℓ)) (k : ℕ) :
    (tok emb ℓ I q f g (W₀ ∪ (Finset.range k).biUnion W) : sProp 𝕄)
      ⊣⊢ iprop(tok emb ℓ I (Transfers.shareDrop q k) f g W₀
          ∗ bigSep (Finset.range k) (fun i => tok emb ℓ I (Transfers.shareTokN q i) f g (W i))) := by
  classical
  induction k generalizing W₀ with
  | zero =>
    rw [Finset.range_zero, BI.bigSep_empty, Finset.biUnion_empty, Finset.union_empty]
    exact ⟨sep_emp.2, sep_emp.1⟩
  | succ k ih =>
    have hs := tok_share (Name := Name) (Ix := Ix) (Lvl := Lvl) (emb := emb) (I := I) (f := f) (g := g)
      (PosShare.mem_left_op_right (Transfers.shareDrop q k)) W₀ (W k)
    have hih := ih (W₀ ∪ W k)
    have e : W₀ ∪ (Finset.range (k + 1)).biUnion W = (W₀ ∪ W k) ∪ (Finset.range k).biUnion W := by
      rw [Finset.range_add_one, Finset.biUnion_insert, Finset.union_assoc]
    rw [e, Finset.range_add_one, bigSep_ins Finset.notMem_range_self]
    constructor
    · refine hih.1.trans ?_
      iintro ⟨H, Hr⟩
      ihave H' := hs.1 $$ H
      icases H' with ⟨Ha, Hb⟩
      isplitl [Ha]; · iexact Ha
      isplitl [Hb]; · iexact Hb
      iexact Hr
    · refine Entails.trans ?_ hih.2
      iintro ⟨Ha, Hb, Hr⟩
      isplitr [Hr]
      · iapply hs.2
        isplitl [Ha]; · iexact Ha
        iexact Hb
      · iexact Hr

omit [Preorder Lvl] in
/-- A share of write mode as its `n + 1` pieces, the marks joined. -/
theorem tok_cut (n : ℕ) (q : PosShare TreeShare) (W : ℕ → Finset (Idx ℓ)) :
    (tok emb ℓ I q f g ((Finset.range (n + 1)).biUnion W) : sProp 𝕄)
      ⊣⊢ bigSep (Finset.range (n + 1)) (fun i => tok emb ℓ I (cut n q i) f g (W i)) := by
  classical
  have h := tok_range (Name := Name) (Ix := Ix) (Lvl := Lvl) (emb := emb) (I := I) (f := f) (g := g) q (W n) W n
  rw [Finset.range_add_one, Finset.biUnion_insert, bigSep_ins Finset.notMem_range_self]
  have hlast : cut n q n = Transfers.shareDrop q n := if_neg (lt_irrefl n)
  have hr : bigSep (Finset.range n) (fun i => (tok emb ℓ I (cut n q i) f g (W i) : sProp 𝕄))
      = bigSep (Finset.range n) (fun i => tok emb ℓ I (Transfers.shareTokN q i) f g (W i)) :=
    BI.bigSep_congr fun i hi => by
      rw [show cut n q i = Transfers.shareTokN q i from if_pos (Finset.mem_range.mp hi)]
  rw [hlast, hr]
  exact h

/-- A sum over the numbers below `n` as the sum over `Fin n`. -/
theorem bigSep_range_fin {M : Type} [URA M] (n : ℕ) (Φ : ℕ → sProp M) :
    bigSep (Finset.range n) Φ = bigSep Finset.univ (fun i : Fin n => Φ i.val) := by
  rw [← Nat.Iio_eq_range, ← Fin.map_valEmbedding_univ, BI.bigSep_map]; rfl

omit [Preorder Lvl] in
/-- … over `Fin (n + 1)`. -/
theorem tok_cut_fin (n : ℕ) (q : PosShare TreeShare) (W : Fin (n + 1) → Finset (Idx ℓ)) :
    (tok emb ℓ I q f g (Finset.univ.biUnion W) : sProp 𝕄)
      ⊣⊢ bigSep Finset.univ (fun i : Fin (n + 1) => tok emb ℓ I (cut n q i.val) f g (W i)) := by
  classical
  have h := tok_cut (Name := Name) (Ix := Ix) (Lvl := Lvl) (emb := emb) (I := I) (f := f) (g := g) n q
    (fun i => if h : i < n + 1 then W ⟨i, h⟩ else ∅)
  rw [bigSep_range_fin] at h
  have e : (Finset.range (n + 1)).biUnion (fun i => if h : i < n + 1 then W ⟨i, h⟩ else ∅) = Finset.univ.biUnion W := by
    ext x
    simp only [Finset.mem_biUnion, Finset.mem_range, Finset.mem_univ, true_and]
    constructor
    · rintro ⟨i, hi, hx⟩; rw [dif_pos hi] at hx; exact ⟨_, hx⟩
    · rintro ⟨i, hx⟩; exact ⟨i.val, i.isLt, by rw [dif_pos i.isLt]; exact hx⟩
  rw [e] at h
  have e2 : bigSep Finset.univ (fun i : Fin (n + 1) => (tok emb ℓ I (cut n q i.val) f g (if h : i.val < n + 1 then W ⟨i.val, h⟩ else ∅) : sProp 𝕄))
      = bigSep Finset.univ (fun i : Fin (n + 1) => tok emb ℓ I (cut n q i.val) f g (W i)) :=
    BI.bigSep_congr fun i _ => by rw [dif_pos i.isLt]
  rw [e2] at h
  exact h

omit [Preorder Lvl] in
/-- … every piece at the marks of the whole. -/
theorem tok_cut_same (n : ℕ) (q : PosShare TreeShare) (W : Finset (Idx ℓ)) :
    (tok emb ℓ I q f g W : sProp 𝕄)
      ⊣⊢ bigSep Finset.univ (fun i : Fin (n + 1) => tok emb ℓ I (cut n q i.val) f g W) := by
  classical
  have h := tok_cut_fin (Name := Name) (Ix := Ix) (Lvl := Lvl) (emb := emb) (I := I) (f := f) (g := g) n q (fun _ => W)
  rwa [show (Finset.univ : Finset (Fin (n + 1))).biUnion (fun _ => W) = W by
    ext x; simp] at h

omit [Preorder Lvl] in
/-- The same for plain ownership. -/
theorem pointsTo_cut (n : ℕ) (q : PosShare TreeShare) :
    (ℓ ↦[I]{q} f : sProp 𝕄) ⊣⊢ bigSep Finset.univ (fun i : Fin (n + 1) => ℓ ↦[I]{cut n q i.val} f) := by
  classical
  have h := Transfers.pointsTo_toks_range (Ix := Ix) (Name := Name) (U := U) (Lvl := Lvl) (ℓ := ℓ) (S := I) (f := f) q n
  have e : bigSep Finset.univ (fun i : Fin (n + 1) => (ℓ ↦[I]{cut n q i.val} f : sProp 𝕄))
      = bigSep (Finset.range (n + 1)) (fun i => ℓ ↦[I]{cut n q i} f) :=
    (bigSep_range_fin (n + 1) (fun i => (ℓ ↦[I]{cut n q i} f : sProp 𝕄))).symm
  rw [e, Finset.range_add_one, bigSep_ins Finset.notMem_range_self]
  have hlast : cut n q n = Transfers.shareDrop q n := if_neg (lt_irrefl n)
  have hr : bigSep (Finset.range n) (fun i => (ℓ ↦[I]{cut n q i} f : sProp 𝕄))
      = bigSep (Finset.range n) (fun i => ℓ ↦[I]{Transfers.shareTokN q i} f) :=
    BI.bigSep_congr fun i hi => by
      rw [show cut n q i = Transfers.shareTokN q i from if_pos (Finset.mem_range.mp hi)]
  rw [hlast, hr]
  exact h

/-! ## The scatter -/

section Scatter

variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

/-- The elements of row `r` of a view. -/
abbrev rowSet (v : View sig c.2.kind sp s₀ e) (ax : Fin s₀.rank) (r : Fin (s₀.size ax)) : Finset (Idx (v.loc c)) :=
  (v.slice (s₀.rowRect ax r)).set

/-- What list entry `j` of a marked scatter gives back: its piece of the target's share, the row it names marked; the
    entry itself; the source's row. -/
def entryBack (emb : UEmb (WmRA nD τ sig (Elt F)) U)
    (src : Memref sig c.2.kind .vmem s e) (dst : Memref sig c.2.kind sp s₀ e) (hg : s₀.Gathers a s)
    (offs : Memref sig c.2.kind .vmem si .i32) (hn : si.numel = s.size hg.axis')
    (q qo : PosShare TreeShare) (fs : Buf (Elt F) (src.view.loc c)) (fo : Buf (Elt F) (offs.view.loc c))
    (T : Finset (Idx (dst.view.loc c))) (qt : PosShare TreeShare) (f g : Buf (Elt F) (dst.view.loc c)) (W : Finset (Idx (dst.view.loc c)))
    (n : ℕ) (r : Fin (s.size hg.axis') → Fin (s₀.size hg.axis)) (j : Fin (s.size hg.axis')) : sProp 𝕄 :=
  iprop((tok emb (dst.view.loc c) T (cut n qt j.val) f g (W ∪ rowSet c dst.view hg.axis (r j))
      ∗ (offs.view.loc c ↦[{offs.view.emb (si.rowMajor.symm (Fin.cast hn.symm j))}]{qo} fo))
    ∗ (src.view.loc c ↦[(src.view.slice (s.rowRect hg.axis' j)).set]{q} fs))

instance entryBack_storable (emb : UEmb (WmRA nD τ sig (Elt F)) U)
    (src : Memref sig c.2.kind .vmem s e) (dst : Memref sig c.2.kind sp s₀ e) (hg : s₀.Gathers a s)
    (offs : Memref sig c.2.kind .vmem si .i32) (hn : si.numel = s.size hg.axis')
    (q qo : PosShare TreeShare) (fs : Buf (Elt F) (src.view.loc c)) (fo : Buf (Elt F) (offs.view.loc c))
    (T : Finset (Idx (dst.view.loc c))) (qt : PosShare TreeShare) (f g : Buf (Elt F) (dst.view.loc c)) (W : Finset (Idx (dst.view.loc c)))
    (n : ℕ) (r : Fin (s.size hg.axis') → Fin (s₀.size hg.axis)) (j : Fin (s.size hg.axis')) :
    Storable (upEmb : UEmb _ 𝕄) (entryBack c emb src dst hg offs hn q qo fs fo T qt f g W n r j) := by
  unfold entryBack; infer_instance

omit [Preorder Lvl] in
/-- All entries back: the target's share with every named row marked, the list and the source. -/
theorem entryBack_join
    {src : Memref sig c.2.kind .vmem s e} {dst : Memref sig c.2.kind sp s₀ e} {hg : s₀.Gathers a s}
    {offs : Memref sig c.2.kind .vmem si .i32} {hn : si.numel = s.size hg.axis'}
    {q qo : PosShare TreeShare} {fs : Buf (Elt F) (src.view.loc c)} {fo : Buf (Elt F) (offs.view.loc c)}
    {T : Finset (Idx (dst.view.loc c))} {qt : PosShare TreeShare} {f g : Buf (Elt F) (dst.view.loc c)} {W : Finset (Idx (dst.view.loc c))}
    {n : ℕ} (ho : s.size hg.axis' = n + 1) {r : Fin (s.size hg.axis') → Fin (s₀.size hg.axis)} :
    (bigSep Finset.univ (entryBack c emb src dst hg offs hn q qo fs fo T qt f g W n r) : sProp 𝕄)
      ⊢ iprop(tok emb (dst.view.loc c) T qt f g (W ∪ namedRows c dst.view hg.axis r)
          ∗ (offs.view.loc c ↦[offs.view.set]{qo} fo) ∗ (src.view.loc c ↦[src.view.set]{q} fs)) := by
  classical
  have hen : Function.Bijective (fun j : Fin (s.size hg.axis') => si.rowMajor.symm (Fin.cast hn.symm j)) :=
    (si.rowMajor.symm.bijective.comp (finCongr hn.symm).bijective)
  have ht : bigSep Finset.univ (fun j : Fin (s.size hg.axis') =>
        (tok emb (dst.view.loc c) T (cut n qt j.val) f g (W ∪ rowSet c dst.view hg.axis (r j)) : sProp 𝕄))
      ⊢ tok emb (dst.view.loc c) T qt f g (W ∪ namedRows c dst.view hg.axis r) := by
    revert r
    generalize hax : s.size hg.axis' = o at *
    subst ho
    intro r
    refine (tok_cut_fin n qt _).2.trans (Entails.of_eq ?_)
    refine BI.Region.willBe_congr (fun _ _ => rfl) (fun _ _ => rfl) fun i _ => ?_
    simp only [Finset.mem_biUnion, Finset.mem_union, Finset.mem_univ, true_and, namedRows_eq]
    constructor
    · rintro ⟨j, h | h⟩; exacts [.inl h, .inr ⟨j, h⟩]
    · rintro (h | ⟨j, h⟩); exacts [⟨0, .inl h⟩, ⟨j, .inr h⟩]
  unfold entryBack
  iintro H
  ihave H1 := Transfers.bigSep_sep_out _ _ _ $$ H
  icases H1 with ⟨H2, Hs⟩
  ihave H3 := Transfers.bigSep_sep_out _ _ _ $$ H2
  icases H3 with ⟨Ht, Ho⟩
  isplitl [Ht]; · iapply ht; iexact Ht
  isplitl [Ho]
  · iapply (Entails.of_eq (pointsTo_entries c offs.view _ hen qo fo).symm) $$ Ho
  · iapply (Entails.of_eq (pointsTo_rows c src.view hg.axis' q fs).symm) $$ Hs

omit [Preorder Lvl] in
/-- The issue rights from `k` on are those of the next `o` and those after them. -/
theorem pending_block {n : ℕ} (k o : ℕ) (hk : k + o ≤ n) (Φ : Fin n → sProp 𝕄) :
    bigSep (Transfers.pending k) Φ
      = iprop(bigSep Finset.univ (fun j : Fin o => Φ ⟨k + j.val, by omega⟩) ∗ bigSep (Transfers.pending (k + o)) Φ) := by
  classical
  let em : Fin o ↪ Fin n := ⟨fun j => ⟨k + j.val, by omega⟩, fun j j' h => Fin.ext (by have := congrArg Fin.val h; simp at this; omega)⟩
  have hem : ∀ j, (em j).val = k + j.val := fun _ => rfl
  have mem_p : ∀ (k' : ℕ) (t : Fin n), t ∈ Transfers.pending (n := n) k' ↔ k' ≤ t.val := fun k' t => by
    simp [Transfers.pending]
  have hsub : Finset.univ.map em ⊆ Transfers.pending (n := n) k := fun t ht => by
    obtain ⟨j, -, rfl⟩ := Finset.mem_map.mp ht
    exact (mem_p _ _).mpr (by rw [hem]; omega)
  have hrest : Transfers.pending (n := n) k \ Finset.univ.map em = Transfers.pending (k + o) := by
    ext t
    rw [Finset.mem_sdiff, mem_p, mem_p]
    constructor
    · rintro ⟨h1, h2⟩
      by_contra h3
      exact h2 (Finset.mem_map.mpr ⟨⟨t.val - k, by omega⟩, Finset.mem_univ _, Fin.ext (by rw [hem]; simp only; omega)⟩)
    · intro h
      refine ⟨by omega, fun hm => ?_⟩
      obtain ⟨j, -, hj⟩ := Finset.mem_map.mp hm
      have := congrArg Fin.val hj
      rw [hem] at this
      have := j.isLt
      omega
  rw [BI.bigSep_sdiff_split hsub, hrest, BI.bigSep_map]
  rfl

/-- `enqueueIndirectScatter` at the head of a program, one more stretch of a batch on its semaphore: holding the source at
    any share, the target in write mode at any share, the list whole — its words in range (`hin`), every row's payload the
    value its elements are to hold (`hadm`) —, and the batch with `k₀` transfers issued, of whose deliveries the next ones
    are the entries' (`hD`), the tile continues holding the batch with the entries issued. -/
theorem wp_scatterMarks [Infinite Name] [EC.LandsIn (upEmb : UEmb _ 𝕄)] {ιwm : Name}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    {T : Finset (Idx (dst.view.loc c))} {qt : PosShare TreeShare} {f g : Buf (Elt F) (dst.view.loc c)} {W : Finset (Idx (dst.view.loc c))}
    {n m k₀ u : ℕ} {D : Fin n → sProp 𝕄} (ι : Ix) (N : ℕ)
    (ho : s.size hg.axis' = m + 1) (hk : k₀ + s.size hg.axis' ≤ n) (hu : u ≤ k₀ * N)
    (hin : ∀ x, (offs.view.read (Elt F) fo x).toNat < s₀.size hg.axis)
    (hN : ∀ r, (dst.slice (s₀.rowRect hg.axis r) (s₀.stride_rowRect hg.axis _)).view.dmaCredit = N)
    (hT : ∀ j, rowSet c dst.view hg.axis (rows (offs.view.read (Elt F) fo) hn hin j) ⊆ T)
    (hadm : ∀ j, (dst.view.slice (s₀.rowRect hg.axis (rows (offs.view.read (Elt F) fo) hn hin j))).Admitted (Elt F)
      (fun i => some (g i)) (scatterRowPayload c src hg fs j) Finset.univ)
    (hD : ∀ j : Fin (s.size hg.axis'), entryBack c emb src dst hg offs hn q qo fs fo T qt f g W m
        (rows (offs.view.read (Elt F) fo) hn hin) j ⊢ D ⟨k₀ + j.val, by omega⟩) :
    iprop(wmInv emb ιwm ∗ (src.view.loc c ↦[src.view.set]{q} fs) ∗ tok emb (dst.view.loc c) T qt f g W
        ∗ (offs.view.loc c ↦[offs.view.set]{qo} fo) ∗ Transfers.Batch EC c (.dma sem) ι N D k₀ u)
      ⊢ iprop((Transfers.Batch EC c (.dma sem) ι N D (k₀ + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsrcset : ∀ j, (src.view.slice (s.rowRect hg.axis' j)).set = (rd j).src.view.set := fun j =>
    (View.set_cast (v := src.view.slice (s.rowRect hg.axis' j)) _ _).symm
  have htot : ∑ j, (rd j).dst.view.dmaCredit = s.size hg.axis' * N := by
    rw [Finset.sum_congr rfl fun j _ => show (rd j).dst.view.dmaCredit = N from hN (r j), Finset.sum_const, Finset.card_univ,
      Fintype.card_fin, smul_eq_mul]
  have htoks : (tok emb (dst.view.loc c) T qt f g W : sProp 𝕄)
      ⊢ bigSep Finset.univ (fun j : Fin (s.size hg.axis') => tok emb (dst.view.loc c) T (cut m qt j.val) f g W) := by
    have key : ∀ o, o = m + 1 → ((tok emb (dst.view.loc c) T qt f g W : sProp 𝕄)
        ⊢ bigSep Finset.univ (fun j : Fin o => tok emb (dst.view.loc c) T (cut m qt j.val) f g W)) := by
      rintro _ rfl; exact (tok_cut_same m qt W).1
    exact key _ ho
  unfold Transfers.Batch
  iintro ⟨#Hwm, Hs, Ht, Ho, ⟨%γ, %γ₀, %κ, #Hinv, HI, H0, Hcred⟩⟩ Hk
  ihave Ht' := htoks $$ Ht
  ihave Ho' := (Entails.of_eq (pointsTo_entries c offs.view S.entry hen qo fo)) $$ Ho
  ihave Hs' := (Entails.of_eq (pointsTo_rows c src.view hg.axis' q fs)) $$ Hs
  ihave HI' := (Entails.of_eq (pending_block k₀ (s.size hg.axis') hk (fun t => count EC (γ t) 0))) $$ HI
  icases HI' with ⟨HI, Hlater⟩
  iapply (wp_enqueueIndirectDma 𝒱 c bd Set.univ (qo := qo) (fo := fo) (rd := rd) ι (s.size hg.axis' * N) hA hrd htot) $$ [Ht' Ho' Hs' HI]
  · have hrow : ∀ j : Fin (s.size hg.axis'),
        iprop((wmInv emb ιwm ∗ inv κ (Transfers.batchBody EC (c, SemLoc.dma sem) N D γ γ₀))
          ∗ (((tok emb (dst.view.loc c) T (cut m qt j.val) f g W ∗ S.heldEntry qo fo j)
            ∗ (src.view.loc c ↦[(src.view.slice (s.rowRect hg.axis' j)).set]{q} fs))
            ∗ count EC (γ ⟨k₀ + j.val, by omega⟩) 0))
        ⊢ iprop(S.heldEntry qo fo j ∗ (S.heldEntry qo fo j -∗ rowRes c (rd j))) := fun j => by
      iintro ⟨⟨#Hwm, #Hinv⟩, ⟨⟨Hr, He⟩, Hsq⟩, Hγj⟩
      isplitl [He]; · iexact He
      iintro He
      unfold rowRes
      iexists q, fs, iprop(tok emb (dst.view.loc c) T (cut m qt j.val) f g (W ∪ rowSet c dst.view hg.axis (r j)) ∗ S.heldEntry qo fo j)
      isplitl [Hsq]; · iapply (Entails.of_eq (congrArg (fun J => (src.view.loc c ↦[J]{q} fs : sProp 𝕄)) (hsrcset j))) $$ Hsq
      isplitl [Hr He]
      · iapply writeUpdate_frame
        isplitl [Hr]
        · iapply (willBeTo_writeUpdate (emb := emb) (ιwm := ιwm) c (v := dst.view.slice (s₀.rowRect hg.axis (r j))) (hT j) (hadm j))
          isplitr; · iexact Hwm
          iexact Hr
        · iexact He
      · iapply (Entails.of_eq (show (creditUpdate (c, SemLoc.dma sem) N 0
            iprop((tok emb (dst.view.loc c) T (cut m qt j.val) f g (W ∪ rowSet c dst.view hg.axis (r j)) ∗ S.heldEntry qo fo j)
              ∗ (src.view.loc c ↦[(src.view.slice (s.rowRect hg.axis' j)).set]{q} fs)) : sProp 𝕄)
            = creditUpdate (c, SemLoc.dma sem) ((rd j).dst.view.amount (.dma sem)) 0
            iprop((tok emb (dst.view.loc c) T (cut m qt j.val) f g (W ∪ rowSet c dst.view hg.axis (r j)) ∗ S.heldEntry qo fo j)
              ∗ ((rd j).src.view.loc c ↦[(rd j).src.view.set]{q} fs)) from by
                rw [show (rd j).dst.view.amount (.dma sem) = N from hN (r j), hsrcset j]))
        iapply (Transfers.batch_creditUpdate EC (D := D) (γ₀ := γ₀) ⟨k₀ + j.val, by omega⟩ (hD j))
        isplitr; · iexact Hinv
        iexact Hγj
    unfold Stream.res
    ihave H1 := Transfers.bigSep_sep_in _ _ _ $$ [Ht' Ho']; · isplitl [Ht'] <;> iassumption
    ihave H2 := Transfers.bigSep_sep_in _ _ _ $$ [H1 Hs']; · isplitl [H1] <;> iassumption
    ihave H3 := Transfers.bigSep_sep_in _ _ _ $$ [H2 HI]; · isplitl [H2] <;> iassumption
    iapply (Transfers.bigSep_mono_pers Finset.univ _ _ _ fun j _ => hrow j)
    isplitr
    · isplitr; · iexact Hwm
      iexact Hinv
    iexact H3
  · iintro Hc
    iapply Hk
    iexists γ, γ₀, κ
    isplitr; · iexact Hinv
    isplitl [Hlater]; · iexact Hlater
    isplitl [H0]; · iexact H0
    rw [show (k₀ + s.size hg.axis') * N - u = (k₀ * N - u) + s.size hg.axis' * N by rw [Nat.add_mul]; omega, ← tallyAt_add]
    icombine Hcred Hc as H
    iexact H

end Scatter

end Cert.Proof.Marks
-- ==== Proof.Geom.lean ====
/-
  The geometry of the copies.

  Which elements a row of the arrays is, which row numbers a chunk's list holds, and that the rows a marked scatter
  writes agree with the target it is held to.
-/
module

public import proofs.«01_k».proof.Proof.Marks
public import proofs.«01_k».proof.Proof.Frag
public import Idealize.ShloMosaic.Lib.Memref

@[expose] public section

noncomputable section

namespace Cert.Proof.Geom

open Cert.KernelIdeal Cert.KernelIdeal.Gen Cert.Proof.Frag
open Idealize.ShloMosaic Idealize.ShloMosaic.SparseCore

/-! ## Row scatters agree with their target -/

section Admit

variable {nD : Nat} {τ : Topo} {sig : RefSig} {F : FTy → Type}
variable (c : Thread nD τ) {sp : Space} {s₀ s si : Shape} {e : EltTy} {a : Nat}

/-- A scatter whose source holds, row by row, what the target asks of the named rows. -/
theorem admitted_row (src : Memref sig c.2.kind .vmem s e) (dst : Memref sig c.2.kind sp s₀ e) (hg : s₀.Gathers a s)
    (fs : Buf (Elt F) (src.view.loc c)) (r : Fin (s.size hg.axis') → Fin (s₀.size hg.axis)) (tgt : s₀.Idx → Elt F e)
    (g : Buf (Elt F) (dst.view.loc c)) (hG : dst.view.read (Elt F) g = tgt)
    (hs : ∀ y, src.view.read (Elt F) fs y = tgt (hg.idx r y)) (j : Fin (s.size hg.axis')) :
    (dst.view.slice (s₀.rowRect hg.axis (r j))).Admitted (Elt F) (fun i => some (g i)) (scatterRowPayload c src hg fs j) Finset.univ := by
  intro x _ u hu
  have h1 : (dst.view.slice (s₀.rowRect hg.axis (r j))).read (fun e => Option (Elt F e)) (fun i => some (g i)) x
      = some ((dst.view.slice (s₀.rowRect hg.axis (r j))).read (Elt F) g x) := by
    rw [View.read_apply, View.read_apply]
    exact View.cast_some (Val := Elt F) (View.elt_eq _)
  rw [h1] at hu
  have h2 : (dst.view.slice (s₀.rowRect hg.axis (r j))).read (Elt F) g x = tgt ((s₀.rowRect hg.axis (r j)).emb x) := by
    rw [← hG]; rfl
  rw [h2] at hu
  refine Eq.trans ?_ (Option.some.inj hu)
  change (((src.view.slice (s.rowRect hg.axis' j)).cast hg.rowShape_eq rfl).read (Elt F) fs) x = _
  refine (congrFun (View.read_cast (Val := Elt F) (src.view.slice (s.rowRect hg.axis' j)) hg.rowShape_eq rfl fs) x).trans ?_
  change src.view.read (Elt F) fs ((s.rowRect hg.axis' j).emb ((Shape.idxEquiv hg.rowShape_eq).symm x)) = _
  rw [hs]
  congr 1
  erw [Shape.Gathers.idx_rowRect_emb hg r j]
  funext b
  apply Fin.ext
  by_cases hb : b.val = a
  · have hba : b = hg.axis := Fin.ext hb
    subst hba
    rw [Shape.Gathers.rowIdx_axis]
    exact (congrArg Fin.val (Shape.rowRect_emb_axis hg.axis (r j) x)).symm
  · have hb' : b ≠ hg.axis := fun e => hb (congrArg Fin.val e)
    rw [Shape.Gathers.rowIdx_of_ne hg _ _ b hb]
    refine Eq.trans ?_ (Shape.rowRect_emb_of_ne hg.axis (r j) x hb').symm
    exact Shape.idxEquiv_symm_apply_val hg.rowShape_eq x _

end Admit

/-! ## Rows by number -/

/-- The elements of `v` in the rows whose numbers are in `R`. -/
def markSet {κ : Kind} {sp : Space} (v : View sig κ sp S150528x2x128 .f32) (R : Finset ℕ) : Finset v.ty.Idx :=
  (Finset.univ.filter fun y : S150528x2x128.Idx => (y 0).val ∈ R).map v.emb

theorem markSet_union {κ : Kind} {sp : Space} (v : View sig κ sp S150528x2x128 .f32) (R R' : Finset ℕ) :
    markSet v (R ∪ R') = markSet v R ∪ markSet v R' := by
  refine Eq.trans ?_ (Finset.map_union _ _)
  refine congrArg (Finset.map v.emb) (Finset.ext fun y => ?_)
  simp only [Finset.mem_filter, Finset.mem_univ, _root_.true_and, Finset.mem_union]

theorem markSet_empty {κ : Kind} {sp : Space} (v : View sig κ sp S150528x2x128 .f32) : markSet v ∅ = ∅ := by
  refine (congrArg (Finset.map v.emb) (Finset.filter_eq_empty_iff.mpr fun _ _ h => ?_)).trans (Finset.map_empty _)
  exact absurd h (Finset.notMem_empty _)

theorem markSet_mono {κ : Kind} {sp : Space} (v : View sig κ sp S150528x2x128 .f32) {R R' : Finset ℕ} (h : R ⊆ R') :
    markSet v R ⊆ markSet v R' :=
  Finset.map_subset_map.mpr fun y hy => by
    simp only [Finset.mem_filter, Finset.mem_univ, _root_.true_and] at hy ⊢; exact h hy

/-- Row `r`'s elements. -/
theorem rowSet_eq {κ : Kind} {sp : Space} (v : View sig κ sp S150528x2x128 .f32) (r : Fin (S150528x2x128.size 0)) :
    (v.slice (S150528x2x128.rowRect 0 r)).set = markSet v {r.val} := by
  rw [View.set_slice]
  refine congrArg (Finset.map v.emb) (Finset.ext fun y => ?_)
  simp only [Finset.mem_filter, Finset.mem_univ, _root_.true_and, Finset.mem_singleton]
  have hm : y ∈ (S150528x2x128.rowRect 0 r).set ↔ ∃ x, (S150528x2x128.rowRect 0 r).emb x = y := by
    rw [← Rect.map_emb_univ]
    simp only [Finset.mem_map, Finset.mem_univ, _root_.true_and]
  rw [hm]
  constructor
  · rintro ⟨x, rfl⟩
    exact congrArg Fin.val (Shape.rowRect_emb_axis 0 r x)
  · intro h
    have e : r = y 0 := Fin.ext h.symm
    exact ⟨S150528x2x128.rowProj 0 y, by rw [e]; exact Shape.rowRect_emb_rowProj 0 y⟩

/-- The rows a list of row numbers names. -/
theorem namedRows_eq_markSet {nD : Nat} {τ : Topo} (c : Thread nD τ) {sp : Space} {o : ℕ} (v : View sig c.2.kind sp S150528x2x128 .f32)
    (r : Fin o → Fin (S150528x2x128.size 0)) :
    namedRows c v 0 r = markSet v (Finset.univ.image fun k => (r k).val) := by
  classical
  rw [namedRows_eq]
  ext x
  simp only [Finset.mem_biUnion, Finset.mem_univ, _root_.true_and]
  constructor
  · rintro ⟨k, hk⟩
    rw [rowSet_eq] at hk
    exact markSet_mono v (by simp) hk
  · intro h
    obtain ⟨y, hy, rfl⟩ := Finset.mem_map.mp h
    simp only [Finset.mem_filter, Finset.mem_univ, _root_.true_and, Finset.mem_image] at hy
    obtain ⟨k, hk⟩ := hy
    refine ⟨k, ?_⟩
    rw [rowSet_eq]
    exact Finset.mem_map_of_mem _ (by simp [hk])

/-! ## Row numbers -/

/-- The row holding third `t` of token `p` in batch `b`. -/
def rowNo (p b t : ℕ) : ℕ := (p * 256 + b) * 3 + t

/-- The row number as the kernel computes it. -/
def rowWord (v b : BitVec 32) (t : ℕ) : BitVec 32 := (v * 256#32 + b) * 3#32 + BitVec.ofNat 32 t

theorem rowWord_toNat (v b : BitVec 32) (t : ℕ) (hv : v.toNat < 196) (hb : b.toNat < 256) (ht : t < 3) :
    (rowWord v b t).toNat = rowNo v.toNat b.toNat t := by
  unfold rowWord rowNo
  simp only [BitVec.toNat_add, BitVec.toNat_mul, BitVec.toNat_ofNat]
  omega

theorem rowNums_apply (base l : IVec S16 32) (t : Fin 3) (y : S16.Idx) :
    rowNums base l t y = rowWord (l y) (base y) t.val := rfl

theorem ix_lt (j : Fin 13) (k : ℕ) : 16 * j.val + k % 16 < 208 := by omega

/-- Entry `q` of a list of 208. -/
def ix208 (q : ℕ) (h : q < 208) : S208.Idx := fun a => ⟨q, lt_of_lt_of_eq h (by fin_cases a; rfl)⟩
/-- Entry `q` of a list of 624. -/
def ix624 (q : ℕ) (h : q < 624) : S624.Idx := fun a => ⟨q, lt_of_lt_of_eq h (by fin_cases a; rfl)⟩

/-- The whole list of row numbers of a batch, of the listed tokens `tv`: the chunks one after another, each the first
    thirds of its sixteen tokens, then the second, then the last. -/
def listVal (tv : S208.Idx → BitVec 32) (b : BitVec 32) : S624.Idx → BitVec 32 :=
  fun x => rowWord (tv (ix208 (16 * ((x 0).val / 48) + (x 0).val % 48 % 16) (by have := (x 0).isLt; change (x 0).val < 624 at this; omega))) b
    ((x 0).val % 48 / 16)

end Cert.Proof.Geom
-- ==== Proof.Count.lean ====
/-
  What the compaction's vectors hold: running counts of the listed tokens, the places they give, the last token listed.
-/
module

public import proofs.«01_k».proof.Proof.PreFrag
public import proofs.«01_k».proof.Proof.Geom

@[expose] public section

noncomputable section

namespace Cert.Proof.Count

open Cert.KernelIdeal Cert.KernelIdeal.Gen Cert.Proof.Frag Cert.Proof.PreFrag Cert.Proof.Geom
open Idealize.ShloMosaic

/-- Lane `k` of a vector of sixteen. -/
abbrev lane (k : Fin 16) : S16.Idx := Shape.ofLane (d := ![16]) k

theorem eq_lane (y : S16.Idx) : y = lane (y 0) := by
  funext a
  have ha : a = 0 := Subsingleton.elim _ _
  subst ha; rfl

theorem last_lane : (fun a => ⟨(![15] : Fin 1 → ℕ) a, inpos_S16_p15 a⟩ : S16.Idx) = lane ⟨15, by decide⟩ := by
  funext a
  have ha : a = 0 := Subsingleton.elim _ _
  subst ha; rfl

/-! ## Scans -/

theorem scan_zero (kind : ScanKind) (v : IVec S16 32) : scan kind v (lane 0) = v (lane 0) := rfl

theorem scan_succ (kind : ScanKind) (v : IVec S16 32) (k : ℕ) (h : k + 1 < 16) :
    scan kind v (lane ⟨k + 1, h⟩) = kind.step (scan kind v (lane ⟨k, by omega⟩)) (v (lane ⟨k + 1, h⟩)) := by
  have hk : k < 15 := by omega
  interval_cases k <;> rfl

/-! ## Words of small numbers -/

theorem toks_lane (j : Fin 13) (k : Fin 16) : toks j (lane k) = BitVec.ofNat 32 (16 * j.val + k.val) := by
  show BitVec.ofNat 32 (16 * j.val) + BitVec.ofNat 32 (0 * 16 + k.val) = _
  rw [← BitVec.ofNat_add, Nat.zero_mul, Nat.zero_add]

theorem slt_196 (p : Fin 208) : IntOp.cmpi .slt (BitVec.ofNat 32 p.val) 196#32 = 1#1 ↔ p.val < 196 := by
  revert p; decide

theorem sgt_0 (p : Fin 208) : IntOp.cmpi .sgt (BitVec.ofNat 32 p.val) 0#32 = 1#1 ↔ 0 < p.val := by
  revert p; decide

theorem pred_word (c : Fin 224) : IntOp.maxsi (BitVec.ofNat 32 c.val - 1#32) 0#32 = BitVec.ofNat 32 (c.val - 1) := by
  revert c; decide

theorem and_one (a b : BitVec 1) : a &&& b = 1#1 ↔ a = 1#1 ∧ b = 1#1 := by
  revert a b; decide

theorem xor_one (a : BitVec 1) : a ^^^ 1#1 = 1#1 ↔ ¬ a = 1#1 := by
  revert a; decide

theorem maxsi_word (a b : ℕ) (ha : a < 2 ^ 31) (hb : b < 2 ^ 31) : IntOp.maxsi (BitVec.ofNat 32 a) (BitVec.ofNat 32 b) = BitVec.ofNat 32 (max a b) := by
  have e : ∀ c : ℕ, c < 2 ^ 31 → (BitVec.ofNat 32 c).toInt = c := fun c hc => by
    rw [BitVec.toInt_eq_toNat_of_lt (by rw [BitVec.toNat_ofNat, Nat.mod_eq_of_lt (by omega)]; omega), BitVec.toNat_ofNat, Nat.mod_eq_of_lt (by omega)]
  unfold IntOp.maxsi
  by_cases h : (BitVec.ofNat 32 b).slt (BitVec.ofNat 32 a) = true
  · rw [if_pos h]
    rw [BitVec.slt_iff_toInt_lt, e a ha, e b hb] at h
    congr 1; omega
  · rw [if_neg h]
    rw [BitVec.slt_iff_toInt_lt, e a ha, e b hb] at h
    congr 1; omega

theorem sge_word (a b : ℕ) (ha : a < 2 ^ 31) (hb : b < 2 ^ 31) : IntOp.cmpi .sge (BitVec.ofNat 32 a) (BitVec.ofNat 32 b) = 1#1 ↔ b ≤ a := by
  have e : ∀ c : ℕ, c < 2 ^ 31 → (BitVec.ofNat 32 c).toInt = c := fun c hc => by
    rw [BitVec.toInt_eq_toNat_of_lt (by rw [BitVec.toNat_ofNat, Nat.mod_eq_of_lt (by omega)]; omega), BitVec.toNat_ofNat, Nat.mod_eq_of_lt (by omega)]
  unfold IntOp.cmpi
  show BitVec.ofBool ((BitVec.ofNat 32 b).sle (BitVec.ofNat 32 a)) = 1#1 ↔ _
  rw [show ∀ c : Bool, BitVec.ofBool c = 1#1 ↔ c = true from by decide, BitVec.sle_iff_toInt_le, e a ha, e b hb]
  omega

/-! ## The masks -/

theorem tok_lt (j : Fin 13) (k : Fin 16) : 16 * j.val + k.val < 208 := by omega

/-- The tokens kept, by the mask's words. -/
def keepP (mv : S208.Idx → BitVec 32) (p : ℕ) : Prop := 0 < p ∧ p < 196 ∧ ∃ h : p < 208, mv (ix208 p h) = 0#32

instance (mv : S208.Idx → BitVec 32) : DecidablePred (keepP mv) := fun _ => by unfold keepP; infer_instance

/-- The tokens zeroed. -/
def zeroP (mv : S208.Idx → BitVec 32) (p : ℕ) : Prop := p < 196 ∧ ¬ keepP mv p

instance (mv : S208.Idx → BitVec 32) : DecidablePred (zeroP mv) := fun _ => by unfold zeroP; infer_instance

/-- A mask says where `P` holds in chunk `j`. -/
def Says (P : ℕ → Prop) (j : Fin 13) (m : IVec S16 1) : Prop := ∀ k : Fin 16, m (lane k) = 1#1 ↔ P (16 * j.val + k.val)

theorem valid_lane (j : Fin 13) (k : Fin 16) : valid j (lane k) = 1#1 ↔ 16 * j.val + k.val < 196 := by
  show IntOp.cmpi .slt (toks j (lane k)) 196#32 = 1#1 ↔ _
  rw [toks_lane]
  exact slt_196 ⟨16 * j.val + k.val, by omega⟩

section Mask

variable (mv : S208.Idx → BitVec 32) (j : Fin 13) (v : IVec S16 32) (hv : ∀ k : Fin 16, v (lane k) = mv (ix208 (16 * j.val + k.val) (tok_lt j k)))

include hv in
theorem keepM_says : Says (keepP mv) j (keepM j v) := fun k => by
  show (IntOp.cmpi .eq (v (lane k)) 0#32 &&& IntOp.cmpi .sgt (toks j (lane k)) 0#32) &&& valid j (lane k) = 1#1 ↔ _
  rw [and_one, and_one, valid_lane, toks_lane, sgt_0 ⟨16 * j.val + k.val, by omega⟩, hv]
  unfold keepP IntOp.cmpi
  show (BitVec.ofBool (_ == _) = 1#1 ∧ 0 < 16 * j.val + k.val) ∧ _ ↔ _
  rw [show ∀ c : Bool, BitVec.ofBool c = 1#1 ↔ c = true from by decide, beq_iff_eq]
  constructor
  · rintro ⟨⟨h1, h2⟩, h3⟩; exact ⟨h2, h3, _, h1⟩
  · rintro ⟨h2, h3, h4, h1⟩; exact ⟨⟨h1, h2⟩, h3⟩

include hv in
theorem zeroM_says : Says (zeroP mv) j (zeroM j v) := fun k => by
  show (keepM j v (lane k) ^^^ 1#1) &&& valid j (lane k) = 1#1 ↔ _
  rw [and_one, xor_one, valid_lane, keepM_says mv j v hv k]
  unfold zeroP
  exact and_comm

end Mask

/-! ## Counts -/

section Counts

variable (P : ℕ → Prop) [DecidablePred P] (j : Fin 13) (m : IVec S16 1) (hm : Says P j m)

include hm in
theorem select_lane (k : Fin 16) : (select m ones zeros : IVec S16 32) (lane k) = BitVec.ofNat 32 (if P (16 * j.val + k.val) then 1 else 0) := by
  show (if m (lane k) = 1#1 then (1#32 : BitVec 32) else 0#32) = _
  by_cases h : P (16 * j.val + k.val)
  · rw [if_pos h, if_pos ((hm k).mpr h)]
  · rw [if_neg h, if_neg (fun h' => h ((hm k).mp h'))]

include hm in
theorem counts_lane (k : ℕ) (hk : k < 16) :
    BitVec.ofNat 32 (Nat.count P (16 * j.val)) + counts m (lane ⟨k, hk⟩) = BitVec.ofNat 32 (Nat.count P (16 * j.val + k + 1)) := by
  unfold counts
  induction k with
  | zero =>
    rw [show (⟨0, hk⟩ : Fin 16) = 0 from rfl, scan_zero, select_lane P j m hm 0, ← BitVec.ofNat_add, Nat.count_succ]
    rfl
  | succ k ih =>
    rw [scan_succ, select_lane P j m hm ⟨k + 1, hk⟩]
    show _ + (_ + _) = _
    rw [← BitVec.add_assoc, ih (by omega), ← BitVec.ofNat_add]
    show BitVec.ofNat 32 (_ + if P (16 * j.val + (k + 1)) then 1 else 0) = _
    rw [show 16 * j.val + (k + 1) + 1 = (16 * j.val + k + 1) + 1 from by omega, Nat.count_succ P (16 * j.val + k + 1)]
    rfl

variable (n : IVec S16 32) (hn : ∀ y, n y = BitVec.ofNat 32 (Nat.count P (16 * j.val)))

include hm hn in
theorem places_lane (k : Fin 16) : places n m (lane k) = BitVec.ofNat 32 (Nat.count P (16 * j.val + k.val + 1) - 1) := by
  show IntOp.maxsi (n (lane k) + counts m (lane k) - 1#32) 0#32 = _
  rw [hn, counts_lane P j m hm k.val k.isLt]
  exact pred_word ⟨Nat.count P (16 * j.val + k.val + 1), by have := Nat.count_le P (n := 16 * j.val + k.val + 1); omega⟩

include hm hn in
theorem places_in : InList (places n m) := fun a y => by
  have ha : a = 0 := Subsingleton.elim _ _
  subst ha
  rw [eq_lane y]
  show (places n m (lane (y 0))).toNat < 208
  have hc := Nat.count_le P (n := 16 * j.val + (y 0).val + 1)
  have hy : (y 0).val < 16 := (y 0).isLt
  rw [show places n m (lane (y 0)) = _ from places_lane P j m hm n hn (y 0), BitVec.toNat_ofNat, Nat.mod_eq_of_lt (by omega)]
  omega

include hm hn in
theorem total_eq (y : S16.Idx) : total n m y = BitVec.ofNat 32 (Nat.count P (16 * (j.val + 1))) := by
  have e := counts_lane P j m hm 15 (by decide)
  generalize hc : counts m = c at e
  have e' : total n m y = n y + c (lane ⟨15, by decide⟩) := by
    unfold total; rw [hc, ← last_lane]; rfl
  rw [e', hn]
  exact e

end Counts

/-! ## The greatest word -/

theorem flip_word (a : Fin 256) : BitVec.ofNat 32 a.val ^^^ 2147483648#32 = BitVec.ofNat 32 (2147483648 + a.val) := by
  revert a; decide

theorem flip_back (a : Fin 256) : BitVec.ofNat 32 (2147483648 + a.val) ^^^ 2147483648#32 = BitVec.ofNat 32 a.val := by
  revert a; decide

theorem maxui_word (a b : ℕ) (ha : a < 256) (hb : b < 256) :
    IntOp.maxui (BitVec.ofNat 32 (2147483648 + a)) (BitVec.ofNat 32 (2147483648 + b)) = BitVec.ofNat 32 (2147483648 + max a b) := by
  have e : ∀ c : ℕ, c < 256 → (BitVec.ofNat 32 (2147483648 + c)).toNat = 2147483648 + c := fun c hc => by
    rw [BitVec.toNat_ofNat, Nat.mod_eq_of_lt (by omega)]
  unfold IntOp.maxui
  by_cases h : (BitVec.ofNat 32 (2147483648 + b)).ult (BitVec.ofNat 32 (2147483648 + a)) = true
  · rw [if_pos h]
    rw [BitVec.ult_iff_lt, BitVec.lt_def, e a ha, e b hb] at h
    congr 1; omega
  · rw [if_neg h]
    rw [BitVec.ult_iff_lt, BitVec.lt_def, e a ha, e b hb] at h
    congr 1; omega

/-- The greatest of sixteen small words is one of them, and no other is greater. -/
theorem greatest_spec (v : IVec S16 32) (a : Fin 16 → ℕ) (ha : ∀ k, a k < 256) (hv : ∀ k, v (lane k) = BitVec.ofNat 32 (a k)) :
    ∃ i, greatest v = BitVec.ofNat 32 (a i) ∧ ∀ k, a k ≤ a i := by
  have hx : ∀ k : Fin 16, (xori v (broadcast S16 2147483648#32) : IVec S16 32) (lane k) = BitVec.ofNat 32 (2147483648 + a k) := fun k => by
    show v (lane k) ^^^ 2147483648#32 = _
    rw [hv]; exact flip_word ⟨a k, ha k⟩
  have hs : ∀ (k : ℕ) (hk : k < 16), ∃ i, scan .max (xori v (broadcast S16 2147483648#32)) (lane ⟨k, hk⟩) = BitVec.ofNat 32 (2147483648 + a i)
      ∧ ∀ r : Fin 16, r.val ≤ k → a r ≤ a i := by
    intro k
    induction k with
    | zero =>
      intro hk
      refine ⟨0, (scan_zero _ _).trans (hx 0), fun r hr => ?_⟩
      rw [show r = 0 from Fin.ext (by simpa using hr)]
    | succ k ih =>
      intro hk
      obtain ⟨i, hi, hle⟩ := ih (by omega)
      have e := scan_succ .max (xori v (broadcast S16 2147483648#32)) k hk
      rw [hi, hx] at e
      have e' := e.trans (maxui_word (a i) (a ⟨k + 1, hk⟩) (ha _) (ha _))
      rcases le_total (a ⟨k + 1, hk⟩) (a i) with h | h
      · refine ⟨i, by rw [e', max_eq_left h], fun r hr => ?_⟩
        rcases Nat.lt_or_ge k r.val with h' | h'
        · rw [show r = ⟨k + 1, hk⟩ from Fin.ext (by show r.val = k + 1; omega)]; exact h
        · exact hle r h'
      · refine ⟨⟨k + 1, hk⟩, by rw [e', max_eq_right h], fun r hr => ?_⟩
        rcases Nat.lt_or_ge k r.val with h' | h'
        · rw [show r = ⟨k + 1, hk⟩ from Fin.ext (by show r.val = k + 1; omega)]
        · exact (hle r h').trans h
  obtain ⟨i, hi, hle⟩ := hs 15 (by decide)
  refine ⟨i, ?_, fun k => hle k (by omega)⟩
  generalize hc : scan .max (xori v (broadcast S16 2147483648#32)) = c at hi
  have e' : greatest v = c (lane ⟨15, by decide⟩) ^^^ 2147483648#32 := by
    unfold greatest; rw [hc, ← last_lane]; rfl
  rw [e', hi]
  exact flip_back ⟨a i, ha i⟩

theorem greatest_const (v : IVec S16 32) (a : ℕ) (ha : a < 256) (hv : ∀ y, v y = BitVec.ofNat 32 a) : greatest v = BitVec.ofNat 32 a := by
  obtain ⟨i, hi, _⟩ := greatest_spec v (fun _ => a) (fun _ => ha) fun k => hv _
  exact hi

/-- A word that is the number of a token kept, or 0 while none is. -/
def Last (P : ℕ → Prop) (N : ℕ) (l : BitVec 32) : Prop := ∃ L, L < 208 ∧ l = BitVec.ofNat 32 L ∧ (P L ∨ (L = 0 ∧ ∀ p, p < N → ¬ P p))

theorem latest_last (P : ℕ → Prop) [DecidablePred P] (h0 : ¬ P 0) (j : Fin 13) (m : IVec S16 1) (hm : Says P j m) (l : BitVec 32)
    (hl : Last P (16 * j.val) l) : Last P (16 * (j.val + 1)) (latest l j m) := by
  obtain ⟨L, hL, rfl, hP⟩ := hl
  have hsel : ∀ k : Fin 16, (select m (toks j) zeros : IVec S16 32) (lane k) = BitVec.ofNat 32 (if P (16 * j.val + k.val) then 16 * j.val + k.val else 0) := fun k => by
    show (if m (lane k) = 1#1 then toks j (lane k) else 0#32) = _
    by_cases h : P (16 * j.val + k.val)
    · rw [if_pos h, if_pos ((hm k).mpr h), toks_lane]
    · rw [if_neg h, if_neg (fun h' => h ((hm k).mp h'))]
  obtain ⟨i, hi, hle⟩ := greatest_spec (select m (toks j) zeros) (fun k => if P (16 * j.val + k.val) then 16 * j.val + k.val else 0)
    (fun k => by
      have h1 : 16 * j.val + k.val < 256 := by omega
      have h2 : 0 < 256 := by omega
      show (if _ then _ else _) < 256
      split
      · exact h1
      · exact h2) hsel
  have hG : ∃ G, G < 208 ∧ greatest (select m (toks j) zeros) = BitVec.ofNat 32 G ∧ (P G ∨ (G = 0 ∧ ∀ k : Fin 16, ¬ P (16 * j.val + k.val))) := by
    by_cases h : P (16 * j.val + i.val)
    · exact ⟨16 * j.val + i.val, by omega, by rw [hi, if_pos h], .inl h⟩
    · refine ⟨0, by omega, by rw [hi, if_neg h], .inr ⟨rfl, fun k hk => ?_⟩⟩
      have := hle k
      simp only [if_neg h, if_pos hk] at this
      exact h0 (by rw [show 0 = 16 * j.val + k.val from by omega]; exact hk)
  obtain ⟨G, hG, e, hPG⟩ := hG
  refine ⟨max L G, by omega, ?_, ?_⟩
  · show IntOp.maxsi _ (greatest _) = _
    rw [e, maxsi_word L G (by omega) (by omega)]
  · rcases le_total L G with h | h
    · rw [max_eq_right h]
      rcases hPG with hPG | ⟨rfl, hn⟩
      · exact .inl hPG
      · have hL0 : L = 0 := by omega
        subst hL0
        refine .inr ⟨rfl, fun p hp hPp => ?_⟩
        rcases hP with hP | ⟨_, hP⟩
        · exact h0 hP
        · by_cases hlt : p < 16 * j.val
          · exact hP p hlt hPp
          · exact hn ⟨p - 16 * j.val, by omega⟩ (by rw [show 16 * j.val + (p - 16 * j.val) = p from by omega]; exact hPp)
    · rw [max_eq_left h]
      rcases hP with hP | ⟨rfl, hn⟩
      · exact .inl hP
      · have hG0 : G = 0 := by omega
        subst hG0
        refine .inr ⟨rfl, fun p hp hPp => ?_⟩
        rcases hPG with hPG | ⟨_, hPG⟩
        · exact h0 hPG
        · by_cases hlt : p < 16 * j.val
          · exact hn p hlt hPp
          · exact hPG ⟨p - 16 * j.val, by omega⟩ (by rw [show 16 * j.val + (p - 16 * j.val) = p from by omega]; exact hPp)

/-! ## Stores to named places -/

section Store

variable {F : FTy → Type} [FloatOps F]

theorem fold_hit {κ : Type} (mask : κ → Prop) [dm : ∀ k, Decidable (mask k)] (at' : κ → S208.Idx)
    [dy : ∀ (y : S208.Idx) k, Decidable (∀ a, (y a).val = (at' k a).val)] (val : κ → BitVec 32) (y : S208.Idx) (w : BitVec 32) (ks : List κ)
    (hw : ∀ k ∈ ks, mask k → (∀ a, (y a).val = (at' k a).val) → val k = w) (g : S208.Idx → BitVec 32)
    (h : (∃ k ∈ ks, mask k ∧ ∀ a, (y a).val = (at' k a).val) ∨ g y = w) :
    ks.foldl (fun g k => if mask k then (fun i => if ∀ a, (i a).val = (at' k a).val then val k else g i) else g) g y = w := by
  induction ks generalizing g with
  | nil =>
    rcases h with ⟨k, hk, _⟩ | h
    · exact absurd hk List.not_mem_nil
    · exact h
  | cons k ks ih =>
    rw [List.foldl_cons]
    refine ih (fun k' hk' => hw k' (List.mem_cons_of_mem _ hk')) _ ?_
    by_cases hm : mask k
    · by_cases hy : ∀ a, (y a).val = (at' k a).val
      · right; rw [if_pos hm]; show (if _ then _ else _) = _; rw [if_pos hy]; exact hw k List.mem_cons_self hm hy
      · rcases h with ⟨k', hk', hm', hy'⟩ | h
        · rcases List.mem_cons.mp hk' with rfl | hk'
          · exact absurd hy' hy
          · exact .inl ⟨k', hk', hm', hy'⟩
        · right; rw [if_pos hm]; show (if _ then _ else _) = _; rw [if_neg hy]; exact h
    · rcases h with ⟨k', hk', hm', hy'⟩ | h
      · rcases List.mem_cons.mp hk' with rfl | hk'
        · exact absurd hm' hm
        · exact .inl ⟨k', hk', hm', hy'⟩
      · right; rw [if_neg hm]; exact h

variable (f : Vec F S208 .i32) (at' v : IVec S16 32) (m : IVec S16 1) (h : InList at')

/-- A list after a store of sixteen words, the masked ones, each at the place named for it. -/
abbrev stored : Vec F S208 .i32 := storeIdx (F := F) f ![at'] v m false h

theorem stored_hit (q : ℕ) (hq : q < 208) (w : BitVec 32) (k : Fin 16) (hm : m (lane k) = 1#1) (hk : (at' (lane k)).toNat = q)
    (hw : ∀ k : Fin 16, m (lane k) = 1#1 → (at' (lane k)).toNat = q → v (lane k) = w) : stored f at' v m h (ix208 q hq) = w := by
  unfold stored storeIdx
  simp only [Bool.false_eq_true, if_false]
  refine fold_hit (κ := Fin 16) (fun k => m (lane k) = 1#1) (fun k => idxAt ![at'] h (lane k)) (fun k => v (lane k)) (ix208 q hq) w (List.finRange 16) ?_ f
    (.inl ⟨k, List.mem_finRange _, hm, ?_⟩)
  · intro k _ hm hy
    exact hw k hm (hy 0).symm
  · intro a
    have ha : a = 0 := Subsingleton.elim _ _
    subst ha
    exact hk.symm

theorem stored_miss (q : ℕ) (hq : q < 208) (hw : ∀ k : Fin 16, m (lane k) = 1#1 → (at' (lane k)).toNat ≠ q) :
    stored f at' v m h (ix208 q hq) = f (ix208 q hq) := by
  unfold stored storeIdx
  simp only [Bool.false_eq_true, if_false]
  refine fold_hit (κ := Fin 16) (fun k => m (lane k) = 1#1) (fun k => idxAt ![at'] h (lane k)) (fun k => v (lane k)) (ix208 q hq) _ (List.finRange 16) ?_ f (.inr rfl)
  intro k _ hm hy
  exact absurd (hy 0).symm (hw k hm)

end Store

end Cert.Proof.Count
-- ==== Proof.Steps.lean ====
/-
  What each step of the batch loop does with what it holds.
-/
module

public import proofs.«01_k».proof.Proof.Geom
public import Idealize.ShloMosaic.Lib.SparseCore.Quiescent
public import Idealize.ShloMosaic.Lib.Tactic

@[expose] public section

noncomputable section

namespace Cert.Proof.Steps

open Cert.KernelIdeal Cert.KernelIdeal.Gen Cert.Proof.Frag Cert.Proof.Geom Cert.Proof.Marks
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

local notation "𝕄" => MT nD τ sig (HIx 1) (Elt F) ℕ U ℕ

/-- The thread of a tile. -/
abbrev thr (d : Dev nD) (i : grid0.Coords) : Thread nD τ := SparseCore.V d ((i 0).castLE hcore0) ((i 1).castLE hsub0)

/-! ## A list's contents -/

section Lists

variable (lst : Memref sig .scVector .vmem S624 .i32)

/-- A buffer holding `w` under the view `lst`. -/
def listBuf (F : FTy → Type) (w : S624.Idx → BitVec 32) : lst.view.ty.Contents (Elt F) :=
  lst.view.write (Elt F) (fun _ => _root_.cast (congrArg (Elt F) lst.view.elt_eq.symm) (0#32 : BitVec 32)) w Finset.univ

omit [FloatOps F] in
theorem read_listBuf (w : S624.Idx → BitVec 32) : lst.view.read (Elt F) (listBuf lst F w) = w :=
  View.read_write_univ _ _

omit [FloatOps F] in
/-- The three stores of a chunk, read back. -/
theorem fill_read (l : lst.view.ty.Contents (Elt F)) (tv : S208.Idx → BitVec 32) (bw : BitVec 32) (j : Fin 13)
    (base v : IVec S16 32) (hb : ∀ y, base y = bw) (hv : ∀ y : S16.Idx, v y = tv (ix208 (16 * j.val + (y 0).val) (by have := (y 0).isLt; change (y 0).val < 16 at this; omega)))
    (y : S624.Idx) (hy : 48 * j.val ≤ (y 0).val) (hy' : (y 0).val < 48 * j.val + 48) :
    lst.view.read (Elt F) ((lst.view.slice (entryRect j 2)).write (Elt F) ((lst.view.slice (entryRect j 1)).write (Elt F)
      ((lst.view.slice (entryRect j 0)).write (Elt F) l (rowNums base v 0) Finset.univ) (rowNums base v 1) Finset.univ)
      (rowNums base v 2) Finset.univ) y = listVal tv bw y := by
  have hnot : ∀ t : Fin 3, ¬ (48 * j.val + 16 * t.val ≤ (y 0).val ∧ (y 0).val < 48 * j.val + 16 * t.val + 16) →
      y ∉ (Finset.univ : Finset (entryRect j t).shape.Idx).map (entryRect j t).emb := fun t h hm => by
    rw [Rect.map_emb_univ, Rect.mem_set_unit] at hm
    exact h (hm 0)
  have hval : ∀ t : Fin 3, (h : 48 * j.val + 16 * t.val ≤ (y 0).val) → (h' : (y 0).val < 48 * j.val + 16 * t.val + 16) →
      ∃ z : S16.Idx, (entryRect j t).emb z = y ∧ rowNums base v t z = listVal tv bw y := fun t h h' => by
    let z : S16.Idx := fun a => ⟨(y 0).val - (48 * j.val + 16 * t.val), lt_of_lt_of_eq (by omega : _ < 16) (by fin_cases a; rfl)⟩
    have hz : (z 0).val = (y 0).val - (48 * j.val + 16 * t.val) := rfl
    refine ⟨z, ?_, ?_⟩
    · funext a
      have ha : a = 0 := Subsingleton.elim _ _
      subst ha
      apply Fin.ext
      rw [Rect.emb_apply]
      change 48 * j.val + 16 * t.val + 1 * (z 0).val = _
      omega
    · rw [rowNums_apply, hb, hv]
      unfold listVal
      have e1 : (y 0).val % 48 / 16 = t.val := by omega
      have e2 : 16 * ((y 0).val / 48) + (y 0).val % 48 % 16 = 16 * j.val + (z 0).val := by omega
      have e3 : ∀ q q' (h : q < 208) (h' : q' < 208), q = q' → ix208 q h = ix208 q' h' := by rintro q _ h h' rfl; rfl
      rw [e1, e3 _ _ _ _ e2]
  by_cases h2 : 48 * j.val + 32 ≤ (y 0).val
  · obtain ⟨z, hz, hz'⟩ := hval 2 h2 (by change _ < 48 * j.val + 32 + 16; omega)
    rw [← hz', ← hz]; exact View.read_slice_write_emb _ _ _ (Finset.mem_univ _)
  · rw [View.read_slice_write_of_not_mem _ _ _ _ (hnot 2 (by change ¬ (48 * j.val + 32 ≤ _ ∧ _); omega))]
    by_cases h1 : 48 * j.val + 16 ≤ (y 0).val
    · obtain ⟨z, hz, hz'⟩ := hval 1 h1 (by change _ < 48 * j.val + 16 + 16; omega)
      rw [← hz', ← hz]; exact View.read_slice_write_emb _ _ _ (Finset.mem_univ _)
    · rw [View.read_slice_write_of_not_mem _ _ _ _ (hnot 1 (by change ¬ (48 * j.val + 16 ≤ _ ∧ _); omega))]
      obtain ⟨z, hz, hz'⟩ := hval 0 (by change 48 * j.val + 0 ≤ _; omega) (by change _ < 48 * j.val + 0 + 16; omega)
      rw [← hz', ← hz]; exact View.read_slice_write_emb _ _ _ (Finset.mem_univ _)

/-- A chunk's window: where it lies. -/
theorem win_mem (j : Fin 13) (x : lst.view.ty.Idx) :
    x ∈ (win lst j).view.set ↔ ∃ y : S624.Idx, lst.view.emb y = x ∧ 48 * j.val ≤ (y 0).val ∧ (y 0).val < 48 * j.val + 48 := by
  have h : (win lst j).view.set = (Rect.unit (s := S624) ![48 * j.val] S48.size (inb_win j)).set.map lst.view.emb := View.set_slice _ _
  rw [h, Finset.mem_map]
  constructor
  · rintro ⟨y, hy, rfl⟩
    rw [Rect.mem_set_unit] at hy
    exact ⟨y, rfl, hy 0⟩
  · rintro ⟨y, rfl, hy⟩
    refine ⟨y, ?_, rfl⟩
    rw [Rect.mem_set_unit]
    intro a
    have ha : a = 0 := Subsingleton.elim _ _
    subst ha; exact hy

theorem entry_subset (j : Fin 13) (t : Fin 3) : (lst.view.slice (entryRect j t)).set ⊆ (win lst j).view.set := by
  intro x hx
  rw [View.set_slice, Finset.mem_map] at hx
  obtain ⟨y, hy, rfl⟩ := hx
  rw [Rect.mem_set_unit] at hy
  have := hy 0
  rw [win_mem]
  change 48 * j.val + 16 * t.val ≤ (y 0).val ∧ (y 0).val < 48 * j.val + 16 * t.val + 16 at this
  exact ⟨y, rfl, by omega, by omega⟩

omit [FloatOps F] in
/-- Contents that read alike are alike. -/
theorem eq_of_read_eq {κ : Kind} {sp : Space} {s : Shape} {e : EltTy} (v : View sig κ sp s e) (f g : v.ty.Contents (Elt F)) (y : s.Idx)
    (h : v.read (Elt F) f y = v.read (Elt F) g y) : f (v.emb y) = g (v.emb y) := by
  rw [View.read_apply, View.read_apply] at h
  exact (cast_inj _).mp h

end Lists

/-! ## The rows a chunk names -/

section Chunk

abbrev hgR := gathers_S150528x2x128_S48x2x128

theorem rowMajor48 (x : S48.Idx) : (S48.rowMajor x).val = (x 0).val := by
  have h := Shape.rowMajorPi_succ_val (n := 0) ![48] x
  refine Eq.trans h ?_
  have h0 : ∏ a : Fin 0, (![48] : Fin 1 → ℕ) a.succ = 1 := Finset.prod_empty
  have h1 : ∀ z : Fin (∏ a : Fin 0, (![48] : Fin 1 → ℕ) a.succ), z.val = 0 := fun z => by have := z.isLt; omega
  rw [h1, h0]; omega

theorem rowMajor48_symm (k : Fin S48.numel) : (S48.rowMajor.symm k 0).val = k.val := by
  rw [← rowMajor48, Equiv.apply_symm_apply]

/-- Chunk `j`'s sixteen tokens are tokens. -/
def ChunkOK (tv : S208.Idx → BitVec 32) (bw : BitVec 32) (j : Fin 13) : Prop :=
  bw.toNat < 256 ∧ ∀ q (h : q < 208), 16 * j.val ≤ q → q < 16 * j.val + 16 → (tv (ix208 q h)).toNat < 196

/-- Row number `k` of chunk `j`. -/
def chunkRow (tv : S208.Idx → BitVec 32) (b : ℕ) (j : Fin 13) (k : ℕ) : ℕ :=
  rowNo (tv (ix208 (16 * j.val + k % 16) (ix_lt j k))).toNat b (k / 16)

variable (lst : Memref sig .scVector .vmem S624 .i32) (tv : S208.Idx → BitVec 32) (bw : BitVec 32) (j : Fin 13)

omit [FloatOps F] in
theorem listVal_apply (y : S624.Idx) (j : Fin 13) (k : ℕ) (hy : (y 0).val = 48 * j.val + k) (hk : k < 48) :
    listVal tv bw y = rowWord (tv (ix208 (16 * j.val + k % 16) (ix_lt j k))) bw (k / 16) := by
  unfold listVal
  have e1 : (y 0).val % 48 / 16 = k / 16 := by omega
  have e2 : 16 * ((y 0).val / 48) + (y 0).val % 48 % 16 = 16 * j.val + k % 16 := by omega
  have e3 : ∀ q q' (h : q < 208) (h' : q' < 208), q = q' → ix208 q h = ix208 q' h' := by rintro q _ h h' rfl; rfl
  rw [e1, e3 _ _ _ (ix_lt j k) e2]

omit [FloatOps F] in
theorem win_read (hc : ChunkOK tv bw j) (x : S48.Idx) :
    ((win lst j).view.read (Elt F) (listBuf lst F (listVal tv bw)) x).toNat = chunkRow tv bw.toNat j (x 0).val := by
  have h0 : (x 0).val < 48 := (x 0).isLt
  have e : (win lst j).view.read (Elt F) (listBuf lst F (listVal tv bw)) x
      = lst.view.read (Elt F) (listBuf lst F (listVal tv bw)) ((Rect.unit (s := S624) ![48 * j.val] S48.size (inb_win j)).emb x) := rfl
  rw [e, read_listBuf]
  have hx : (((Rect.unit (s := S624) ![48 * j.val] S48.size (inb_win j)).emb x) 0).val = 48 * j.val + (x 0).val := by
    rw [Rect.emb_apply]
    change 48 * j.val + 1 * (x 0).val = _
    omega
  rw [listVal_apply tv bw _ j _ hx h0]
  exact rowWord_toNat _ _ _ (hc.2 _ _ (by omega) (by omega)) hc.1 (by omega)

theorem chunkRow_lt (hc : ChunkOK tv bw j) (k : ℕ) (hk : k < 48) : chunkRow tv bw.toNat j k < 150528 := by
  have h1 := hc.2 _ (ix_lt j k) (by omega) (by omega)
  have h2 := hc.1
  unfold chunkRow rowNo
  omega

omit [FloatOps F] in
theorem win_in (hc : ChunkOK tv bw j) (x : S48.Idx) :
    ((win lst j).view.read (Elt F) (listBuf lst F (listVal tv bw)) x).toNat < S150528x2x128.size hgR.axis := by
  rw [win_read lst tv bw j hc]
  exact chunkRow_lt tv bw j hc _ (x 0).isLt

/-- The rows chunk `j`'s list names. -/
def chunkRows (F : FTy → Type) (hc : ChunkOK tv bw j) : Fin (S48x2x128.size hgR.axis') → Fin (S150528x2x128.size hgR.axis) :=
  rows (F := F) ((win lst j).view.read (Elt F) (listBuf lst F (listVal tv bw))) (rfl : S48.numel = _) (win_in lst tv bw j hc)

omit [FloatOps F] in
theorem chunkRows_val (hc : ChunkOK tv bw j) (k : Fin (S48x2x128.size hgR.axis')) :
    (chunkRows lst tv bw j F hc k).val = chunkRow tv bw.toNat j k.val := by
  unfold chunkRows rows
  refine (win_read (F := F) lst tv bw j hc _).trans ?_
  rw [rowMajor48_symm]
  rfl

/-- The chunk's row numbers, all. -/
def chunkSet (b : ℕ) : Finset ℕ := (Finset.range 48).image (chunkRow tv b j)

omit [FloatOps F] in
theorem namedRows_chunk (c : Thread nD τ) {sp : Space} (v : View sig c.2.kind sp S150528x2x128 .f32) (hc : ChunkOK tv bw j) :
    namedRows c v hgR.axis (chunkRows lst tv bw j F hc) = markSet v (chunkSet tv j bw.toNat) := by
  refine (namedRows_eq_markSet c v _).trans (congrArg (markSet v) ?_)
  unfold chunkSet
  ext r
  simp only [Finset.mem_image, Finset.mem_univ, _root_.true_and, Finset.mem_range]
  constructor
  · rintro ⟨k, rfl⟩; exact ⟨k.val, k.isLt, (chunkRows_val lst tv bw j hc k).symm⟩
  · rintro ⟨k, hk, rfl⟩; exact ⟨⟨k, hk⟩, chunkRows_val lst tv bw j hc _⟩

end Chunk

section Rules

variable {defs : Defs nD τ sig (Elt F) Λ₀} (EC : UEmb Counters (MT nD τ sig (HIx 1) (Elt F) ℕ U ℕ)) (𝒱 : Variants)
variable (d : Dev nD) (i : grid0.Coords) (bd : Option 𝒱.V)
variable {α : Type} {Q : α → sProp (MT nD τ sig (HIx 1) (Elt F) ℕ U ℕ)}

/-- The chunk's row numbers land in its window of the list. -/
theorem wp_fill (tok : Memref sig .scVector .vmem S208 .i32) (lst : Memref sig .scVector .vmem S624 .i32)
    (j : Fin 13) (base : IVec S16 32) (bw : BitVec 32) (hb : ∀ y, base y = bw) {k : PUnit → Tile F i α}
    {q : PosShare TreeShare} {S : Finset (Idx (tok.view.loc (thr d i)))} (hS : tok.view.set ⊆ S)
    (tb : Buf (Elt F) (tok.view.loc (thr d i))) :
    iprop((tok.view.loc (thr d i) ↦[S]{q} tb) ∗ ∃ l, (lst.view.loc (thr d i) ↦[(win lst j).view.set]{fullShare} l))
      ⊢ iprop((iprop((tok.view.loc (thr d i) ↦[S]{q} tb)
            ∗ (lst.view.loc (thr d i) ↦[(win lst j).view.set]{fullShare} (listBuf lst F (listVal (tok.view.read (Elt F) tb) bw))))
            -∗ wp frame (wpE defs 𝒱 (thr d i) bd) Set.univ (k ⟨⟩) Q)
          -∗ wp frame (wpE defs 𝒱 (thr d i) bd) Set.univ (fill i tok lst base j >>= k) (Q : α → sProp 𝕄)) := by
  iintro ⟨Ht, %l, Hl⟩ Hk
  have hprog : (fill i tok lst base j >>= k)
      = (.op (.load tok (listRect j).toLoadRect (View.loadsAt_vmem h_S16)) fun v : Vec F S16 .i32 =>
        .op (.load lst (entryRect j 0).toLoadRect (View.loadsAt_vmem h_S16)) fun _ : Vec F S16 .i32 =>
        .op (.store lst (entryRect j 0) (rowNums base v 0) Finset.univ (View.stores_vmem_bits_univ h_S16 rfl) (.inl rfl)) fun _ =>
        .op (.load lst (entryRect j 1).toLoadRect (View.loadsAt_vmem h_S16)) fun _ : Vec F S16 .i32 =>
        .op (.store lst (entryRect j 1) (rowNums base v 1) Finset.univ (View.stores_vmem_bits_univ h_S16 rfl) (.inl rfl)) fun _ =>
        .op (.load lst (entryRect j 2).toLoadRect (View.loadsAt_vmem h_S16)) fun _ : Vec F S16 .i32 =>
        .op (.store lst (entryRect j 2) (rowNums base v 2) Finset.univ (View.stores_vmem_bits_univ h_S16 rfl) (.inl rfl)) k) := rfl
  rw [hprog]
  have hs : ∀ t, (lst.access (entryRect j t)).set ⊆ (win lst j).view.set := entry_subset lst j
  iapply (wp_load_rect 𝒱 (thr d i) bd Set.univ (m := tok) (r := listRect j) (q := q) (f := tb)
    ((View.set_slice_subset _ _).trans hS)) $$ [Ht]
  · iexact Ht
  iintro Ht
  iapply (wp_load_rect 𝒱 (thr d i) bd Set.univ (m := lst) (r := entryRect j 0) (hs 0)) $$ [Hl]
  · iexact Hl
  iintro Hl
  iapply (wp_store 𝒱 (thr d i) bd Set.univ (m := lst) (r := entryRect j 0) (hs 0)) $$ [Hl]
  · iexact Hl
  iintro Hl
  iapply (wp_load_rect 𝒱 (thr d i) bd Set.univ (m := lst) (r := entryRect j 1) (hs 1)) $$ [Hl]
  · iexact Hl
  iintro Hl
  iapply (wp_store 𝒱 (thr d i) bd Set.univ (m := lst) (r := entryRect j 1) (hs 1)) $$ [Hl]
  · iexact Hl
  iintro Hl
  iapply (wp_load_rect 𝒱 (thr d i) bd Set.univ (m := lst) (r := entryRect j 2) (hs 2)) $$ [Hl]
  · iexact Hl
  iintro Hl
  iapply (wp_store 𝒱 (thr d i) bd Set.univ (m := lst) (r := entryRect j 2) (hs 2)) $$ [Hl]
  · iexact Hl
  iintro Hl
  iapply Hk
  isplitl [Ht]
  · iexact Ht
  iapply (Entails.of_eq (pointsTo_congr (ℓ := lst.view.loc (thr d i)) fun x hx => ?_)) $$ Hl
  obtain ⟨y, rfl, hy, hy'⟩ := (win_mem lst j x).mp hx
  refine eq_of_read_eq lst.view _ _ y ?_
  rw [read_listBuf]
  refine fill_read lst l (tok.view.read (Elt F) tb) bw j base _ hb (fun z => ?_) y hy hy'
  change tok.view.read (Elt F) tb ((listRect j).emb z) = _
  congr 1
  funext a
  have ha : a = 0 := Subsingleton.elim _ _
  subst ha
  apply Fin.ext
  rw [Rect.emb_apply]
  change 16 * j.val + 1 * (z 0).val = 16 * j.val + (z 0).val
  omega

end Rules

end Cert.Proof.Steps
-- ==== Proof.Copies.lean ====
/-
  What each copy of the batch loop does with what it holds: the row fetches, the marked row sends, and their waits.
-/
module

public import proofs.«01_k».proof.Proof.Steps

@[expose] public section

noncomputable section

namespace Cert.Proof.Copies

open Cert.KernelIdeal Cert.KernelIdeal.Gen Cert.Proof.Frag Cert.Proof.Geom Cert.Proof.Marks Cert.Proof.Steps
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

local notation "𝕄" => MT nD τ sig (HIx 1) (Elt F) ℕ U ℕ

/-- The amount of one row's copy. -/
abbrev rowAmt : ℕ := 8192

theorem slot_credit (g : Memref sig .scVector .vmem S4x48x2x128 .f32) (s : Fin 4) : (slot g s).view.dmaCredit = 48 * rowAmt := rfl
theorem z_credit (z : Memref sig .scVector .vmem S48x2x128 .f32) : z.view.dmaCredit = 48 * rowAmt := rfl
theorem row_credit (x : Memref sig .scVector .hbm S150528x2x128 .f32) (r : Fin (S150528x2x128.size hgR.axis)) :
    ((rowsOf x).slice (S150528x2x128.rowRect hgR.axis r) (S150528x2x128.stride_rowRect hgR.axis _)).view.dmaCredit = rowAmt := by
  have h : (S150528x2x128.rowShape 0).numel = 256 := by
    show ∏ b : Fin 3, (if b = 0 then 1 else S150528x2x128.size b) = 256
    rw [Fin.prod_univ_three]; rfl
  change (S150528x2x128.rowShape 0).numel * 32 = 8192
  rw [h]

set_option genInjectivity false in
set_option genSizeOf false in
/-- What is the same through the batch loop of one tile. -/
structure Ctx (F : FTy → Type) (U : Type) [URA U] where
  EC : UEmb Counters (MT nD τ sig (HIx 1) (Elt F) ℕ U ℕ)
  emb : UEmb (WmRA nD τ sig (Elt F)) U
  ιwm : ℕ
  d : Dev nD
  i : grid0.Coords
  x : Memref sig .scVector .hbm S150528x2x128 .f32
  out : Memref sig .scVector .hbm S150528x2x128 .f32
  g : Memref sig .scVector .vmem S4x48x2x128 .f32
  gs : DmaSems sig S4
  ss : DmaSems sig S4
  fx : Buf (Elt F) ((rowsOf x).view.loc (thr d i))
  T : Finset (Idx ((rowsOf out).view.loc (thr d i)))
  f : Buf (Elt F) ((rowsOf out).view.loc (thr d i))
  G : Buf (Elt F) ((rowsOf out).view.loc (thr d i))

variable (C : Ctx F U)

namespace Ctx

/-- The tile's thread. -/
abbrev t : Thread nD τ := thr C.d C.i
/-- What the rows hold at the end. -/
abbrev tgt : S150528x2x128.Idx → Elt F .f32 := (rowsOf C.out).view.read (Elt F) C.G
/-- A share of the output in write mode, the rows of `R` written. -/
abbrev mks (q : PosShare TreeShare) (R : Finset ℕ) : sProp 𝕄 :=
  tok C.emb ((rowsOf C.out).view.loc C.t) C.T q C.f C.G (markSet (rowsOf C.out).view R)
/-- A share of the input. -/
abbrev xs (q : PosShare TreeShare) : sProp 𝕄 := (rowsOf C.x).view.loc C.t ↦[(rowsOf C.x).view.set]{q} C.fx
/-- Chunk `j`'s window of a list, at contents `w`. -/
abbrev wn (lst : Memref sig .scVector .vmem S624 .i32) (j : Fin 13) (w : S624.Idx → BitVec 32) : sProp 𝕄 :=
  lst.view.loc C.t ↦[(win lst j).view.set]{fullShare} (listBuf lst F w)

end Ctx

section Rules

variable {defs : Defs nD τ sig (Elt F) Λ₀} (𝒱 : Variants) (bd : Option 𝒱.V)
variable {α : Type} {Q : α → sProp (MT nD τ sig (HIx 1) (Elt F) ℕ U ℕ)}
variable [C.EC.LandsIn (upEmb : UEmb _ (MT nD τ sig (HIx 1) (Elt F) ℕ U ℕ))]
variable (lst : Memref sig .scVector .vmem S624 .i32) (tv : S208.Idx → BitVec 32) (bw : BitVec 32) (j : Fin 13)

/-- A chunk's rows on their way into its slot. -/
def Gath (hc : ChunkOK tv bw j) (q : PosShare TreeShare) : sProp 𝕄 :=
  iprop(∃ fd, Transfers.Flight C.EC C.t (.dma (slotSem C.gs (slotOf j))) (default : HIx 1) (48 * rowAmt)
    iprop(((slot C.g (slotOf j)).view.loc C.t ↦[(slot C.g (slotOf j)).view.set]{fullShare}
            ((slot C.g (slotOf j)).view.write (Elt F) fd (gatherPayload hgR ((rowsOf C.x).view.read (Elt F) C.fx) (chunkRows lst tv bw j F hc)) Finset.univ))
      ∗ C.xs q ∗ C.wn lst j (listVal tv bw)))

theorem wp_gIssue (hc : ChunkOK tv bw j) (q : PosShare TreeShare) {k : PUnit → Tile F C.i α} :
    iprop(C.xs q ∗ (∃ fd, (slot C.g (slotOf j)).view.loc C.t ↦[(slot C.g (slotOf j)).view.set]{fullShare} fd)
        ∗ C.wn lst j (listVal tv bw) ∗ semVal (C.t, SemLoc.dma (slotSem C.gs (slotOf j))) 0)
      ⊢ iprop((Gath C lst tv bw j hc q -∗ wp frame (wpE defs 𝒱 C.t bd) Set.univ (k ⟨⟩) Q)
          -∗ wp frame (wpE defs 𝒱 C.t bd) Set.univ (gIssue C.i C.x lst C.g C.gs j >>= k) (Q : α → sProp 𝕄)) := by
  iintro ⟨Hx, ⟨%fd, Hs⟩, Hl, Hv⟩ Hk
  unfold gIssue
  iapply (wp_indirectGatherLocal C.EC 𝒱 C.t bd (hg := hgR) (src := rowsOf C.x) (dst := slot C.g (slotOf j)) (offs := win lst j)
    (default : HIx 1) (48 * rowAmt) ((sum_rowCredit_eq_dmaCredit (slot C.g (slotOf j)) hgR.axis' (fun _ => rfl)).trans (slot_credit C.g (slotOf j))) (by decide) (win_in lst tv bw j hc)) $$ [Hx Hs Hl Hv]
  · isplitl [Hx]; · iexact Hx
    isplitl [Hs]; · iexact Hs
    isplitl [Hl]; · iexact Hl
    iexact Hv
  iintro Hf
  iapply Hk
  unfold Gath
  iexists fd
  iexact Hf

/-- The chunk's rows, landed. -/
def Landed (hc : ChunkOK tv bw j) (fs : Buf (Elt F) ((slot C.g (slotOf j)).view.loc C.t)) : Prop :=
  ∀ y, (slot C.g (slotOf j)).view.read (Elt F) fs y = (rowsOf C.x).view.read (Elt F) C.fx (hgR.idx (chunkRows lst tv bw j F hc) y)

theorem wp_gWait (hc : ChunkOK tv bw j) (q : PosShare TreeShare) {O : CellTallies nD τ sig (HIx 1)} {W : Waits sig (HIx 1)}
    {k : PUnit → Tile F C.i α} :
    iprop(Gath C lst tv bw j hc q ∗ owes C.t O W ∗ Transfers.MayWaits C.t (default : HIx 1) O)
      ⊢ iprop((iprop((∃ fs, ⌜Landed C lst tv bw j hc fs⌝ ∗ ((slot C.g (slotOf j)).view.loc C.t ↦[(slot C.g (slotOf j)).view.set]{fullShare} fs))
              ∗ C.xs q ∗ C.wn lst j (listVal tv bw) ∗ semVal (C.t, SemLoc.dma (slotSem C.gs (slotOf j))) 0
              ∗ owes C.t O (insert (SemLoc.dma (slotSem C.gs (slotOf j)), (default : HIx 1)) W))
            -∗ wp frame (wpE defs 𝒱 C.t bd) Set.univ (k ⟨⟩) Q)
          -∗ wp frame (wpE defs 𝒱 C.t bd) Set.univ (gWait C.i C.x C.g C.gs j >>= k) (Q : α → sProp 𝕄)) := by
  unfold Gath
  iintro ⟨⟨%fd, Hf⟩, HO, #Hmw⟩ Hk
  unfold gWait
  iapply (Transfers.wp_waitLocalO C.EC 𝒱 C.t bd (srcw := rowsOf C.x) (dstw := slot C.g (slotOf j)) (default : HIx 1) (slot_credit C.g (slotOf j))) $$ [Hf HO]
  · isplitl [Hf]; · iexact Hf
    isplitl [HO]; · iexact HO
    iapply (Transfers.MayWaits.elim (SemLoc.dma (slotSem C.gs (slotOf j)))) $$ Hmw
  iintro ⟨⟨Hs, Hx, Hl⟩, Hv, HO⟩
  iapply Hk
  isplitl [Hs]
  · iexists _
    isplitr; swap
    · iexact Hs
    ipureintro
    intro y
    rw [View.read_write_univ]; rfl
  isplitl [Hx]; · iexact Hx
  isplitl [Hl]; · iexact Hl
  isplitl [Hv] <;> iassumption

/-- What entry `r` of chunk `j`'s send of `src` gives back. -/
abbrev back (src : Memref sig .scVector .vmem S48x2x128 .f32) (hc : ChunkOK tv bw j) (qs qt : PosShare TreeShare)
    (fs : Buf (Elt F) (src.view.loc C.t)) (R : Finset ℕ) (r : Fin 48) : sProp 𝕄 :=
  entryBack C.t C.emb src (rowsOf C.out) hgR (win lst j) (rfl : S48.numel = _) qs fullShare fs (listBuf lst F (listVal tv bw))
    C.T qt C.f C.G (markSet (rowsOf C.out).view R) 47 (chunkRows lst tv bw j F hc) r

instance back_storable (src : Memref sig .scVector .vmem S48x2x128 .f32) (hc : ChunkOK tv bw j) (qs qt : PosShare TreeShare)
    (fs : Buf (Elt F) (src.view.loc C.t)) (R : Finset ℕ) (r : Fin 48) :
    Storable (upEmb : UEmb _ 𝕄) (back C lst tv bw j src hc qs qt fs R r) :=
  entryBack_storable C.t C.emb src (rowsOf C.out) hgR (win lst j) (rfl : S48.numel = _) qs fullShare fs (listBuf lst F (listVal tv bw))
    C.T qt C.f C.G (markSet (rowsOf C.out).view R) 47 (chunkRows lst tv bw j F hc) r

theorem back_join (src : Memref sig .scVector .vmem S48x2x128 .f32) (hc : ChunkOK tv bw j) (qs qt : PosShare TreeShare)
    (fs : Buf (Elt F) (src.view.loc C.t)) (R : Finset ℕ) :
    (bigSep Finset.univ (back C lst tv bw j src hc qs qt fs R) : sProp 𝕄)
      ⊢ iprop(C.mks qt (R ∪ chunkSet tv j bw.toNat) ∗ C.wn lst j (listVal tv bw) ∗ (src.view.loc C.t ↦[src.view.set]{qs} fs)) := by
  refine (entryBack_join (c := C.t) (emb := C.emb) (src := src) (dst := rowsOf C.out) (hg := hgR) (offs := win lst j) (n := 47) rfl).trans ?_
  rw [namedRows_chunk lst tv bw j C.t (rowsOf C.out).view hc, ← markSet_union]

/-- The chunk's rows are the tile's, and hold `v` at the end. -/
def ChunkIn (hc : ChunkOK tv bw j) (v : S48x2x128.Idx → Elt F .f32) : Prop :=
  markSet (rowsOf C.out).view (chunkSet tv j bw.toNat) ⊆ C.T ∧ ∀ y, v y = C.tgt (hgR.idx (chunkRows lst tv bw j F hc) y)

theorem wp_send (src : Memref sig .scVector .vmem S48x2x128 .f32) (sem : DmaSem sig) (hc : ChunkOK tv bw j)
    (qs qt : PosShare TreeShare) (fs : Buf (Elt F) (src.view.loc C.t)) (R : Finset ℕ)
    (hin : ChunkIn C lst tv bw j hc (src.view.read (Elt F) fs))
    {n k₀ u : ℕ} {D : Fin n → sProp 𝕄} (hk : k₀ + 48 ≤ n) (hu : u ≤ k₀ * rowAmt)
    (hD : ∀ r : Fin 48, back C lst tv bw j src hc qs qt fs R r ⊢ D ⟨k₀ + r.val, by omega⟩) {k : PUnit → Tile F C.i α} :
    iprop(wmInv C.emb C.ιwm ∗ (src.view.loc C.t ↦[src.view.set]{qs} fs) ∗ C.mks qt R ∗ C.wn lst j (listVal tv bw)
        ∗ Transfers.Batch C.EC C.t (.dma sem) (default : HIx 1) rowAmt D k₀ u)
      ⊢ iprop((Transfers.Batch C.EC C.t (.dma sem) (default : HIx 1) rowAmt D (k₀ + 48) u -∗ wp frame (wpE defs 𝒱 C.t bd) Set.univ (k ⟨⟩) Q)
          -∗ wp frame (wpE defs 𝒱 C.t bd) Set.univ
            ((SparseCore.enqueueIndirectScatter rfl src (rowsOf C.out) hgR (win lst j) rfl sem rfl (Or.inl rfl) : Tile F C.i PUnit) >>= k) (Q : α → sProp 𝕄)) := by
  refine (wp_scatterMarks C.EC 𝒱 C.t bd (src := src) (dst := rowsOf C.out) (hg := hgR) (offs := win lst j) (m := 47)
    (default : HIx 1) rowAmt rfl hk hu (win_in lst tv bw j hc) (row_credit C.out) (fun r => ?_)
    (fun r => admitted_row C.t src (rowsOf C.out) hgR fs _ C.tgt C.G rfl hin.2 r) hD)
  refine Finset.Subset.trans ?_ hin.1
  refine (subset_of_eq (rowSet_eq (rowsOf C.out).view _)).trans (markSet_mono _ ?_)
  intro a ha
  rw [Finset.mem_singleton] at ha
  subst ha
  exact Finset.mem_image.mpr ⟨r.val, Finset.mem_range.mpr r.isLt, (chunkRows_val lst tv bw j hc r).symm⟩

/-- A chunk's rows on their way out of its slot. -/
def Scat (hc : ChunkOK tv bw j) (qt : PosShare TreeShare) (R : Finset ℕ) : sProp 𝕄 :=
  iprop(∃ fs, Transfers.Batch C.EC C.t (.dma (slotSem C.ss (slotOf j))) (default : HIx 1) rowAmt
    (back C lst tv bw j (slot C.g (slotOf j)) hc fullShare qt fs R) 48 0)

theorem wp_sIssue (hc : ChunkOK tv bw j) (qt : PosShare TreeShare) (R : Finset ℕ)
    (hin : ChunkIn C lst tv bw j hc (fun y => (rowsOf C.x).view.read (Elt F) C.fx (hgR.idx (chunkRows lst tv bw j F hc) y)))
    {k : PUnit → Tile F C.i α} :
    iprop(wmInv C.emb C.ιwm ∗ (∃ fs, ⌜Landed C lst tv bw j hc fs⌝ ∗ ((slot C.g (slotOf j)).view.loc C.t ↦[(slot C.g (slotOf j)).view.set]{fullShare} fs))
        ∗ C.mks qt R ∗ C.wn lst j (listVal tv bw) ∗ semVal (C.t, SemLoc.dma (slotSem C.ss (slotOf j))) 0)
      ⊢ iprop((Scat C lst tv bw j hc qt R -∗ wp frame (wpE defs 𝒱 C.t bd) Set.univ (k ⟨⟩) Q)
          -∗ wp frame (wpE defs 𝒱 C.t bd) Set.univ (sIssue C.i C.out lst C.g C.ss j >>= k) (Q : α → sProp 𝕄)) := by
  iintro ⟨#Hwm, ⟨%fs, %hfs, Hs⟩, Ht, Hl, Hv⟩ Hk
  imod (Transfers.batch_alloc' C.EC C.t (default : HIx 1) rowAmt (back C lst tv bw j (slot C.g (slotOf j)) hc fullShare qt fs R)) $$ Hv with Hb
  unfold sIssue
  iapply (wp_send C 𝒱 bd lst tv bw j (slot C.g (slotOf j)) (slotSem C.ss (slotOf j)) hc fullShare qt fs R ⟨hin.1, fun y => (hfs y).trans (hin.2 y)⟩
    (D := back C lst tv bw j (slot C.g (slotOf j)) hc fullShare qt fs R) (k₀ := 0) (u := 0) (by omega) (by omega)
    (fun r => Entails.of_eq (congrArg _ (Fin.ext (Nat.zero_add r.val).symm)))) $$ [Hs Ht Hl Hb]
  · isplitr; · iexact Hwm
    isplitl [Hs]; · iexact Hs
    isplitl [Ht]; · iexact Ht
    isplitl [Hl]; · iexact Hl
    iexact Hb
  iintro Hb
  iapply Hk
  unfold Scat
  iexists fs
  iexact Hb

theorem wp_sWait (hc : ChunkOK tv bw j) (qt : PosShare TreeShare) (R : Finset ℕ) {O : CellTallies nD τ sig (HIx 1)} {W : Waits sig (HIx 1)}
    {k : PUnit → Tile F C.i α} :
    iprop(Scat C lst tv bw j hc qt R ∗ owes C.t O W ∗ Transfers.MayWaits C.t (default : HIx 1) O)
      ⊢ iprop((iprop((∃ fs, (slot C.g (slotOf j)).view.loc C.t ↦[(slot C.g (slotOf j)).view.set]{fullShare} fs)
              ∗ C.mks qt (R ∪ chunkSet tv j bw.toNat) ∗ C.wn lst j (listVal tv bw) ∗ semVal (C.t, SemLoc.dma (slotSem C.ss (slotOf j))) 0
              ∗ owes C.t O (insert (SemLoc.dma (slotSem C.ss (slotOf j)), (default : HIx 1)) W))
            -∗ wp frame (wpE defs 𝒱 C.t bd) Set.univ (k ⟨⟩) Q)
          -∗ wp frame (wpE defs 𝒱 C.t bd) Set.univ (sWait C.i C.out C.g C.ss j >>= k) (Q : α → sProp 𝕄)) := by
  unfold Scat
  iintro ⟨⟨%fs, Hb⟩, HO, #Hmw⟩ Hk
  unfold sWait
  iapply (Transfers.wp_waitBatchMulO C.EC 𝒱 C.t bd (srcw := rowsOf C.out) (dstw := slot C.g (slotOf j)) (default : HIx 1) 48 (slot_credit C.g (slotOf j))
    (by omega : 0 + 48 * rowAmt ≤ rowAmt * 48)) $$ [Hb HO]
  · isplitl [Hb]; · iexact Hb
    isplitl [HO]; · iexact HO
    iapply (Transfers.MayWaits.elim (SemLoc.dma (slotSem C.ss (slotOf j)))) $$ Hmw
  iintro ⟨Hb, HO⟩
  imod (Transfers.batch_collect' C.EC C.t (by decide : 0 < rowAmt)) $$ Hb with ⟨HD, Hv⟩
  ihave H := (back_join C lst tv bw j (slot C.g (slotOf j)) hc fullShare qt fs R) $$ HD
  icases H with ⟨Ht, Hl, Hs⟩
  iapply Hk
  isplitl [Hs]; · iexists fs; iexact Hs
  isplitl [Ht]; · iexact Ht
  isplitl [Hl]; · iexact Hl
  isplitl [Hv] <;> iassumption

end Rules

end Cert.Proof.Copies
-- ==== Proof.Ring.lean ====
/-
  The state of a batch: what the tile holds between two steps of the batch loop's body, and each step from one state to
  the next.

  A chunk of kept rows goes from idle to fetching to sending to done. A slot of the ring belongs to the chunk that uses it
  and passes to the chunk four later, or back to the ring where that chunk is not used. A chunk of zeroed rows is sent at
  once; all of them share one batch of transfers, collected at the end.
-/
module

public import proofs.«01_k».proof.Proof.Copies
public import Idealize.ShloMosaic.Lib.WordCmp

@[expose] public section

noncomputable section

namespace Cert.Proof.Ring

open Cert.KernelIdeal Cert.KernelIdeal.Gen Cert.Proof.Frag Cert.Proof.Geom Cert.Proof.Marks Cert.Proof.Steps Cert.Proof.Copies
open Idealize.ShloMosaic Idealize.ShloMosaic.SparseCore
open Idealize.ShloMosaic.WordCmp (cmpi_sgt_of_lt cmpi_sle_of_lt)
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

local notation "𝕄" => MT nD τ sig (HIx 1) (Elt F) ℕ U ℕ

/-! ## The guards -/

theorem ne_zero_iff (c : BitVec 1) : Scalar.cmpi .ne (Scalar.extui c) 0#32 = 1#1 ↔ c = 1#1 := by
  revert c; decide

theorem sgt_iff (n : BitVec 32) (hn : n.toNat ≤ 208) (k : ℕ) (hk : k ≤ 1000) :
    Scalar.cmpi .sgt n (BitVec.ofNat 32 k) = 1#1 ↔ k < n.toNat := by
  have e : (BitVec.ofNat 32 k).toNat = k := by rw [BitVec.toNat_ofNat]; exact Nat.mod_eq_of_lt (by omega)
  have h : Scalar.cmpi .sgt n (BitVec.ofNat 32 k) = BitVec.ofBool (decide (k < n.toNat)) := by
    refine (cmpi_sgt_of_lt (x := n) (y := BitVec.ofNat 32 k) (by omega) (by omega)).trans ?_
    rw [e]
  rw [h]
  by_cases hc : k < n.toNat <;> simp [hc]

theorem sle_iff (n : BitVec 32) (hn : n.toNat ≤ 208) (k : ℕ) (hk : k ≤ 1000) :
    Scalar.cmpi .sle n (BitVec.ofNat 32 k) = 1#1 ↔ n.toNat ≤ k := by
  have e : (BitVec.ofNat 32 k).toNat = k := by rw [BitVec.toNat_ofNat]; exact Nat.mod_eq_of_lt (by omega)
  have h : Scalar.cmpi .sle n (BitVec.ofNat 32 k) = BitVec.ofBool (decide (n.toNat ≤ k)) := by
    refine (cmpi_sle_of_lt (x := n) (y := BitVec.ofNat 32 k) (by omega) (by omega)).trans ?_
    rw [e]
  rw [h]
  by_cases hc : n.toNat ≤ k <;> simp [hc]

theorem and_iff (a b : BitVec 1) : Scalar.andi a b = 1#1 ↔ a = 1#1 ∧ b = 1#1 := by
  revert a b; decide

theorem used_iff (n : BitVec 32) (hn : n.toNat ≤ 208) (j : Fin 13) : used n j = 1#1 ↔ 16 * j.val < n.toNat := by
  unfold used
  rw [ne_zero_iff, sgt_iff n hn _ (by omega)]

theorem lastUsed_iff (n : BitVec 32) (hn : n.toNat ≤ 208) (j : Fin 13) :
    lastUsed n j = 1#1 ↔ 16 * j.val < n.toNat ∧ n.toNat ≤ 16 * (j.val + 4) := by
  unfold lastUsed
  rw [ne_zero_iff, and_iff, sgt_iff n hn _ (by omega), sle_iff n hn _ (by omega)]

/-! ## Changing one or two of many -/

theorem sep_emp_eq' {M : Type} [URA M] (P : sProp M) : iprop(P ∗ BI.emp) = P := BI.equiv_iff.mp (BI.sep_emp (M := M))
theorem emp_sep_eq' {M : Type} [URA M] (P : sProp M) : iprop(BI.emp ∗ P) = P := BI.equiv_iff.mp (BI.emp_sep (M := M))

theorem bigSep_step {M : Type} [URA M] {n : ℕ} (j : Fin n) (Φ Φ' : Fin n → sProp M) (h : ∀ i, i ≠ j → Φ i = Φ' i) :
    bigSep Finset.univ Φ ⊢ iprop(Φ j ∗ (Φ' j -∗ bigSep Finset.univ Φ')) := by
  classical
  have e : ∀ Ψ : Fin n → sProp M, bigSep Finset.univ Ψ = iprop(Ψ j ∗ bigSep (Finset.univ.erase j) Ψ) := fun Ψ => by
    conv_lhs => rw [← Finset.insert_erase (Finset.mem_univ j)]
    exact bigSep_ins (Finset.notMem_erase _ _)
  rw [e Φ, e Φ']
  have e' : bigSep (Finset.univ.erase j) Φ = bigSep (Finset.univ.erase j) Φ' :=
    BI.bigSep_congr fun i hi => h i (Finset.ne_of_mem_erase hi)
  rw [e']
  iintro ⟨H, Hr⟩
  isplitl [H]; · iexact H
  iintro H'
  isplitl [H'] <;> iassumption

theorem bigSep_take {M : Type} [URA M] {n : ℕ} (j : Fin n) (Φ Φ' : Fin n → sProp M) (h : ∀ i, i ≠ j → Φ i = Φ' i)
    (h' : Φ' j = BI.emp) : bigSep Finset.univ Φ ⊢ iprop(Φ j ∗ bigSep Finset.univ Φ') := by
  classical
  have e : ∀ Ψ : Fin n → sProp M, bigSep Finset.univ Ψ = iprop(Ψ j ∗ bigSep (Finset.univ.erase j) Ψ) := fun Ψ => by
    conv_lhs => rw [← Finset.insert_erase (Finset.mem_univ j)]
    exact bigSep_ins (Finset.notMem_erase _ _)
  rw [e Φ, e Φ', h', emp_sep_eq']
  have e' : bigSep (Finset.univ.erase j) Φ = bigSep (Finset.univ.erase j) Φ' :=
    BI.bigSep_congr fun i hi => h i (Finset.ne_of_mem_erase hi)
  rw [e']

theorem bigSep_step2 {M : Type} [URA M] {n : ℕ} (j' j : Fin n) (hj : j' ≠ j) (Φ Φ' : Fin n → sProp M)
    (h : ∀ i, i ≠ j' → i ≠ j → Φ i = Φ' i) :
    bigSep Finset.univ Φ ⊢ iprop(Φ j' ∗ Φ j ∗ (Φ' j' ∗ Φ' j -∗ bigSep Finset.univ Φ')) := by
  classical
  have e : ∀ Ψ : Fin n → sProp M, bigSep Finset.univ Ψ = iprop(Ψ j' ∗ Ψ j ∗ bigSep ((Finset.univ.erase j').erase j) Ψ) := fun Ψ => by
    conv_lhs => rw [← Finset.insert_erase (Finset.mem_univ j')]
    rw [bigSep_ins (Finset.notMem_erase _ _)]
    conv_lhs => rw [← Finset.insert_erase (Finset.mem_erase.mpr ⟨hj.symm, Finset.mem_univ j⟩)]
    rw [bigSep_ins (Finset.notMem_erase _ _)]
  rw [e Φ, e Φ']
  have e' : bigSep ((Finset.univ.erase j').erase j) Φ = bigSep ((Finset.univ.erase j').erase j) Φ' :=
    BI.bigSep_congr fun i hi => h i (Finset.ne_of_mem_erase (Finset.mem_of_mem_erase hi)) (Finset.ne_of_mem_erase hi)
  rw [e']
  iintro ⟨H1, H2, Hr⟩
  isplitl [H1]; · iexact H1
  isplitl [H2]; · iexact H2
  iintro ⟨H1, H2⟩
  isplitl [H1]; · iexact H1
  isplitl [H2] <;> iassumption

/-! ## The state -/

set_option genInjectivity false in
set_option genSizeOf false in
/-- A batch: the tile's lists, shares and counts, the batch's number, the rows written before it. -/
structure Bat (C : Ctx F U) where
  kl : Memref sig .scVector .vmem S624 .i32
  zl : Memref sig .scVector .vmem S624 .i32
  kt : Memref sig .scVector .vmem S208 .i32
  zt : Memref sig .scVector .vmem S208 .i32
  kb : Buf (Elt F) (kt.view.loc C.t)
  zb : Buf (Elt F) (zt.view.loc C.t)
  z : Memref sig .scVector .vmem S48x2x128 .f32
  hz : z.IsWhole
  zs : DmaSems sig S_
  fz : Buf (Elt F) (z.view.loc C.t)
  nk : BitVec 32
  nz : BitVec 32
  qx : Fin 13 → PosShare TreeShare
  qz : Fin 13 → PosShare TreeShare
  qk : Fin 13 → PosShare TreeShare
  qm : Fin 13 → PosShare TreeShare
  O : CellTallies nD τ sig (HIx 1)
  W : Waits sig (HIx 1)
  bw : BitVec 32
  RK : Fin 13 → Finset ℕ
  RZ : Fin 13 → Finset ℕ
  hnk : nk.toNat ≤ 208
  hnz : nz.toNat ≤ 208
  okK : ∀ j : Fin 13, 16 * j.val < nk.toNat → ChunkOK (kt.view.read (Elt F) kb) bw j
  okZ : ∀ j : Fin 13, 16 * j.val < nz.toNat → ChunkOK (zt.view.read (Elt F) zb) bw j
  inK : ∀ (j : Fin 13) (h : 16 * j.val < nk.toNat), ChunkIn C kl (kt.view.read (Elt F) kb) bw j (okK j h)
    (fun y => (rowsOf C.x).view.read (Elt F) C.fx (hgR.idx (chunkRows kl (kt.view.read (Elt F) kb) bw j F (okK j h)) y))
  inZ : ∀ (j : Fin 13) (h : 16 * j.val < nz.toNat), ChunkIn C zl (zt.view.read (Elt F) zb) bw j (okZ j h) (z.view.read (Elt F) fz)

variable {C : Ctx F U} (B : Bat C)

namespace Bat

abbrev kv : S208.Idx → BitVec 32 := B.kt.view.read (Elt F) B.kb
abbrev zv : S208.Idx → BitVec 32 := B.zt.view.read (Elt F) B.zb
abbrev Uk (j : ℕ) : Prop := 16 * j < B.nk.toNat
abbrev Uz (j : ℕ) : Prop := 16 * j < B.nz.toNat

/-- A slot at rest. -/
def Slot (C : Ctx F U) (s : Fin 4) : sProp 𝕄 :=
  iprop((∃ fs, (slot C.g s).view.loc C.t ↦[(slot C.g s).view.set]{fullShare} fs)
    ∗ semVal (C.t, SemLoc.dma (slotSem C.gs s)) 0 ∗ semVal (C.t, SemLoc.dma (slotSem C.ss s)) 0)

/-- A chunk of kept rows at rest, the rows of `R` written. -/
def IdleK (j : Fin 13) (R : Finset ℕ) : sProp 𝕄 :=
  iprop(C.xs (B.qx j) ∗ (∃ l, B.kl.view.loc C.t ↦[(win B.kl j).view.set]{fullShare} l) ∗ C.mks (B.qk j) R)

/-- A chunk of zeroed rows at rest. -/
def IdleZ (j : Fin 13) (R : Finset ℕ) : sProp 𝕄 :=
  iprop((B.z.view.loc C.t ↦[B.z.view.set]{B.qz j} B.fz) ∗ (∃ l, B.zl.view.loc C.t ↦[(win B.zl j).view.set]{fullShare} l) ∗ C.mks (B.qm j) R)

/-- The rows written after the batch. -/
def RK' (j : Fin 13) : Finset ℕ := if B.Uk j.val then B.RK j ∪ chunkSet B.kv j B.bw.toNat else B.RK j
def RZ' (j : Fin 13) : Finset ℕ := if B.Uz j.val then B.RZ j ∪ chunkSet B.zv j B.bw.toNat else B.RZ j

/-- Chunk `j` before its fetch, -/
def SI (j : Fin 13) : sProp 𝕄 := iprop(B.IdleK j (B.RK j) ∗ (if j.val < 4 then Slot C (slotOf j) else BI.emp))
/-- after it, -/
def SG (j : Fin 13) : sProp 𝕄 :=
  if h : B.Uk j.val then iprop(Gath C B.kl B.kv B.bw j (B.okK j h) (B.qx j) ∗ semVal (C.t, SemLoc.dma (slotSem C.ss (slotOf j))) 0 ∗ C.mks (B.qk j) (B.RK j))
  else B.SI j
/-- its rows on their way out, -/
def SS (j : Fin 13) : sProp 𝕄 :=
  if h : B.Uk j.val then iprop(Scat C B.kl B.kv B.bw j (B.okK j h) (B.qk j) (B.RK j) ∗ semVal (C.t, SemLoc.dma (slotSem C.gs (slotOf j))) 0 ∗ C.xs (B.qx j))
  else B.SI j
/-- the chunk four later fetched, if used, -/
def SH (j : Fin 13) : sProp 𝕄 :=
  if B.Uk j.val ∧ B.Uk (j.val + 4) then B.IdleK j (B.RK' j) else B.SS j
/-- done. -/
def SD (j : Fin 13) : sProp 𝕄 :=
  iprop(B.IdleK j (B.RK' j) ∗ (if B.Uk j.val then (if B.Uk (j.val + 4) then BI.emp else Slot C (slotOf j)) else (if j.val < 4 then Slot C (slotOf j) else BI.emp)))

/-- Chunk `j` when the next fetch is `a`, the next send `b`, the next drain `d`. -/
def stage (a b d : ℕ) (j : Fin 13) : sProp 𝕄 :=
  if a ≤ j.val then B.SI j else if b ≤ j.val then B.SG j else if j.val < d then B.SD j else if j.val + 4 < a then B.SH j else B.SS j

/-- The used chunks of zeroed rows. -/
def Zc : ℕ := (B.nz.toNat + 15) / 16

theorem Uz_of (j : ℕ) (h : j < B.Zc) : B.Uz j := by unfold Zc at h; show 16 * j < _; omega
theorem Zc_le : B.Zc ≤ 13 := by have := B.hnz; unfold Zc; omega
theorem of_Uz {j : ℕ} (h : B.Uz j) : j < B.Zc := by unfold Zc; change 16 * j < _ at h; omega

/-- What transfer `t` of the zeroed rows' batch gives back. -/
def DZ (t : Fin (48 * B.Zc)) : sProp 𝕄 :=
  have h : t.val / 48 < B.Zc := by have := t.isLt; omega
  have h13 : t.val / 48 < 13 := lt_of_lt_of_le h B.Zc_le
  back C B.zl B.zv B.bw ⟨t.val / 48, h13⟩ B.z (B.okZ ⟨t.val / 48, h13⟩ (B.Uz_of _ h)) (B.qz ⟨t.val / 48, h13⟩) (B.qm ⟨t.val / 48, h13⟩) B.fz
    (B.RZ ⟨t.val / 48, h13⟩) ⟨t.val % 48, Nat.mod_lt _ (by decide)⟩

instance DZ_storable (t : Fin (48 * B.Zc)) : Storable (upEmb : UEmb _ 𝕄) (B.DZ t) := by
  unfold DZ; exact back_storable _ _ _ _ _ _ _ _ _ _ _ _

theorem DZ_eq (j : Fin 13) (hu : B.Uz j.val) (r : Fin 48) (h : 48 * j.val + r.val < 48 * B.Zc) :
    B.DZ ⟨48 * j.val + r.val, h⟩ = back C B.zl B.zv B.bw j B.z (B.okZ j hu) (B.qz j) (B.qm j) B.fz (B.RZ j) r := by
  have key : ∀ (q m : ℕ) (hq : q < B.Zc) (h13 : q < 13) (hm : m < 48), q = j.val → m = r.val →
      (back C B.zl B.zv B.bw ⟨q, h13⟩ B.z (B.okZ ⟨q, h13⟩ (B.Uz_of _ hq)) (B.qz ⟨q, h13⟩) (B.qm ⟨q, h13⟩) B.fz (B.RZ ⟨q, h13⟩) ⟨m, hm⟩ : sProp 𝕄)
        = back C B.zl B.zv B.bw j B.z (B.okZ j hu) (B.qz j) (B.qm j) B.fz (B.RZ j) r := by
    intro q m hq h13 hm e1 e2
    subst e1 e2
    rfl
  exact key ((48 * j.val + r.val) / 48) ((48 * j.val + r.val) % 48) (by omega) (by omega) (by omega) (by omega) (by omega)

/-- Chunk `j` of zeroed rows, the next to send being `a`. -/
def zstage (a : ℕ) (j : Fin 13) : sProp 𝕄 := if j.val < a ∧ B.Uz j.val then BI.emp else B.IdleZ j (B.RZ j)

/-- What the tile owes and has waited for. -/
def Ow : sProp 𝕄 :=
  iprop(Transfers.MayWaits C.t (default : HIx 1) B.O ∗ ∃ W', ⌜∀ p ∈ W', p ∈ B.W ∨ p.2 = default⌝ ∗ owes C.t B.O W')

theorem owes_insert {W' : Waits sig (HIx 1)} (h : ∀ p ∈ W', p ∈ B.W ∨ p.2 = default) {s : SemLoc sig} :
    ∀ p ∈ insert (s, (default : HIx 1)) W', p ∈ B.W ∨ p.2 = default := by
  intro p hp
  rcases Finset.mem_insert.mp hp with rfl | hp
  · exact .inr rfl
  · exact h p hp

/-- The whole state: the next zeroed chunk to send `y` and to wait for `w`, the ring's position. -/
def St (y w a b d : ℕ) : sProp 𝕄 :=
  iprop((Transfers.Batch C.EC C.t (.dma B.zs.sem) (default : HIx 1) rowAmt B.DZ (48 * min y B.Zc) (48 * rowAmt * min w B.Zc)
      ∗ bigSep Finset.univ (B.zstage y))
    ∗ bigSep Finset.univ (B.stage a b d)
    ∗ ((B.kt.view.loc C.t ↦[B.kt.view.set]{fullShare} B.kb) ∗ (B.zt.view.loc C.t ↦[B.zt.view.set]{fullShare} B.zb))
    ∗ wmInv C.emb C.ιwm ∗ B.Ow)

end Bat

section Rules

variable {defs : Defs nD τ sig (Elt F) Λ₀} (𝒱 : Variants) (bd : Option 𝒱.V)
variable {α : Type} {Q : α → sProp (MT nD τ sig (HIx 1) (Elt F) ℕ U ℕ)}
variable [C.EC.LandsIn (upEmb : UEmb _ (MT nD τ sig (HIx 1) (Elt F) ℕ U ℕ))]
variable (base : IVec S16 32) (hb : ∀ y, base y = B.bw)
variable {k : Tile F C.i α}

include hb in
theorem step_zIssue (j : Fin 13) (y : ℕ) (hy : j.val = y) (a b d : ℕ)
    (hk : B.St (y + 1) 0 a b d ⊢ wp frame (wpE defs 𝒱 C.t bd) Set.univ k Q) :
    B.St y 0 a b d ⊢ wp frame (wpE defs 𝒱 C.t bd) Set.univ (zIssue C.i C.out B.zt B.zl B.z B.zs k base B.nz j) Q := by
  subst hy
  unfold zIssue
  by_cases hu : B.Uz j.val
  · rw [if_pos ((used_iff B.nz B.hnz j).mpr hu)]
    have hz := B.of_Uz hu
    have e0 : min j.val B.Zc = j.val := by omega
    have e1 : min (j.val + 1) B.Zc = j.val + 1 := by omega
    have hstep := bigSep_take j (B.zstage j.val) (B.zstage (j.val + 1)) (fun i hi => by
      have hne : i.val ≠ j.val := fun h => hi (Fin.ext h)
      unfold Bat.zstage
      by_cases h : i.val < j.val ∧ B.Uz i.val
      · rw [if_pos h, if_pos ⟨by omega, h.2⟩]
      · rw [if_neg h, if_neg (fun h' => h ⟨by omega, h'.2⟩)]) (if_pos ⟨by omega, hu⟩)
    rw [show B.zstage j.val j = B.IdleZ j (B.RZ j) from if_neg (by omega)] at hstep
    have key : B.St (j.val + 1) 0 a b d = iprop((Transfers.Batch C.EC C.t (.dma B.zs.sem) (default : HIx 1) rowAmt B.DZ (48 * j.val + 48) 0
      ∗ bigSep Finset.univ (B.zstage (j.val + 1)))
    ∗ bigSep Finset.univ (B.stage a b d)
    ∗ ((B.kt.view.loc C.t ↦[B.kt.view.set]{fullShare} B.kb) ∗ (B.zt.view.loc C.t ↦[B.zt.view.set]{fullShare} B.zb))
    ∗ wmInv C.emb C.ιwm ∗ B.Ow) := by unfold Bat.St; rw [e1, Nat.zero_min, Nat.mul_zero]; rfl
    rw [key] at hk
    unfold Bat.St
    rw [e0, Nat.zero_min, Nat.mul_zero]
    iintro ⟨⟨Hb, HZ⟩, HK, ⟨Hkt, Hzt⟩, #Hwm, HO⟩
    ihave H := hstep $$ HZ
    icases H with ⟨Hi, HZ⟩
    unfold Bat.IdleZ
    icases Hi with ⟨Hz, Hl, Hm⟩
    iapply (wp_fill (F := F) 𝒱 C.d C.i bd B.zt B.zl j base B.bw hb (subset_refl _) B.zb) $$ [Hzt Hl]
    · isplitl [Hzt] <;> iassumption
    iintro ⟨Hzt, Hl⟩
    iapply (wp_send C 𝒱 bd B.zl B.zv B.bw j B.z B.zs.sem (B.okZ j hu) (B.qz j) (B.qm j) B.fz (B.RZ j) (B.inZ j hu) (D := B.DZ) (k₀ := 48 * j.val)
      (u := 0) (by omega) (by omega) (fun r => Entails.of_eq (B.DZ_eq j hu r _).symm)) $$ [Hz Hm Hl Hb]
    · isplitr; · iexact Hwm
      isplitl [Hz]; · iexact Hz
      isplitl [Hm]; · iexact Hm
      isplitl [Hl]; · iexact Hl
      iexact Hb
    iintro Hb
    iapply hk
    isplitl [Hb HZ]
    · isplitl [Hb] <;> iassumption
    isplitl [HK]; · iexact HK
    isplitl [Hkt Hzt]
    · isplitl [Hkt]; · iexact Hkt
      iexact Hzt
    isplitr; · iexact Hwm
    iexact HO
  · rw [if_neg (fun h => hu ((used_iff B.nz B.hnz j).mp h))]
    refine Entails.trans (Entails.of_eq ?_) hk
    have hz : ¬ j.val < B.Zc := fun h => hu (B.Uz_of _ h)
    have e0 : min (j.val + 1) B.Zc = min j.val B.Zc := by omega
    have e1 : B.zstage (j.val + 1) = B.zstage j.val := funext fun i => by
      unfold Bat.zstage
      by_cases h : i.val < j.val ∧ B.Uz i.val
      · rw [if_pos h, if_pos ⟨by omega, h.2⟩]
      · rw [if_neg h, if_neg]
        rintro ⟨h1, h2⟩
        by_cases e : i.val = j.val
        · rw [e] at h2; exact hu h2
        · exact h ⟨by omega, h2⟩
    unfold Bat.St
    rw [e0, e1]

theorem step_zWait (j : Fin 13) (w : ℕ) (hw : j.val = w) (a b d : ℕ)
    (hk : B.St 13 (w + 1) a b d ⊢ wp frame (wpE defs 𝒱 C.t bd) Set.univ k Q) :
    B.St 13 w a b d ⊢ wp frame (wpE defs 𝒱 C.t bd) Set.univ (zWait C.i C.out B.z B.hz B.zs k B.nz j) Q := by
  subst hw
  unfold zWait
  have hZ := B.Zc_le
  by_cases hu : B.Uz j.val
  · rw [if_pos ((used_iff B.nz B.hnz j).mpr hu)]
    have hz := B.of_Uz hu
    have e0 : min j.val B.Zc = j.val := by omega
    have e1 : min (j.val + 1) B.Zc = j.val + 1 := by omega
    have e2 : min 13 B.Zc = B.Zc := by omega
    have key : B.St 13 (j.val + 1) a b d = iprop((Transfers.Batch C.EC C.t (.dma B.zs.sem) (default : HIx 1) rowAmt B.DZ (48 * B.Zc) (48 * rowAmt * j.val + 48 * rowAmt)
      ∗ bigSep Finset.univ (B.zstage 13))
    ∗ bigSep Finset.univ (B.stage a b d)
    ∗ ((B.kt.view.loc C.t ↦[B.kt.view.set]{fullShare} B.kb) ∗ (B.zt.view.loc C.t ↦[B.zt.view.set]{fullShare} B.zb))
    ∗ wmInv C.emb C.ιwm ∗ B.Ow) := by unfold Bat.St; rw [e1, e2]; rfl
    rw [key] at hk
    unfold Bat.St
    rw [e0, e2]
    unfold Bat.Ow at hk ⊢
    iintro ⟨⟨Hb, HZ⟩, HK, HT, #Hwm, #Hmw, %W', %hW, HO⟩
    unfold zRecv
    iapply (Transfers.wp_waitBatchMulO C.EC 𝒱 C.t bd (srcw := rowsOf C.out) (dstw := B.z) (default : HIx 1) 48 (z_credit B.z)
      (by show 48 * 8192 * j.val + 48 * 8192 ≤ 8192 * (48 * B.Zc); omega)) $$ [Hb HO]
    · isplitl [Hb]; · iexact Hb
      isplitl [HO]; · iexact HO
      iapply (Transfers.MayWaits.elim (SemLoc.dma B.zs.sem)) $$ Hmw
    iintro ⟨Hb, HO⟩
    iapply hk
    isplitl [Hb HZ]
    · isplitl [Hb] <;> iassumption
    isplitl [HK]; · iexact HK
    isplitl [HT]; · iexact HT
    isplitr; · iexact Hwm
    isplitr; · iexact Hmw
    iexists _
    isplitr; swap
    · iexact HO
    ipureintro
    exact B.owes_insert hW
  · rw [if_neg (fun h => hu ((used_iff B.nz B.hnz j).mp h))]
    refine Entails.trans (Entails.of_eq ?_) hk
    have hz : ¬ j.val < B.Zc := fun h => hu (B.Uz_of _ h)
    have e0 : min (j.val + 1) B.Zc = min j.val B.Zc := by omega
    unfold Bat.St
    rw [e0]

include hb in
theorem step_fetch0 (j : Fin 13) (h4 : j.val < 4) (y w a b d : ℕ) (ha : j.val = a) (hba : b ≤ a)
    (hk : B.St y w (a + 1) b d ⊢ wp frame (wpE defs 𝒱 C.t bd) Set.univ k Q) :
    B.St y w a b d ⊢ wp frame (wpE defs 𝒱 C.t bd) Set.univ (fetch0 C.i C.x B.kt B.kl C.g C.gs k base B.nk j) Q := by
  subst ha
  unfold fetch0
  have hstep := bigSep_step j (B.stage j.val b d) (B.stage (j.val + 1) b d) fun i hi => by
    have hne : i.val ≠ j.val := fun h => hi (Fin.ext h)
    unfold Bat.stage
    by_cases h : j.val ≤ i.val
    · rw [if_pos h, if_pos (by omega)]
    · rw [if_neg h, if_neg (by omega : ¬ j.val + 1 ≤ i.val), if_neg (by omega : ¬ i.val + 4 < j.val), if_neg (by omega : ¬ i.val + 4 < j.val + 1)]
  have s0 : B.stage j.val b d j = B.SI j := if_pos (le_refl _)
  have s1 : B.stage (j.val + 1) b d j = B.SG j := by
    unfold Bat.stage
    rw [if_neg (by omega), if_pos hba]
  rw [s0, s1] at hstep
  unfold Bat.St at hk ⊢
  by_cases hu : B.Uk j.val
  · rw [if_pos ((used_iff B.nk B.hnk j).mpr hu)]
    iintro ⟨HZ, HK, ⟨Hkt, Hzt⟩, #Hwm, HO⟩
    ihave H := hstep $$ HK
    icases H with ⟨Hi, Hput⟩
    unfold Bat.SI Bat.IdleK Bat.Slot Bat.SG
    rw [if_pos h4, dif_pos hu]
    icases Hi with ⟨⟨Hx, Hl, Hm⟩, Hs, Hg, Hss⟩
    iapply (wp_fill (F := F) 𝒱 C.d C.i bd B.kt B.kl j base B.bw hb (subset_refl _) B.kb) $$ [Hkt Hl]
    · isplitl [Hkt] <;> iassumption
    iintro ⟨Hkt, Hl⟩
    iapply (wp_gIssue C 𝒱 bd B.kl B.kv B.bw j (B.okK j hu) (B.qx j)) $$ [Hx Hs Hl Hg]
    · isplitl [Hx]; · iexact Hx
      isplitl [Hs]; · iexact Hs
      isplitl [Hl]; · iexact Hl
      iexact Hg
    iintro HG
    iapply hk
    isplitl [HZ]; · iexact HZ
    isplitl [HG Hss Hm Hput]
    · iapply Hput
      isplitl [HG]; · iexact HG
      isplitl [Hss] <;> iassumption
    isplitl [Hkt Hzt]
    · isplitl [Hkt]; · iexact Hkt
      iexact Hzt
    isplitr; · iexact Hwm
    iexact HO
  · rw [if_neg (fun h => hu ((used_iff B.nk B.hnk j).mp h))]
    rw [show B.SG j = B.SI j from dif_neg hu] at hstep
    iintro ⟨HZ, HK, HR⟩
    ihave H := hstep $$ HK
    icases H with ⟨Hi, Hput⟩
    iapply hk
    isplitl [HZ]; · iexact HZ
    isplitl [Hi Hput]
    · iapply Hput
      iexact Hi
    iexact HR

set_option maxHeartbeats 1600000 in
include hb in
theorem step_fetch (j' j : Fin 13) (y w a b d : ℕ) (hj : j.val = j'.val + 4) (ha : j.val = a) (hba : b ≤ a) (hb' : j'.val < b) (hd : d = 0)
    (hk : B.St y w (a + 1) b d ⊢ wp frame (wpE defs 𝒱 C.t bd) Set.univ k Q) :
    B.St y w a b d ⊢ wp frame (wpE defs 𝒱 C.t bd) Set.univ (fetch C.i C.x C.out B.kt B.kl C.g C.gs C.ss k base B.nk j' j) Q := by
  subst ha hd
  unfold fetch
  have hslot : slotOf j = slotOf j' := Fin.ext (by show j.val % 4 = j'.val % 4; omega)
  have hstep := bigSep_step2 j' j (fun h => by rw [h] at hj; omega) (B.stage j.val b 0) (B.stage (j.val + 1) b 0) fun i hi hi' => by
    have hne : i.val ≠ j'.val := fun h => hi (Fin.ext h)
    have hne' : i.val ≠ j.val := fun h => hi' (Fin.ext h)
    unfold Bat.stage
    by_cases h : j.val ≤ i.val
    · rw [if_pos h, if_pos (by omega)]
    · rw [if_neg h, if_neg (by omega : ¬ j.val + 1 ≤ i.val)]
      by_cases h2 : i.val + 4 < j.val
      · rw [if_pos h2, if_pos (by omega : i.val + 4 < j.val + 1)]
      · rw [if_neg h2, if_neg (by omega : ¬ i.val + 4 < j.val + 1)]
  have s0 : B.stage j.val b 0 j = B.SI j := if_pos (le_refl _)
  have s1 : B.stage (j.val + 1) b 0 j = B.SG j := by
    unfold Bat.stage
    rw [if_neg (by omega), if_pos hba]
  have s2 : B.stage j.val b 0 j' = B.SS j' := by
    unfold Bat.stage
    rw [if_neg (by omega), if_neg (by omega), if_neg (by omega), if_neg (by omega)]
  have s3 : B.stage (j.val + 1) b 0 j' = B.SH j' := by
    unfold Bat.stage
    rw [if_neg (by omega), if_neg (by omega), if_neg (by omega), if_pos (by omega)]
  rw [s0, s1, s2, s3] at hstep
  unfold Bat.St at hk ⊢
  by_cases hu : B.Uk j.val
  · rw [if_pos ((used_iff B.nk B.hnk j).mpr hu)]
    have hu' : B.Uk j'.val := by change 16 * _ < _ at hu ⊢; omega
    have hH : B.SH j' = B.IdleK j' (B.RK' j') := if_pos ⟨hu', by rw [← hj]; exact hu⟩
    have hR : B.RK' j' = B.RK j' ∪ chunkSet B.kv j' B.bw.toNat := if_pos hu'
    rw [hH] at hstep
    unfold Bat.SI Bat.IdleK Bat.SG Bat.SS at hstep
    unfold Bat.Ow at hk ⊢
    rw [if_neg (by omega), dif_pos hu, dif_pos hu', hR] at hstep
    iintro ⟨HZ, HK, ⟨Hkt, Hzt⟩, #Hwm, HO⟩
    ihave H := hstep $$ HK
    icases H with ⟨Hi', Hi, Hput⟩
    icases Hi with ⟨⟨Hx, Hl, Hm⟩, -⟩
    icases Hi' with ⟨HS, Hg, Hx'⟩
    icases HO with ⟨#Hmw, %W', %hW, HO⟩
    iapply (wp_sWait C 𝒱 bd B.kl B.kv B.bw j' (B.okK j' hu') (B.qk j') (B.RK j')) $$ [HS HO]
    · isplitl [HS]; · iexact HS
      isplitl [HO]; · iexact HO
      iexact Hmw
    rw [← hslot]
    iintro ⟨Hs, Hm', Hl', Hss, HO⟩
    iapply (wp_fill (F := F) 𝒱 C.d C.i bd B.kt B.kl j base B.bw hb (subset_refl _) B.kb) $$ [Hkt Hl]
    · isplitl [Hkt] <;> iassumption
    iintro ⟨Hkt, Hl⟩
    iapply (wp_gIssue C 𝒱 bd B.kl B.kv B.bw j (B.okK j hu) (B.qx j)) $$ [Hx Hs Hl Hg]
    · isplitl [Hx]; · iexact Hx
      isplitl [Hs]; · iexact Hs
      isplitl [Hl]; · iexact Hl
      iexact Hg
    iintro HG
    iapply hk
    isplitl [HZ]; · iexact HZ
    isplitl [HG Hss Hm Hput Hx' Hm' Hl']
    · iapply Hput
      isplitl [Hx' Hm' Hl']
      · isplitl [Hx']; · iexact Hx'
        isplitl [Hl']
        · iexists _; iexact Hl'
        iexact Hm'
      isplitl [HG]; · iexact HG
      isplitl [Hss] <;> iassumption
    isplitl [Hkt Hzt]
    · isplitl [Hkt]; · iexact Hkt
      iexact Hzt
    isplitr; · iexact Hwm
    isplitr; · iexact Hmw
    iexists _
    isplitr; swap
    · iexact HO
    ipureintro
    exact B.owes_insert hW
  · rw [if_neg (fun h => hu ((used_iff B.nk B.hnk j).mp h))]
    rw [show B.SG j = B.SI j from dif_neg hu, show B.SH j' = B.SS j' from if_neg (fun h => hu (by rw [hj]; exact h.2))] at hstep
    iintro ⟨HZ, HK, HR⟩
    ihave H := hstep $$ HK
    icases H with ⟨Hi', Hi, Hput⟩
    iapply hk
    isplitl [HZ]; · iexact HZ
    isplitl [Hi Hi' Hput]
    · iapply Hput
      isplitl [Hi'] <;> iassumption
    iexact HR

theorem step_send (j : Fin 13) (y w a b d : ℕ) (hj : j.val = b) (hba : j.val < a) (ha : a ≤ j.val + 4) (hd : d = 0)
    (hk : B.St y w a (b + 1) d ⊢ wp frame (wpE defs 𝒱 C.t bd) Set.univ k Q) :
    B.St y w a b d ⊢ wp frame (wpE defs 𝒱 C.t bd) Set.univ (send C.i C.x C.out B.kl C.g C.gs C.ss k B.nk j) Q := by
  subst hj hd
  unfold send
  have hstep := bigSep_step j (B.stage a j.val 0) (B.stage a (j.val + 1) 0) fun i hi => by
    have hne : i.val ≠ j.val := fun h => hi (Fin.ext h)
    unfold Bat.stage
    by_cases h : a ≤ i.val
    · rw [if_pos h, if_pos h]
    · rw [if_neg h, if_neg h]
      by_cases h2 : j.val ≤ i.val
      · rw [if_pos h2, if_pos (by omega : j.val + 1 ≤ i.val)]
      · rw [if_neg h2, if_neg (by omega : ¬ j.val + 1 ≤ i.val)]
  have s0 : B.stage a j.val 0 j = B.SG j := by
    unfold Bat.stage
    rw [if_neg (by omega), if_pos (le_refl _)]
  have s1 : B.stage a (j.val + 1) 0 j = B.SS j := by
    unfold Bat.stage
    rw [if_neg (by omega), if_neg (by omega), if_neg (by omega), if_neg (by omega)]
  rw [s0, s1] at hstep
  unfold Bat.St at hk ⊢
  by_cases hu : B.Uk j.val
  · rw [if_pos ((used_iff B.nk B.hnk j).mpr hu)]
    unfold Bat.SG Bat.SS at hstep
    unfold Bat.Ow at hk ⊢
    rw [dif_pos hu, dif_pos hu] at hstep
    iintro ⟨HZ, HK, HT, #Hwm, HO⟩
    ihave H := hstep $$ HK
    icases H with ⟨Hi, Hput⟩
    icases Hi with ⟨HG, Hss, Hm⟩
    icases HO with ⟨#Hmw, %W', %hW, HO⟩
    iapply (wp_gWait C 𝒱 bd B.kl B.kv B.bw j (B.okK j hu) (B.qx j)) $$ [HG HO]
    · isplitl [HG]; · iexact HG
      isplitl [HO]; · iexact HO
      iexact Hmw
    iintro ⟨Hs, Hx, Hl, Hg, HO⟩
    iapply (wp_sIssue C 𝒱 bd B.kl B.kv B.bw j (B.okK j hu) (B.qk j) (B.RK j) (B.inK j hu)) $$ [Hs Hm Hl Hss]
    · isplitr; · iexact Hwm
      isplitl [Hs]; · iexact Hs
      isplitl [Hm]; · iexact Hm
      isplitl [Hl]; · iexact Hl
      iexact Hss
    iintro HS
    iapply hk
    isplitl [HZ]; · iexact HZ
    isplitl [HS Hg Hx Hput]
    · iapply Hput
      isplitl [HS]; · iexact HS
      isplitl [Hg] <;> iassumption
    isplitl [HT]; · iexact HT
    isplitr; · iexact Hwm
    isplitr; · iexact Hmw
    iexists _
    isplitr; swap
    · iexact HO
    ipureintro
    exact B.owes_insert hW
  · rw [if_neg (fun h => hu ((used_iff B.nk B.hnk j).mp h))]
    rw [show B.SG j = B.SI j from dif_neg hu, show B.SS j = B.SI j from dif_neg hu] at hstep
    iintro ⟨HZ, HK, HR⟩
    ihave H := hstep $$ HK
    icases H with ⟨Hi, Hput⟩
    iapply hk
    isplitl [HZ]; · iexact HZ
    isplitl [Hi Hput]
    · iapply Hput
      iexact Hi
    iexact HR

theorem SH_last (j : Fin 13) (h : 9 ≤ j.val) : B.SH j = B.SS j :=
  if_neg fun h' => by have := h'.2; change 16 * _ < _ at this; have := B.hnk; omega

theorem step_drain (j : Fin 13) (y w d : ℕ) (hj : j.val = d)
    (hk : B.St y w 13 13 (d + 1) ⊢ wp frame (wpE defs 𝒱 C.t bd) Set.univ k Q) :
    B.St y w 13 13 d ⊢ wp frame (wpE defs 𝒱 C.t bd) Set.univ (drain C.i C.out C.g C.ss k B.nk j) Q := by
  subst hj
  unfold drain
  have hstep := bigSep_step j (B.stage 13 13 j.val) (B.stage 13 13 (j.val + 1)) fun i hi => by
    have hne : i.val ≠ j.val := fun h => hi (Fin.ext h)
    unfold Bat.stage
    rw [if_neg (by omega : ¬ 13 ≤ i.val), if_neg (by omega : ¬ 13 ≤ i.val), if_neg (by omega : ¬ 13 ≤ i.val), if_neg (by omega : ¬ 13 ≤ i.val)]
    by_cases h : i.val < j.val
    · rw [if_pos h, if_pos (by omega : i.val < j.val + 1)]
    · rw [if_neg h, if_neg (by omega : ¬ i.val < j.val + 1)]
  have s0 : B.stage 13 13 j.val j = B.SH j := by
    unfold Bat.stage
    rw [if_neg (by omega), if_neg (by omega), if_neg (by omega)]
    by_cases h : j.val + 4 < 13
    · rw [if_pos h]
    · rw [if_neg h]; exact (SH_last B j (by omega)).symm
  have s1 : B.stage 13 13 (j.val + 1) j = B.SD j := by
    unfold Bat.stage
    rw [if_neg (by omega), if_neg (by omega), if_pos (by omega)]
  rw [s0, s1] at hstep
  unfold Bat.St at hk ⊢
  by_cases hu : B.Uk j.val ∧ ¬ B.Uk (j.val + 4)
  · rw [if_pos ((lastUsed_iff B.nk B.hnk j).mpr ⟨hu.1, by have := hu.2; change ¬ 16 * _ < _ at this; omega⟩)]
    have hR : B.RK' j = B.RK j ∪ chunkSet B.kv j B.bw.toNat := if_pos hu.1
    rw [show B.SH j = B.SS j from if_neg (fun h => hu.2 h.2)] at hstep
    unfold Bat.SS Bat.SD Bat.IdleK Bat.Slot at hstep
    unfold Bat.Ow at hk ⊢
    rw [dif_pos hu.1, if_pos hu.1, if_neg hu.2, hR] at hstep
    iintro ⟨HZ, HK, HT, #Hwm, HO⟩
    ihave H := hstep $$ HK
    icases H with ⟨Hi, Hput⟩
    icases Hi with ⟨HS, Hg, Hx⟩
    icases HO with ⟨#Hmw, %W', %hW, HO⟩
    iapply (wp_sWait C 𝒱 bd B.kl B.kv B.bw j (B.okK j hu.1) (B.qk j) (B.RK j)) $$ [HS HO]
    · isplitl [HS]; · iexact HS
      isplitl [HO]; · iexact HO
      iexact Hmw
    iintro ⟨Hs, Hm, Hl, Hss, HO⟩
    iapply hk
    isplitl [HZ]; · iexact HZ
    isplitl [Hs Hm Hl Hss Hg Hx Hput]
    · iapply Hput
      isplitl [Hm Hl Hx]
      · isplitl [Hx]; · iexact Hx
        isplitl [Hl]
        · iexists _; iexact Hl
        iexact Hm
      isplitl [Hs]; · iexact Hs
      isplitl [Hg] <;> iassumption
    isplitl [HT]; · iexact HT
    isplitr; · iexact Hwm
    isplitr; · iexact Hmw
    iexists _
    isplitr; swap
    · iexact HO
    ipureintro
    exact B.owes_insert hW
  · rw [if_neg (fun h => hu (by
      have h' := (lastUsed_iff B.nk B.hnk j).mp h
      exact ⟨h'.1, by change ¬ 16 * _ < _; omega⟩))]
    have hSD : B.SH j ⊢ B.SD j := by
      unfold Bat.SD
      by_cases h1 : B.Uk j.val
      · have h2 : B.Uk (j.val + 4) := by by_contra h; exact hu ⟨h1, h⟩
        rw [show B.SH j = B.IdleK j (B.RK' j) from if_pos ⟨h1, h2⟩, if_pos h1, if_pos h2]
        exact Entails.of_eq (sep_emp_eq' _).symm
      · rw [show B.SH j = B.SS j from if_neg (fun h => h1 h.1), show B.SS j = B.SI j from dif_neg h1, if_neg h1, show B.RK' j = B.RK j from if_neg h1]
        exact Entails.refl
    iintro ⟨HZ, HK, HR⟩
    ihave H := hstep $$ HK
    icases H with ⟨Hi, Hput⟩
    iapply hk
    isplitl [HZ]; · iexact HZ
    isplitl [Hi Hput]
    · iapply Hput
      iapply hSD
      iexact Hi
    iexact HR

end Rules

end Cert.Proof.Ring
-- ==== Proof.Body.lean ====
/-
  The body of the batch loop: the parts as printed are one sequence of the steps of a chunk, and a batch runs from its first
  state to its last.
-/
module

public import proofs.«01_k».proof.Proof.Ring

@[expose] public section

noncomputable section

namespace Cert.Proof.Body

open Cert.KernelIdeal Cert.KernelIdeal.Gen Cert.Proof.Frag Cert.Proof.Geom Cert.Proof.Marks Cert.Proof.Steps Cert.Proof.Copies Cert.Proof.Ring
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F]

section Binds

variable (i : grid0.Coords)
variable (x out : Memref sig .scVector .hbm S150528x2x128 .f32) (tok : Memref sig .scVector .vmem S208 .i32)
variable (lst : Memref sig .scVector .vmem S624 .i32) (g : Memref sig .scVector .vmem S4x48x2x128 .f32)
variable (z : Memref sig .scVector .vmem S48x2x128 .f32) (hz : z.IsWhole) (gs ss : DmaSems sig S4) (zs : DmaSems sig S_)
variable {α β : Type} (k : Tile F i α) (f : α → Tile F i β)

theorem zIssue_bind (base : IVec S16 32) (n : BitVec 32) (j : Fin 13) :
    zIssue i out tok lst z zs k base n j >>= f = zIssue i out tok lst z zs (k >>= f) base n j := by
  unfold zIssue
  split <;> simp only [bind_assoc]

theorem zWait_bind (n : BitVec 32) (j : Fin 13) :
    zWait i out z hz zs k n j >>= f = zWait i out z hz zs (k >>= f) n j := by
  unfold zWait
  split <;> simp only [bind_assoc]

theorem fetch0_bind (base : IVec S16 32) (n : BitVec 32) (j : Fin 13) :
    fetch0 i x tok lst g gs k base n j >>= f = fetch0 i x tok lst g gs (k >>= f) base n j := by
  unfold fetch0
  split <;> simp only [bind_assoc]

theorem fetch_bind (base : IVec S16 32) (n : BitVec 32) (j' j : Fin 13) :
    fetch i x out tok lst g gs ss k base n j' j >>= f = fetch i x out tok lst g gs ss (k >>= f) base n j' j := by
  unfold fetch
  split <;> simp only [bind_assoc]

theorem send_bind (n : BitVec 32) (j : Fin 13) :
    send i x out lst g gs ss k n j >>= f = send i x out lst g gs ss (k >>= f) n j := by
  unfold send
  split <;> simp only [bind_assoc]

theorem drain_bind (n : BitVec 32) (j : Fin 13) :
    drain i out g ss k n j >>= f = drain i out g ss (k >>= f) n j := by
  unfold drain
  split <;> simp only [bind_assoc]

end Binds

section Equation

variable (i : grid0.Coords) (arg2 : Memref sig .scVector .hbm S150528x2x128 .f32) (harg2 : arg2.IsWhole) (arg3 : Memref sig .scVector .hbm S208 .i32) (harg3 : arg3.IsWhole) (arg4 : Memref sig .scVector .hbm S48x2x128 .f32) (harg4 : arg4.IsWhole) (arg5 : Memref sig .scVector .hbm S150528x2x128 .f32) (harg5 : arg5.IsWhole) (arg6 : Memref sig .scVector .vmem S208 .i32) (harg6 : arg6.IsWhole) (arg7 : Memref sig .scVector .vmem S208 .i32) (harg7 : arg7.IsWhole) (arg8 : Memref sig .scVector .vmem S208 .i32) (harg8 : arg8.IsWhole) (arg9 : Memref sig .scVector .vmem S624 .i32) (harg9 : arg9.IsWhole) (arg10 : Memref sig .scVector .vmem S624 .i32) (harg10 : arg10.IsWhole) (arg11 : Memref sig .scVector .vmem S4x48x2x128 .f32) (harg11 : arg11.IsWhole) (arg12 : Memref sig .scVector .vmem S48x2x128 .f32) (harg12 : arg12.IsWhole) (arg13 : DmaSems sig S4) (arg14 : DmaSems sig S4) (arg15 : DmaSems sig S_) (v735_r0 : DmaSems sig S_) (v735_r1 : DmaSems sig S_)

set_option maxRecDepth 65536 in
/-- The batch loop's body, as the steps of its chunks. -/
theorem body_eq (v1 nk nz : BitVec 32) (t : Fin k0_t1_loop.trips) (base : IVec S16 32) (hbase : k0_pay37 v1 0#32 1#32 t = base) :
    k0_t1_body (F := F) i arg2 harg2 arg3 harg3 arg4 harg4 arg5 harg5 arg6 harg6 arg7 harg7 arg8 harg8 arg9 harg9 arg10 harg10 arg11 harg11 arg12 harg12 arg13 arg14 arg15 v735_r0 v735_r1 v1 nk nz 0#32 t ⟨⟩ = (
    zIssue i arg5 arg8 arg10 arg12 arg15 (base := base) (n := nz) (j := 0) <|
    zIssue i arg5 arg8 arg10 arg12 arg15 (base := base) (n := nz) (j := 1) <|
    zIssue i arg5 arg8 arg10 arg12 arg15 (base := base) (n := nz) (j := 2) <|
    zIssue i arg5 arg8 arg10 arg12 arg15 (base := base) (n := nz) (j := 3) <|
    zIssue i arg5 arg8 arg10 arg12 arg15 (base := base) (n := nz) (j := 4) <|
    zIssue i arg5 arg8 arg10 arg12 arg15 (base := base) (n := nz) (j := 5) <|
    zIssue i arg5 arg8 arg10 arg12 arg15 (base := base) (n := nz) (j := 6) <|
    zIssue i arg5 arg8 arg10 arg12 arg15 (base := base) (n := nz) (j := 7) <|
    zIssue i arg5 arg8 arg10 arg12 arg15 (base := base) (n := nz) (j := 8) <|
    zIssue i arg5 arg8 arg10 arg12 arg15 (base := base) (n := nz) (j := 9) <|
    zIssue i arg5 arg8 arg10 arg12 arg15 (base := base) (n := nz) (j := 10) <|
    zIssue i arg5 arg8 arg10 arg12 arg15 (base := base) (n := nz) (j := 11) <|
    zIssue i arg5 arg8 arg10 arg12 arg15 (base := base) (n := nz) (j := 12) <|
    fetch0 i arg2 arg7 arg9 arg11 arg13 (base := base) (n := nk) (j := 0) <|
    fetch0 i arg2 arg7 arg9 arg11 arg13 (base := base) (n := nk) (j := 1) <|
    send i arg2 arg5 arg9 arg11 arg13 arg14 (n := nk) (j := 0) <|
    fetch0 i arg2 arg7 arg9 arg11 arg13 (base := base) (n := nk) (j := 2) <|
    send i arg2 arg5 arg9 arg11 arg13 arg14 (n := nk) (j := 1) <|
    fetch0 i arg2 arg7 arg9 arg11 arg13 (base := base) (n := nk) (j := 3) <|
    send i arg2 arg5 arg9 arg11 arg13 arg14 (n := nk) (j := 2) <|
    fetch i arg2 arg5 arg7 arg9 arg11 arg13 arg14 (base := base) (n := nk) (j' := 0) (j := 4) <|
    send i arg2 arg5 arg9 arg11 arg13 arg14 (n := nk) (j := 3) <|
    fetch i arg2 arg5 arg7 arg9 arg11 arg13 arg14 (base := base) (n := nk) (j' := 1) (j := 5) <|
    send i arg2 arg5 arg9 arg11 arg13 arg14 (n := nk) (j := 4) <|
    fetch i arg2 arg5 arg7 arg9 arg11 arg13 arg14 (base := base) (n := nk) (j' := 2) (j := 6) <|
    send i arg2 arg5 arg9 arg11 arg13 arg14 (n := nk) (j := 5) <|
    fetch i arg2 arg5 arg7 arg9 arg11 arg13 arg14 (base := base) (n := nk) (j' := 3) (j := 7) <|
    send i arg2 arg5 arg9 arg11 arg13 arg14 (n := nk) (j := 6) <|
    fetch i arg2 arg5 arg7 arg9 arg11 arg13 arg14 (base := base) (n := nk) (j' := 4) (j := 8) <|
    send i arg2 arg5 arg9 arg11 arg13 arg14 (n := nk) (j := 7) <|
    fetch i arg2 arg5 arg7 arg9 arg11 arg13 arg14 (base := base) (n := nk) (j' := 5) (j := 9) <|
    send i arg2 arg5 arg9 arg11 arg13 arg14 (n := nk) (j := 8) <|
    fetch i arg2 arg5 arg7 arg9 arg11 arg13 arg14 (base := base) (n := nk) (j' := 6) (j := 10) <|
    send i arg2 arg5 arg9 arg11 arg13 arg14 (n := nk) (j := 9) <|
    fetch i arg2 arg5 arg7 arg9 arg11 arg13 arg14 (base := base) (n := nk) (j' := 7) (j := 11) <|
    send i arg2 arg5 arg9 arg11 arg13 arg14 (n := nk) (j := 10) <|
    fetch i arg2 arg5 arg7 arg9 arg11 arg13 arg14 (base := base) (n := nk) (j' := 8) (j := 12) <|
    send i arg2 arg5 arg9 arg11 arg13 arg14 (n := nk) (j := 11) <|
    send i arg2 arg5 arg9 arg11 arg13 arg14 (n := nk) (j := 12) <|
    drain i arg5 arg11 arg14 (n := nk) (j := 0) <|
    drain i arg5 arg11 arg14 (n := nk) (j := 1) <|
    drain i arg5 arg11 arg14 (n := nk) (j := 2) <|
    drain i arg5 arg11 arg14 (n := nk) (j := 3) <|
    drain i arg5 arg11 arg14 (n := nk) (j := 4) <|
    drain i arg5 arg11 arg14 (n := nk) (j := 5) <|
    drain i arg5 arg11 arg14 (n := nk) (j := 6) <|
    drain i arg5 arg11 arg14 (n := nk) (j := 7) <|
    drain i arg5 arg11 arg14 (n := nk) (j := 8) <|
    drain i arg5 arg11 arg14 (n := nk) (j := 9) <|
    drain i arg5 arg11 arg14 (n := nk) (j := 10) <|
    drain i arg5 arg11 arg14 (n := nk) (j := 11) <|
    drain i arg5 arg11 arg14 (n := nk) (j := 12) <|
    zWait i arg5 arg12 harg12 arg15 (n := nz) (j := 0) <|
    zWait i arg5 arg12 harg12 arg15 (n := nz) (j := 1) <|
    zWait i arg5 arg12 harg12 arg15 (n := nz) (j := 2) <|
    zWait i arg5 arg12 harg12 arg15 (n := nz) (j := 3) <|
    zWait i arg5 arg12 harg12 arg15 (n := nz) (j := 4) <|
    zWait i arg5 arg12 harg12 arg15 (n := nz) (j := 5) <|
    zWait i arg5 arg12 harg12 arg15 (n := nz) (j := 6) <|
    zWait i arg5 arg12 harg12 arg15 (n := nz) (j := 7) <|
    zWait i arg5 arg12 harg12 arg15 (n := nz) (j := 8) <|
    zWait i arg5 arg12 harg12 arg15 (n := nz) (j := 9) <|
    zWait i arg5 arg12 harg12 arg15 (n := nz) (j := 10) <|
    zWait i arg5 arg12 harg12 arg15 (n := nz) (j := 11) <|
    zWait i arg5 arg12 harg12 arg15 (n := nz) (j := 12) <|
    pure ⟨⟩) := by
  unfold k0_t1_body
  subst hbase
  rw [part10_eq]
  simp only [zIssue_bind, pure_bind, part11_eq, fetch0_bind, send_bind, fetch_bind, part12_eq, part13_eq, part14_eq, drain_bind, part15_eq, part16_eq, zWait_bind]
  rfl

end Equation

section Run

variable {U : Type} [URA U]

local notation "𝕄" => MT nD τ sig (HIx 1) (Elt F) ℕ U ℕ

variable {C : Ctx F U} (B : Bat C)
variable {defs : Defs nD τ sig (Elt F) Λ₀} (𝒱 : Variants) (bd : Option 𝒱.V)
variable {α : Type} {Q : α → sProp (MT nD τ sig (HIx 1) (Elt F) ℕ U ℕ)}
variable [C.EC.LandsIn (upEmb : UEmb _ (MT nD τ sig (HIx 1) (Elt F) ℕ U ℕ))]

set_option maxRecDepth 65536 in
/-- A batch, from its first state to its last. -/
theorem wp_steps (base : IVec S16 32) (hb : ∀ y, base y = B.bw) {k : Tile F C.i α}
    (hk : B.St 13 13 13 13 13 ⊢ wp frame (wpE defs 𝒱 C.t bd) Set.univ k Q) :
    B.St 0 0 0 0 0 ⊢ wp frame (wpE defs 𝒱 C.t bd) Set.univ (
    zIssue C.i C.out B.zt B.zl B.z B.zs (base := base) (n := B.nz) (j := 0) <|
    zIssue C.i C.out B.zt B.zl B.z B.zs (base := base) (n := B.nz) (j := 1) <|
    zIssue C.i C.out B.zt B.zl B.z B.zs (base := base) (n := B.nz) (j := 2) <|
    zIssue C.i C.out B.zt B.zl B.z B.zs (base := base) (n := B.nz) (j := 3) <|
    zIssue C.i C.out B.zt B.zl B.z B.zs (base := base) (n := B.nz) (j := 4) <|
    zIssue C.i C.out B.zt B.zl B.z B.zs (base := base) (n := B.nz) (j := 5) <|
    zIssue C.i C.out B.zt B.zl B.z B.zs (base := base) (n := B.nz) (j := 6) <|
    zIssue C.i C.out B.zt B.zl B.z B.zs (base := base) (n := B.nz) (j := 7) <|
    zIssue C.i C.out B.zt B.zl B.z B.zs (base := base) (n := B.nz) (j := 8) <|
    zIssue C.i C.out B.zt B.zl B.z B.zs (base := base) (n := B.nz) (j := 9) <|
    zIssue C.i C.out B.zt B.zl B.z B.zs (base := base) (n := B.nz) (j := 10) <|
    zIssue C.i C.out B.zt B.zl B.z B.zs (base := base) (n := B.nz) (j := 11) <|
    zIssue C.i C.out B.zt B.zl B.z B.zs (base := base) (n := B.nz) (j := 12) <|
    fetch0 C.i C.x B.kt B.kl C.g C.gs (base := base) (n := B.nk) (j := 0) <|
    fetch0 C.i C.x B.kt B.kl C.g C.gs (base := base) (n := B.nk) (j := 1) <|
    send C.i C.x C.out B.kl C.g C.gs C.ss (n := B.nk) (j := 0) <|
    fetch0 C.i C.x B.kt B.kl C.g C.gs (base := base) (n := B.nk) (j := 2) <|
    send C.i C.x C.out B.kl C.g C.gs C.ss (n := B.nk) (j := 1) <|
    fetch0 C.i C.x B.kt B.kl C.g C.gs (base := base) (n := B.nk) (j := 3) <|
    send C.i C.x C.out B.kl C.g C.gs C.ss (n := B.nk) (j := 2) <|
    fetch C.i C.x C.out B.kt B.kl C.g C.gs C.ss (base := base) (n := B.nk) (j' := 0) (j := 4) <|
    send C.i C.x C.out B.kl C.g C.gs C.ss (n := B.nk) (j := 3) <|
    fetch C.i C.x C.out B.kt B.kl C.g C.gs C.ss (base := base) (n := B.nk) (j' := 1) (j := 5) <|
    send C.i C.x C.out B.kl C.g C.gs C.ss (n := B.nk) (j := 4) <|
    fetch C.i C.x C.out B.kt B.kl C.g C.gs C.ss (base := base) (n := B.nk) (j' := 2) (j := 6) <|
    send C.i C.x C.out B.kl C.g C.gs C.ss (n := B.nk) (j := 5) <|
    fetch C.i C.x C.out B.kt B.kl C.g C.gs C.ss (base := base) (n := B.nk) (j' := 3) (j := 7) <|
    send C.i C.x C.out B.kl C.g C.gs C.ss (n := B.nk) (j := 6) <|
    fetch C.i C.x C.out B.kt B.kl C.g C.gs C.ss (base := base) (n := B.nk) (j' := 4) (j := 8) <|
    send C.i C.x C.out B.kl C.g C.gs C.ss (n := B.nk) (j := 7) <|
    fetch C.i C.x C.out B.kt B.kl C.g C.gs C.ss (base := base) (n := B.nk) (j' := 5) (j := 9) <|
    send C.i C.x C.out B.kl C.g C.gs C.ss (n := B.nk) (j := 8) <|
    fetch C.i C.x C.out B.kt B.kl C.g C.gs C.ss (base := base) (n := B.nk) (j' := 6) (j := 10) <|
    send C.i C.x C.out B.kl C.g C.gs C.ss (n := B.nk) (j := 9) <|
    fetch C.i C.x C.out B.kt B.kl C.g C.gs C.ss (base := base) (n := B.nk) (j' := 7) (j := 11) <|
    send C.i C.x C.out B.kl C.g C.gs C.ss (n := B.nk) (j := 10) <|
    fetch C.i C.x C.out B.kt B.kl C.g C.gs C.ss (base := base) (n := B.nk) (j' := 8) (j := 12) <|
    send C.i C.x C.out B.kl C.g C.gs C.ss (n := B.nk) (j := 11) <|
    send C.i C.x C.out B.kl C.g C.gs C.ss (n := B.nk) (j := 12) <|
    drain C.i C.out C.g C.ss (n := B.nk) (j := 0) <|
    drain C.i C.out C.g C.ss (n := B.nk) (j := 1) <|
    drain C.i C.out C.g C.ss (n := B.nk) (j := 2) <|
    drain C.i C.out C.g C.ss (n := B.nk) (j := 3) <|
    drain C.i C.out C.g C.ss (n := B.nk) (j := 4) <|
    drain C.i C.out C.g C.ss (n := B.nk) (j := 5) <|
    drain C.i C.out C.g C.ss (n := B.nk) (j := 6) <|
    drain C.i C.out C.g C.ss (n := B.nk) (j := 7) <|
    drain C.i C.out C.g C.ss (n := B.nk) (j := 8) <|
    drain C.i C.out C.g C.ss (n := B.nk) (j := 9) <|
    drain C.i C.out C.g C.ss (n := B.nk) (j := 10) <|
    drain C.i C.out C.g C.ss (n := B.nk) (j := 11) <|
    drain C.i C.out C.g C.ss (n := B.nk) (j := 12) <|
    zWait C.i C.out B.z B.hz B.zs (n := B.nz) (j := 0) <|
    zWait C.i C.out B.z B.hz B.zs (n := B.nz) (j := 1) <|
    zWait C.i C.out B.z B.hz B.zs (n := B.nz) (j := 2) <|
    zWait C.i C.out B.z B.hz B.zs (n := B.nz) (j := 3) <|
    zWait C.i C.out B.z B.hz B.zs (n := B.nz) (j := 4) <|
    zWait C.i C.out B.z B.hz B.zs (n := B.nz) (j := 5) <|
    zWait C.i C.out B.z B.hz B.zs (n := B.nz) (j := 6) <|
    zWait C.i C.out B.z B.hz B.zs (n := B.nz) (j := 7) <|
    zWait C.i C.out B.z B.hz B.zs (n := B.nz) (j := 8) <|
    zWait C.i C.out B.z B.hz B.zs (n := B.nz) (j := 9) <|
    zWait C.i C.out B.z B.hz B.zs (n := B.nz) (j := 10) <|
    zWait C.i C.out B.z B.hz B.zs (n := B.nz) (j := 11) <|
    zWait C.i C.out B.z B.hz B.zs (n := B.nz) (j := 12) <|
    k) Q := by
  refine step_zIssue B 𝒱 bd base hb 0 0 rfl 0 0 0 ?_
  refine step_zIssue B 𝒱 bd base hb 1 1 rfl 0 0 0 ?_
  refine step_zIssue B 𝒱 bd base hb 2 2 rfl 0 0 0 ?_
  refine step_zIssue B 𝒱 bd base hb 3 3 rfl 0 0 0 ?_
  refine step_zIssue B 𝒱 bd base hb 4 4 rfl 0 0 0 ?_
  refine step_zIssue B 𝒱 bd base hb 5 5 rfl 0 0 0 ?_
  refine step_zIssue B 𝒱 bd base hb 6 6 rfl 0 0 0 ?_
  refine step_zIssue B 𝒱 bd base hb 7 7 rfl 0 0 0 ?_
  refine step_zIssue B 𝒱 bd base hb 8 8 rfl 0 0 0 ?_
  refine step_zIssue B 𝒱 bd base hb 9 9 rfl 0 0 0 ?_
  refine step_zIssue B 𝒱 bd base hb 10 10 rfl 0 0 0 ?_
  refine step_zIssue B 𝒱 bd base hb 11 11 rfl 0 0 0 ?_
  refine step_zIssue B 𝒱 bd base hb 12 12 rfl 0 0 0 ?_
  refine step_fetch0 B 𝒱 bd base hb 0 (by decide) 13 0 0 0 0 rfl (by decide) ?_
  refine step_fetch0 B 𝒱 bd base hb 1 (by decide) 13 0 1 0 0 rfl (by decide) ?_
  refine step_send B 𝒱 bd 0 13 0 2 0 0 rfl (by decide) (by decide) rfl ?_
  refine step_fetch0 B 𝒱 bd base hb 2 (by decide) 13 0 2 1 0 rfl (by decide) ?_
  refine step_send B 𝒱 bd 1 13 0 3 1 0 rfl (by decide) (by decide) rfl ?_
  refine step_fetch0 B 𝒱 bd base hb 3 (by decide) 13 0 3 2 0 rfl (by decide) ?_
  refine step_send B 𝒱 bd 2 13 0 4 2 0 rfl (by decide) (by decide) rfl ?_
  refine step_fetch B 𝒱 bd base hb 0 4 13 0 4 3 0 rfl rfl (by decide) (by decide) rfl ?_
  refine step_send B 𝒱 bd 3 13 0 5 3 0 rfl (by decide) (by decide) rfl ?_
  refine step_fetch B 𝒱 bd base hb 1 5 13 0 5 4 0 rfl rfl (by decide) (by decide) rfl ?_
  refine step_send B 𝒱 bd 4 13 0 6 4 0 rfl (by decide) (by decide) rfl ?_
  refine step_fetch B 𝒱 bd base hb 2 6 13 0 6 5 0 rfl rfl (by decide) (by decide) rfl ?_
  refine step_send B 𝒱 bd 5 13 0 7 5 0 rfl (by decide) (by decide) rfl ?_
  refine step_fetch B 𝒱 bd base hb 3 7 13 0 7 6 0 rfl rfl (by decide) (by decide) rfl ?_
  refine step_send B 𝒱 bd 6 13 0 8 6 0 rfl (by decide) (by decide) rfl ?_
  refine step_fetch B 𝒱 bd base hb 4 8 13 0 8 7 0 rfl rfl (by decide) (by decide) rfl ?_
  refine step_send B 𝒱 bd 7 13 0 9 7 0 rfl (by decide) (by decide) rfl ?_
  refine step_fetch B 𝒱 bd base hb 5 9 13 0 9 8 0 rfl rfl (by decide) (by decide) rfl ?_
  refine step_send B 𝒱 bd 8 13 0 10 8 0 rfl (by decide) (by decide) rfl ?_
  refine step_fetch B 𝒱 bd base hb 6 10 13 0 10 9 0 rfl rfl (by decide) (by decide) rfl ?_
  refine step_send B 𝒱 bd 9 13 0 11 9 0 rfl (by decide) (by decide) rfl ?_
  refine step_fetch B 𝒱 bd base hb 7 11 13 0 11 10 0 rfl rfl (by decide) (by decide) rfl ?_
  refine step_send B 𝒱 bd 10 13 0 12 10 0 rfl (by decide) (by decide) rfl ?_
  refine step_fetch B 𝒱 bd base hb 8 12 13 0 12 11 0 rfl rfl (by decide) (by decide) rfl ?_
  refine step_send B 𝒱 bd 11 13 0 13 11 0 rfl (by decide) (by decide) rfl ?_
  refine step_send B 𝒱 bd 12 13 0 13 12 0 rfl (by decide) (by decide) rfl ?_
  refine step_drain B 𝒱 bd 0 13 0 0 rfl ?_
  refine step_drain B 𝒱 bd 1 13 0 1 rfl ?_
  refine step_drain B 𝒱 bd 2 13 0 2 rfl ?_
  refine step_drain B 𝒱 bd 3 13 0 3 rfl ?_
  refine step_drain B 𝒱 bd 4 13 0 4 rfl ?_
  refine step_drain B 𝒱 bd 5 13 0 5 rfl ?_
  refine step_drain B 𝒱 bd 6 13 0 6 rfl ?_
  refine step_drain B 𝒱 bd 7 13 0 7 rfl ?_
  refine step_drain B 𝒱 bd 8 13 0 8 rfl ?_
  refine step_drain B 𝒱 bd 9 13 0 9 rfl ?_
  refine step_drain B 𝒱 bd 10 13 0 10 rfl ?_
  refine step_drain B 𝒱 bd 11 13 0 11 rfl ?_
  refine step_drain B 𝒱 bd 12 13 0 12 rfl ?_
  refine step_zWait B 𝒱 bd 0 0 rfl 13 13 13 ?_
  refine step_zWait B 𝒱 bd 1 1 rfl 13 13 13 ?_
  refine step_zWait B 𝒱 bd 2 2 rfl 13 13 13 ?_
  refine step_zWait B 𝒱 bd 3 3 rfl 13 13 13 ?_
  refine step_zWait B 𝒱 bd 4 4 rfl 13 13 13 ?_
  refine step_zWait B 𝒱 bd 5 5 rfl 13 13 13 ?_
  refine step_zWait B 𝒱 bd 6 6 rfl 13 13 13 ?_
  refine step_zWait B 𝒱 bd 7 7 rfl 13 13 13 ?_
  refine step_zWait B 𝒱 bd 8 8 rfl 13 13 13 ?_
  refine step_zWait B 𝒱 bd 9 9 rfl 13 13 13 ?_
  refine step_zWait B 𝒱 bd 10 10 rfl 13 13 13 ?_
  refine step_zWait B 𝒱 bd 11 11 rfl 13 13 13 ?_
  refine step_zWait B 𝒱 bd 12 12 rfl 13 13 13 ?_
  exact hk

end Run

end Cert.Proof.Body
-- ==== Proof.Ends.lean ====
/-
  The first and the last state of a batch: everything at rest, with the batch's rows written at the end.
-/
module

public import proofs.«01_k».proof.Proof.Ring

@[expose] public section

noncomputable section

namespace Cert.Proof.Ends

open Cert.KernelIdeal Cert.KernelIdeal.Gen Cert.Proof.Frag Cert.Proof.Geom Cert.Proof.Marks Cert.Proof.Steps Cert.Proof.Copies Cert.Proof.Ring
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

theorem bigSep_sep_eq {M : Type} [URA M] {I : Type} (s : Finset I) (Φ Ψ : I → sProp M) :
    bigSep s (fun i => iprop(Φ i ∗ Ψ i)) = iprop(bigSep s Φ ∗ bigSep s Ψ) := BI.bigSep_sep s Φ Ψ

/-- The assertions of the indices where `p` holds, each that of its image: all of the images. -/
theorem bigSep_ite_map {M : Type} [URA M] {n m : ℕ} (p : Fin n → Prop) [DecidablePred p] (f : Fin n → Fin m)
    (hf : ∀ i j, p i → p j → f i = f j → i = j) (hs : ∀ s, ∃ j, p j ∧ f j = s) (Φ : Fin m → sProp M) :
    bigSep Finset.univ (fun j => if p j then Φ (f j) else BI.emp) = bigSep Finset.univ Φ := by
  classical
  rw [BI.bigSep_filter_split Finset.univ p]
  have e1 : bigSep (Finset.univ.filter p) (fun j => if p j then Φ (f j) else BI.emp) = bigSep (Finset.univ.filter p) (fun j => Φ (f j)) :=
    BI.bigSep_congr fun j hj => if_pos (Finset.mem_filter.mp hj).2
  have e2 : bigSep (Finset.univ.filter fun j => ¬ p j) (fun j => if p j then Φ (f j) else BI.emp)
      = bigSep (Finset.univ.filter fun j => ¬ p j) (fun _ => (BI.emp : sProp M)) :=
    BI.bigSep_congr fun j hj => if_neg (Finset.mem_filter.mp hj).2
  have e3 : (Finset.univ.filter p).image f = Finset.univ := by
    ext s
    obtain ⟨j, hj, rfl⟩ := hs s
    simp only [Finset.mem_image, Finset.mem_filter, Finset.mem_univ, _root_.true_and, iff_true]
    exact ⟨j, hj, rfl⟩
  have e4 : bigSep (Finset.univ.filter p) (fun j => Φ (f j)) = bigSep Finset.univ Φ := by
    rw [← e3]
    refine (SparseCore.bigSep_image_of_injOn (fun i hi j hj h => ?_) Φ).symm
    exact hf i j (Finset.mem_filter.mp (Finset.mem_coe.mp hi)).2 (Finset.mem_filter.mp (Finset.mem_coe.mp hj)).2 h
  rw [e1, e2, BI.bigSep_emp_const, e4]
  exact Ring.sep_emp_eq' _

variable {F : FTy → Type} [FloatOps F] {U : Type} [URA U]

local notation "𝕄" => MT nD τ sig (HIx 1) (Elt F) ℕ U ℕ

variable {C : Ctx F U} (B : Bat C)

/-- Everything at rest, the rows of `RK` and `RZ` written. -/
def Rest (RK RZ : Fin 13 → Finset ℕ) : sProp 𝕄 :=
  iprop(semVal (C.t, SemLoc.dma B.zs.sem) 0
    ∗ bigSep Finset.univ (fun j => B.IdleZ j (RZ j))
    ∗ bigSep Finset.univ (fun j => B.IdleK j (RK j))
    ∗ bigSep Finset.univ (Bat.Slot C)
    ∗ ((B.kt.view.loc C.t ↦[B.kt.view.set]{fullShare} B.kb) ∗ (B.zt.view.loc C.t ↦[B.zt.view.set]{fullShare} B.zb))
    ∗ wmInv C.emb C.ιwm ∗ B.Ow)

theorem ring_start : iprop(bigSep Finset.univ (fun j => B.IdleK j (B.RK j)) ∗ bigSep Finset.univ (Bat.Slot C))
    ⊢ (bigSep Finset.univ (B.stage 0 0 0) : sProp 𝕄) := by
  have e : B.stage 0 0 0 = fun j => iprop(B.IdleK j (B.RK j) ∗ (if j.val < 4 then Bat.Slot C (slotOf j) else BI.emp)) :=
    funext fun j => if_pos (Nat.zero_le _)
  rw [e]
  refine Entails.trans ?_ (Entails.of_eq (bigSep_sep_eq _ _ _).symm)
  rw [bigSep_ite_map (fun j : Fin 13 => j.val < 4) slotOf (by decide) (by decide) (Bat.Slot C)]

theorem tail_decide (c : Fin 14) :
    (∀ i j : Fin 13, ((i.val < c.val ∧ ¬ i.val + 4 < c.val) ∨ (¬ i.val < c.val ∧ i.val < 4)) → ((j.val < c.val ∧ ¬ j.val + 4 < c.val) ∨ (¬ j.val < c.val ∧ j.val < 4)) →
        slotOf i = slotOf j → i = j)
      ∧ ∀ s, ∃ j : Fin 13, ((j.val < c.val ∧ ¬ j.val + 4 < c.val) ∨ (¬ j.val < c.val ∧ j.val < 4)) ∧ slotOf j = s := by
  revert c
  decide

theorem ring_end : (bigSep Finset.univ (B.stage 13 13 13) : sProp 𝕄)
    ⊢ iprop(bigSep Finset.univ (fun j => B.IdleK j (B.RK' j)) ∗ bigSep Finset.univ (Bat.Slot C)) := by
  have hc : (B.nk.toNat + 15) / 16 < 14 := by have := B.hnk; omega
  have hU : ∀ j : ℕ, B.Uk j ↔ j < (B.nk.toNat + 15) / 16 := fun j => by show 16 * j < _ ↔ _; omega
  generalize (B.nk.toNat + 15) / 16 = c at hc hU
  obtain ⟨h1, h2⟩ := tail_decide ⟨c, hc⟩
  have e : B.stage 13 13 13 = fun j => iprop(B.IdleK j (B.RK' j)
      ∗ (if ((j.val < c ∧ ¬ j.val + 4 < c) ∨ (¬ j.val < c ∧ j.val < 4)) then Bat.Slot C (slotOf j) else BI.emp)) := funext fun j => by
    unfold Bat.stage
    rw [if_neg (by omega), if_neg (by omega), if_pos (by omega)]
    unfold Bat.SD
    by_cases a : j.val < c
    · rw [if_pos ((hU _).mpr a)]
      by_cases b : j.val + 4 < c
      · rw [if_pos ((hU _).mpr b), if_neg (by omega)]
      · rw [if_neg (fun h => b ((hU _).mp h)), if_pos (by omega)]
    · rw [if_neg (fun h => a ((hU _).mp h))]
      by_cases b : j.val < 4
      · rw [if_pos b, if_pos (by omega)]
      · rw [if_neg b, if_neg (by omega)]
  rw [e]
  refine (Entails.of_eq (bigSep_sep_eq _ _ _)).trans ?_
  rw [bigSep_ite_map (fun j : Fin 13 => (j.val < c ∧ ¬ j.val + 4 < c) ∨ (¬ j.val < c ∧ j.val < 4)) slotOf h1 h2 (Bat.Slot C)]

variable [C.EC.LandsIn (upEmb : UEmb _ (MT nD τ sig (HIx 1) (Elt F) ℕ U ℕ))]

theorem start : Rest B B.RK B.RZ ⊢ (|={Set.univ}=> B.St 0 0 0 0 0 : sProp 𝕄) := by
  unfold Rest
  iintro ⟨Hv, HZ, HK, HS, HT, #Hwm, HO⟩
  imod (Transfers.batch_alloc' C.EC C.t (default : HIx 1) rowAmt B.DZ) $$ Hv with Hb
  imodintro
  unfold Bat.St
  rw [Nat.zero_min, Nat.mul_zero, Nat.mul_zero]
  isplitl [Hb HZ]
  · isplitl [Hb]; · iexact Hb
    iapply (show bigSep Finset.univ (fun j => B.IdleZ j (B.RZ j)) ⊢ (bigSep Finset.univ (B.zstage 0) : sProp 𝕄) from
      Entails.of_eq (BI.bigSep_congr fun j _ => (if_neg (by omega)).symm))
    iexact HZ
  isplitl [HK HS]
  · iapply (ring_start B)
    isplitl [HK] <;> iassumption
  isplitl [HT]; · iexact HT
  isplitr; · iexact Hwm
  iexact HO

/-- The zeroed rows' batch collected: each used chunk at rest with its rows written. -/
theorem zeros_join : (bigSep Finset.univ B.DZ : sProp 𝕄)
    ⊢ bigSep Finset.univ (fun j : Fin 13 => if B.Uz j.val then B.IdleZ j (B.RZ' j) else BI.emp) := by
  have h13 := B.Zc_le
  have e1 : (bigSep Finset.univ B.DZ : sProp 𝕄)
      = bigSep Finset.univ (fun q : Fin B.Zc => bigSep Finset.univ (fun r : Fin 48 => B.DZ ⟨48 * q.val + r.val, by have := q.isLt; have := r.isLt; omega⟩)) := by
    rw [← BI.bigSep_univ_prod (fun a : Fin B.Zc × Fin 48 => B.DZ ⟨48 * a.1.val + a.2.val, by have := a.1.isLt; have := a.2.isLt; omega⟩)]
    rw [BI.bigSep_univ_equiv (finProdFinEquiv.trans (finCongr (Nat.mul_comm B.Zc 48))) B.DZ]
    refine BI.bigSep_congr fun a _ => congrArg B.DZ (Fin.ext ?_)
    show a.2.val + 48 * a.1.val = 48 * a.1.val + a.2.val
    omega
  rw [e1]
  have e2 : (bigSep Finset.univ (fun j : Fin 13 => if B.Uz j.val then B.IdleZ j (B.RZ' j) else BI.emp) : sProp 𝕄)
      = bigSep Finset.univ (fun q : Fin B.Zc => B.IdleZ (q.castLE h13) (B.RZ' (q.castLE h13))) := by
    classical
    by_cases h0 : B.Zc = 0
    · have hE : (Finset.univ : Finset (Fin B.Zc)) = ∅ := Finset.univ_eq_empty_iff.mpr (by rw [h0]; infer_instance)
      rw [hE, BI.bigSep_empty]
      refine (BI.bigSep_congr (Ψ := fun _ => (BI.emp : sProp 𝕄)) fun j _ => if_neg fun h => ?_).trans (BI.bigSep_emp_const _)
      have := B.of_Uz h; omega
    · have hpos : 0 < B.Zc := Nat.pos_of_ne_zero h0
      have h := bigSep_ite_map (M := 𝕄) (fun j : Fin 13 => B.Uz j.val) (fun j => if h : j.val < B.Zc then (⟨j.val, h⟩ : Fin B.Zc) else ⟨0, hpos⟩)
        (fun i j hi hj he => by
          rw [dif_pos (B.of_Uz hi), dif_pos (B.of_Uz hj)] at he
          exact Fin.ext (Fin.mk.inj he))
        (fun s => ⟨s.castLE h13, B.Uz_of _ s.isLt, dif_pos s.isLt⟩)
        (fun q : Fin B.Zc => B.IdleZ (q.castLE h13) (B.RZ' (q.castLE h13)))
      rw [← h]
      refine BI.bigSep_congr fun j _ => ?_
      by_cases hu : B.Uz j.val
      · rw [if_pos hu, if_pos hu, dif_pos (B.of_Uz hu)]; rfl
      · rw [if_neg hu, if_neg hu]
  rw [e2]
  refine BI.bigSep_mono fun q _ => ?_
  have hu : B.Uz (q.castLE h13).val := B.Uz_of _ q.isLt
  have e3 : (fun r : Fin 48 => B.DZ ⟨48 * q.val + r.val, by have := q.isLt; have := r.isLt; omega⟩)
      = back C B.zl B.zv B.bw (q.castLE h13) B.z (B.okZ (q.castLE h13) hu) (B.qz (q.castLE h13)) (B.qm (q.castLE h13)) B.fz (B.RZ (q.castLE h13)) :=
    funext fun r => B.DZ_eq (q.castLE h13) hu r _
  rw [e3, show B.RZ' (q.castLE h13) = _ from if_pos hu]
  refine (back_join C B.zl B.zv B.bw (q.castLE h13) B.z (B.okZ (q.castLE h13) hu) _ _ _ _).trans ?_
  unfold Bat.IdleZ
  iintro ⟨Hm, Hl, Hz⟩
  isplitl [Hz]; · iexact Hz
  isplitl [Hl]
  · iexists _; iexact Hl
  iexact Hm

theorem finish : B.St 13 13 13 13 13 ⊢ (|={Set.univ}=> Rest B B.RK' B.RZ' : sProp 𝕄) := by
  have h13 := B.Zc_le
  unfold Bat.St Rest
  rw [Nat.min_eq_right h13, show 48 * rowAmt * B.Zc = rowAmt * (48 * B.Zc) by rw [Nat.mul_comm 48 rowAmt, Nat.mul_assoc]]
  iintro ⟨⟨Hb, HZ⟩, HK, HT, #Hwm, HO⟩
  imod (Transfers.batch_collect' C.EC C.t (by decide : 0 < rowAmt)) $$ Hb with ⟨HD, Hv⟩
  ihave HR := (ring_end B) $$ HK
  icases HR with ⟨HK, HS⟩
  ihave HD := (zeros_join B) $$ HD
  imodintro
  isplitl [Hv]; · iexact Hv
  isplitl [HD HZ]
  · have e : iprop(bigSep Finset.univ (B.zstage 13) ∗ bigSep Finset.univ (fun j : Fin 13 => if B.Uz j.val then B.IdleZ j (B.RZ' j) else BI.emp))
        ⊢ (bigSep Finset.univ (fun j => B.IdleZ j (B.RZ' j)) : sProp 𝕄) := by
      refine (Entails.of_eq (bigSep_sep_eq _ _ _).symm).trans (BI.bigSep_mono fun j _ => ?_)
      unfold Bat.zstage
      by_cases hu : B.Uz j.val
      · rw [if_pos ⟨j.isLt, hu⟩, if_pos hu]
        exact Entails.of_eq (Ring.emp_sep_eq' _)
      · rw [if_neg (fun h => hu h.2), if_neg hu, show B.RZ' j = B.RZ j from if_neg hu]
        exact Entails.of_eq (Ring.sep_emp_eq' _)
    iapply e
    isplitl [HZ] <;> iassumption
  isplitl [HK]; · iexact HK
  isplitl [HS]; · iexact HS
  isplitl [HT]; · iexact HT
  isplitr; · iexact Hwm
  iexact HO

end Cert.Proof.Ends
-- ==== Proof.Loop.lean ====
/-
  The eight batches of a tile: the rows written after some of them, and the loop.
-/
module

public import proofs.«01_k».proof.Proof.Body
public import proofs.«01_k».proof.Proof.Ends
public import Idealize.ShloMosaic.Lib.Scf

@[expose] public section

noncomputable section

namespace Cert.Proof.Loop

open Cert.KernelIdeal Cert.KernelIdeal.Gen Cert.Proof.Frag Cert.Proof.Geom Cert.Proof.Marks Cert.Proof.Steps Cert.Proof.Copies Cert.Proof.Ring
open Cert.Proof.Ends (Rest)
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

local notation "𝕄" => MT nD τ sig (HIx 1) (Elt F) ℕ U ℕ

/-- The rows a tile's chunk `j` of the list `tv`, of `n` entries, has written after `b` batches from batch `b₀`. -/
def rowsAfter (tv : S208.Idx → BitVec 32) (n b₀ b : ℕ) (j : Fin 13) : Finset ℕ :=
  if 16 * j.val < n then (Finset.range b).biUnion fun b' => chunkSet tv j (b₀ + b') else ∅

theorem rowsAfter_zero (tv : S208.Idx → BitVec 32) (n b₀ : ℕ) (j : Fin 13) : rowsAfter tv n b₀ 0 j = ∅ := by
  unfold rowsAfter
  split <;> rfl

theorem rowsAfter_succ (tv : S208.Idx → BitVec 32) (n b₀ b : ℕ) (j : Fin 13) :
    rowsAfter tv n b₀ (b + 1) j = if 16 * j.val < n then rowsAfter tv n b₀ b j ∪ chunkSet tv j (b₀ + b) else rowsAfter tv n b₀ b j := by
  unfold rowsAfter
  by_cases h : 16 * j.val < n
  · rw [if_pos h, if_pos h, if_pos h, Finset.range_add_one, Finset.biUnion_insert, Finset.union_comm]
  · rw [if_neg h, if_neg h, if_neg h]

set_option genInjectivity false in
set_option genSizeOf false in
/-- A tile before its batches: its lists, shares and counts, and its first batch. -/
structure Tl (C : Ctx F U) where
  kl : Memref sig .scVector .vmem S624 .i32
  zl : Memref sig .scVector .vmem S624 .i32
  kt : Memref sig .scVector .vmem S208 .i32
  zt : Memref sig .scVector .vmem S208 .i32
  kb : Buf (Elt F) (kt.view.loc C.t)
  zb : Buf (Elt F) (zt.view.loc C.t)
  z : Memref sig .scVector .vmem S48x2x128 .f32
  hz : z.IsWhole
  zs : DmaSems sig S_
  fz : Buf (Elt F) (z.view.loc C.t)
  nk : BitVec 32
  nz : BitVec 32
  qx : Fin 13 → PosShare TreeShare
  qz : Fin 13 → PosShare TreeShare
  qk : Fin 13 → PosShare TreeShare
  qm : Fin 13 → PosShare TreeShare
  O : CellTallies nD τ sig (HIx 1)
  W : Waits sig (HIx 1)
  b₀ : ℕ
  hb₀ : b₀ + 8 ≤ 256
  hnk : nk.toNat ≤ 208
  hnz : nz.toNat ≤ 208
  okK : ∀ (bw : BitVec 32) (j : Fin 13), bw.toNat < 256 → 16 * j.val < nk.toNat → ChunkOK (kt.view.read (Elt F) kb) bw j
  okZ : ∀ (bw : BitVec 32) (j : Fin 13), bw.toNat < 256 → 16 * j.val < nz.toNat → ChunkOK (zt.view.read (Elt F) zb) bw j
  inK : ∀ (bw : BitVec 32) (j : Fin 13) (hb : bw.toNat < 256) (_ : b₀ ≤ bw.toNat ∧ bw.toNat < b₀ + 8) (h : 16 * j.val < nk.toNat),
    ChunkIn C kl (kt.view.read (Elt F) kb) bw j (okK bw j hb h)
      (fun y => (rowsOf C.x).view.read (Elt F) C.fx (hgR.idx (chunkRows kl (kt.view.read (Elt F) kb) bw j F (okK bw j hb h)) y))
  inZ : ∀ (bw : BitVec 32) (j : Fin 13) (hb : bw.toNat < 256) (_ : b₀ ≤ bw.toNat ∧ bw.toNat < b₀ + 8) (h : 16 * j.val < nz.toNat),
    ChunkIn C zl (zt.view.read (Elt F) zb) bw j (okZ bw j hb h) (z.view.read (Elt F) fz)

namespace Tl

variable {C : Ctx F U} (L : Tl C)

abbrev RK (b : ℕ) : Fin 13 → Finset ℕ := rowsAfter (L.kt.view.read (Elt F) L.kb) L.nk.toNat L.b₀ b
abbrev RZ (b : ℕ) : Fin 13 → Finset ℕ := rowsAfter (L.zt.view.read (Elt F) L.zb) L.nz.toNat L.b₀ b

theorem word (b : ℕ) (hb : b < 8) : (BitVec.ofNat 32 (L.b₀ + b)).toNat = L.b₀ + b := by
  have := L.hb₀
  rw [BitVec.toNat_ofNat]; exact Nat.mod_eq_of_lt (by omega)

theorem word_lt (b : ℕ) (hb : b < 8) : (BitVec.ofNat 32 (L.b₀ + b)).toNat < 256 := by
  have := L.hb₀
  rw [L.word b hb]; omega

/-- Batch `b`. -/
@[reducible] def bat (b : ℕ) (hb : b < 8) : Bat C where
  kl := L.kl
  zl := L.zl
  kt := L.kt
  zt := L.zt
  kb := L.kb
  zb := L.zb
  z := L.z
  hz := L.hz
  zs := L.zs
  fz := L.fz
  nk := L.nk
  nz := L.nz
  qx := L.qx
  qz := L.qz
  qk := L.qk
  qm := L.qm
  O := L.O
  W := L.W
  bw := BitVec.ofNat 32 (L.b₀ + b)
  RK := L.RK b
  RZ := L.RZ b
  hnk := L.hnk
  hnz := L.hnz
  okK := fun j h => L.okK _ j (L.word_lt b hb) h
  okZ := fun j h => L.okZ _ j (L.word_lt b hb) h
  inK := fun j h => L.inK _ j (L.word_lt b hb) (by rw [L.word b hb]; omega) h
  inZ := fun j h => L.inZ _ j (L.word_lt b hb) (by rw [L.word b hb]; omega) h

theorem bat_RK' (b : ℕ) (hb : b < 8) : (L.bat b hb).RK' = L.RK (b + 1) := funext fun j => by
  refine Eq.trans ?_ (rowsAfter_succ _ _ _ _ _).symm
  unfold Bat.RK'
  rw [show (L.bat b hb).bw.toNat = L.b₀ + b from L.word b hb]

theorem bat_RZ' (b : ℕ) (hb : b < 8) : (L.bat b hb).RZ' = L.RZ (b + 1) := funext fun j => by
  refine Eq.trans ?_ (rowsAfter_succ _ _ _ _ _).symm
  unfold Bat.RZ'
  rw [show (L.bat b hb).bw.toNat = L.b₀ + b from L.word b hb]

/-- Between two batches, `b` of them done. -/
def Inv (b : ℕ) : sProp 𝕄 := Rest (L.bat 0 (by decide)) (L.RK b) (L.RZ b)

variable [C.EC.LandsIn (upEmb : UEmb _ (MT nD τ sig (HIx 1) (Elt F) ℕ U ℕ))]
variable {defs : Defs nD τ sig (Elt F) Λ₀} (𝒱 : Variants) (bd : Option 𝒱.V)
variable (arg3 : Memref sig .scVector .hbm S208 .i32) (harg3 : arg3.IsWhole) (arg4 : Memref sig .scVector .hbm S48x2x128 .f32) (harg4 : arg4.IsWhole)
variable (hx : C.x.IsWhole) (ho : C.out.IsWhole) (hkt : L.kt.IsWhole) (hzt : L.zt.IsWhole) (hkl : L.kl.IsWhole) (hzl : L.zl.IsWhole) (hg : C.g.IsWhole)
variable (arg6 : Memref sig .scVector .vmem S208 .i32) (harg6 : arg6.IsWhole) (r0 r1 : DmaSems sig S_)

theorem trips_eq : k0_t1_loop.trips = 8 := by decide

/-- The batch's number, as the kernel computes it. -/
theorem base_eq (v1 : BitVec 32) (h : 8 * v1.toNat = L.b₀) (t : Fin k0_t1_loop.trips) (y : S16.Idx) :
    k0_pay37 v1 0#32 1#32 t y = BitVec.ofNat 32 (L.b₀ + t.val) := by
  have ht : t.val < 8 := lt_of_lt_of_eq t.isLt trips_eq
  have hb := L.hb₀
  show IntOp.addi (IntOp.muli v1 8#32) (Scf.iv 0#32 1#32 t) = _
  apply BitVec.eq_of_toNat_eq
  show (v1 * 8#32 + (0#32 + BitVec.ofNat 32 t.val * 1#32)).toNat = _
  rw [BitVec.toNat_ofNat]
  simp only [BitVec.toNat_add, BitVec.toNat_mul, BitVec.toNat_ofNat]
  omega

/-- One batch. -/
theorem wp_batch (v1 : BitVec 32) (hv1 : 8 * v1.toNat = L.b₀) (t : Fin k0_t1_loop.trips) :
    L.Inv t.val ⊢ wp frame (wpE defs 𝒱 C.t bd) Set.univ
      (k0_t1_body (F := F) C.i C.x hx arg3 harg3 arg4 harg4 C.out ho arg6 harg6 L.kt hkt L.zt hzt L.kl hkl L.zl hzl C.g hg L.z L.hz C.gs C.ss L.zs r0 r1 v1 L.nk L.nz 0#32 t ⟨⟩)
      (fun _ => (L.Inv (t.val + 1) : sProp 𝕄)) := by
  have ht : t.val < 8 := lt_of_lt_of_eq t.isLt trips_eq
  rw [Body.body_eq C.i C.x hx arg3 harg3 arg4 harg4 C.out ho arg6 harg6 L.kt hkt L.zt hzt L.kl hkl L.zl hzl C.g hg L.z L.hz C.gs C.ss L.zs r0 r1 v1 L.nk L.nz t _ rfl]
  have h0 : L.Inv t.val = Rest (L.bat t.val ht) (L.bat t.val ht).RK (L.bat t.val ht).RZ := rfl
  have h1 : Rest (L.bat t.val ht) (L.bat t.val ht).RK' (L.bat t.val ht).RZ' = L.Inv (t.val + 1) := by
    rw [L.bat_RK' t.val ht, L.bat_RZ' t.val ht]; rfl
  rw [h0]
  iintro H
  imod (Ends.start (L.bat t.val ht)) $$ H with H
  iapply (Body.wp_steps (L.bat t.val ht) 𝒱 bd (k0_pay37 v1 0#32 1#32 t) (L.base_eq v1 hv1 t) (k := pure ⟨⟩)
    (Q := fun _ => (L.Inv (t.val + 1) : sProp 𝕄)) (by
      refine (Ends.finish (L.bat t.val ht)).trans ?_
      rw [h1]
      iintro H
      imod H
      rw [show (pure ⟨⟩ : Tile F C.i PUnit) = Prog.ret ⟨⟩ from rfl, wp_ret]
      imodintro
      iexact H))
  iexact H

/-- The eight batches. -/
theorem wp_batches (v1 : BitVec 32) (hv1 : 8 * v1.toNat = L.b₀) {α : Type} {k : Unit → Tile F C.i α} {Q : α → sProp 𝕄} :
    L.Inv 0 ⊢ iprop((L.Inv 8 -∗ wp frame (wpE defs 𝒱 C.t bd) Set.univ (k ⟨⟩) Q)
      -∗ wp frame (wpE defs 𝒱 C.t bd) Set.univ
        (Scf.Loop.for k0_t1_loop k0_t1_ok ⟨⟩ (k0_t1_body (F := F) C.i C.x hx arg3 harg3 arg4 harg4 C.out ho arg6 harg6 L.kt hkt L.zt hzt L.kl hkl L.zl hzl C.g hg L.z L.hz C.gs C.ss L.zs r0 r1 v1 L.nk L.nz 0#32) >>= k) Q) := by
  iintro H Hk
  iapply (Scf.wp_for_bind frame (wpE defs 𝒱 C.t bd) Set.univ _ _ _ _ _ _ (fun b (_ : Unit) => L.Inv b)
    (fun t _ => L.wp_batch 𝒱 bd arg3 harg3 arg4 harg4 hx ho hkt hzt hkl hzl hg arg6 harg6 r0 r1 v1 hv1 t)) $$ H
  iintro %acc H
  iapply Hk
  rw [show Scf.trips k0_t1_loop.lb k0_t1_loop.ub k0_t1_loop.st = 8 from trips_eq]
  iexact H

end Tl

end Cert.Proof.Loop
-- ==== Proof.Cover.lean ====
/-
  A tile's rows, and its two lists: what they must say, and that the rows they name are the tile's, all of them.
-/
module

public import proofs.«01_k».proof.Proof.Loop

@[expose] public section

noncomputable section

namespace Cert.Proof.Cover

open Cert.KernelIdeal Cert.KernelIdeal.Gen Cert.Proof.Frag Cert.Proof.Geom Cert.Proof.Marks Cert.Proof.Steps Cert.Proof.Copies Cert.Proof.Ring
open Cert.Proof.Loop (rowsAfter Tl)
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

/-- The rows of the eight batches from `b₀`. -/
def tileRows (b₀ : ℕ) : Finset ℕ := (Finset.range 150528).filter fun r => b₀ ≤ r / 3 % 256 ∧ r / 3 % 256 < b₀ + 8

theorem mem_tileRows {b₀ r : ℕ} : r ∈ tileRows b₀ ↔ r < 150528 ∧ b₀ ≤ r / 3 % 256 ∧ r / 3 % 256 < b₀ + 8 := by
  unfold tileRows
  rw [Finset.mem_filter, Finset.mem_range]

/-- A list of the tokens where `P` holds: `n` of them, the last chunk filled up with more of them. -/
structure Listed (P : ℕ → Prop) (tv : S208.Idx → BitVec 32) (n : ℕ) : Prop where
  sound : ∀ q (h : q < 208), 16 * (q / 16) < n → (tv (ix208 q h)).toNat < 196 ∧ P (tv (ix208 q h)).toNat
  complete : ∀ p, p < 196 → P p → ∃ q, ∃ h : q < 208, q < n ∧ (tv (ix208 q h)).toNat = p

section Lists

variable {P : ℕ → Prop} {tv : S208.Idx → BitVec 32} {n : ℕ} (h : Listed P tv n)

include h in
theorem chunk_ok (bw : BitVec 32) (j : Fin 13) (hb : bw.toNat < 256) (hj : 16 * j.val < n) : ChunkOK tv bw j :=
  ⟨hb, fun q hq h1 h2 => (h.sound q hq (by omega)).1⟩

include h in
theorem chunk_row (b₀ : ℕ) (hb₀ : b₀ + 8 ≤ 256) (b : ℕ) (hb : b₀ ≤ b ∧ b < b₀ + 8) (j : Fin 13) (hj : 16 * j.val < n) (k : ℕ) (hk : k < 48) :
    chunkRow tv b j k ∈ tileRows b₀ ∧ P (chunkRow tv b j k / 768) := by
  obtain ⟨h1, h2⟩ := h.sound (16 * j.val + k % 16) (ix_lt j k) (by omega)
  rw [mem_tileRows]
  unfold chunkRow rowNo
  generalize (tv (ix208 (16 * j.val + k % 16) (ix_lt j k))).toNat = p at h1 h2
  have e : ((p * 256 + b) * 3 + k / 16) / 768 = p := by omega
  rw [e]
  refine ⟨⟨?_, ?_, ?_⟩, h2⟩ <;> omega

include h in
theorem row_cover (b₀ : ℕ) (r : ℕ) (hr : r ∈ tileRows b₀) (hP : P (r / 768)) : ∃ j : Fin 13, r ∈ rowsAfter tv n b₀ 8 j := by
  rw [mem_tileRows] at hr
  obtain ⟨q, hq, hqn, hp⟩ := h.complete (r / 768) (by omega) hP
  refine ⟨⟨q / 16, by omega⟩, ?_⟩
  unfold rowsAfter
  rw [if_pos (by show 16 * (q / 16) < n; omega), Finset.mem_biUnion]
  refine ⟨r / 3 % 256 - b₀, Finset.mem_range.mpr (by omega), ?_⟩
  unfold chunkSet
  refine Finset.mem_image.mpr ⟨r % 3 * 16 + q % 16, Finset.mem_range.mpr (by omega), ?_⟩
  unfold chunkRow rowNo
  have e : ∀ q' (h' : q' < 208), q' = q → (tv (ix208 q' h')).toNat = r / 768 := by rintro q' h' rfl; exact hp
  rw [e _ _ (by show 16 * (q / 16) + (r % 3 * 16 + q % 16) % 16 = q; omega)]
  omega

end Lists

/-- What the output holds at the end: the input where `keep` holds, else `z0`. -/
def outVal {F : FTy → Type} (keep : ℕ → Prop) [DecidablePred keep] (X : S150528x2x128.Idx → Elt F .f32) (z0 : Elt F .f32) :
    S150528x2x128.Idx → Elt F .f32 := fun y => if keep ((y 0).val / 768) then X y else z0

variable {F : FTy → Type} [FloatOps F] {U : Type} [URA U]

local notation "𝕄" => MT nD τ sig (HIx 1) (Elt F) ℕ U ℕ

section Make

variable {C : Ctx F U}
variable (keep : ℕ → Prop) [DecidablePred keep] (z0 : Elt F .f32)
variable (b₀ : ℕ) (hb₀ : b₀ + 8 ≤ 256)
variable (hT : C.T = markSet (rowsOf C.out).view (tileRows b₀))
variable (hG : C.tgt = outVal keep ((rowsOf C.x).view.read (Elt F) C.fx) z0)

omit [FloatOps F] in
theorem idx_row (lst : Memref sig .scVector .vmem S624 .i32) {tv : S208.Idx → BitVec 32} (bw : BitVec 32) (j : Fin 13) (hc : ChunkOK tv bw j)
    (y : S48x2x128.Idx) : ((hgR.idx (chunkRows lst tv bw j F hc) y) 0).val = chunkRow tv bw.toNat j (y 0).val := by
  refine Eq.trans ?_ (chunkRows_val (F := F) lst tv bw j hc _)
  exact congrArg Fin.val (Shape.Gathers.idx_axis hgR _ y)

include hb₀ hT in
theorem chunk_sub {P : ℕ → Prop} {tv : S208.Idx → BitVec 32} {n : ℕ} (h : Listed P tv n) (bw : BitVec 32) (j : Fin 13)
    (hb : b₀ ≤ bw.toNat ∧ bw.toNat < b₀ + 8) (hj : 16 * j.val < n) : markSet (rowsOf C.out).view (chunkSet tv j bw.toNat) ⊆ C.T := by
  rw [hT]
  refine markSet_mono _ fun r hr => ?_
  obtain ⟨k, hk, rfl⟩ := Finset.mem_image.mp hr
  exact (chunk_row h b₀ hb₀ bw.toNat hb j hj k (Finset.mem_range.mp hk)).1

variable (kl zl : Memref sig .scVector .vmem S624 .i32) (kt zt : Memref sig .scVector .vmem S208 .i32)
variable (kb : Buf (Elt F) (kt.view.loc C.t)) (zb : Buf (Elt F) (zt.view.loc C.t))
variable (z : Memref sig .scVector .vmem S48x2x128 .f32) (hz : z.IsWhole) (zs : DmaSems sig S_) (fz : Buf (Elt F) (z.view.loc C.t))
variable (hz0 : ∀ y, z.view.read (Elt F) fz y = z0) (nk nz : BitVec 32) (q : PosShare TreeShare)
variable (O : CellTallies nD τ sig (HIx 1)) (W : Waits sig (HIx 1))
variable (hnk : nk.toNat ≤ 208) (hnz : nz.toNat ≤ 208)
variable (hK : Listed keep (kt.view.read (Elt F) kb) nk.toNat) (hZ : Listed (fun p => ¬ keep p) (zt.view.read (Elt F) zb) nz.toNat)

/-- A tile whose lists are right. -/
@[reducible] def mkTl : Tl C where
  kl := kl
  zl := zl
  kt := kt
  zt := zt
  kb := kb
  zb := zb
  z := z
  hz := hz
  zs := zs
  fz := fz
  nk := nk
  nz := nz
  qx := fun j => cut 12 q j.val
  qz := fun j => cut 12 fullShare j.val
  qk := fun j => cut 25 fullShare j.val
  qm := fun j => cut 25 fullShare (13 + j.val)
  O := O
  W := W
  b₀ := b₀
  hb₀ := hb₀
  hnk := hnk
  hnz := hnz
  okK := fun bw j hb hj => chunk_ok hK bw j hb hj
  okZ := fun bw j hb hj => chunk_ok hZ bw j hb hj
  inK := fun bw j hb hbb hj => ⟨chunk_sub b₀ hb₀ hT hK bw j hbb hj, fun y => by
    have h := idx_row (F := F) kl bw j (chunk_ok hK bw j hb hj) y
    rw [hG]
    unfold outVal
    rw [if_pos]
    rw [h]
    exact (chunk_row hK b₀ hb₀ bw.toNat hbb j hj _ (y 0).isLt).2⟩
  inZ := fun bw j hb hbb hj => ⟨chunk_sub b₀ hb₀ hT hZ bw j hbb hj, fun y => by
    have h := idx_row (F := F) zl bw j (chunk_ok hZ bw j hb hj) y
    rw [hG, hz0]
    unfold outVal
    rw [if_neg]
    rw [h]
    exact (chunk_row hZ b₀ hb₀ bw.toNat hbb j hj _ (y 0).isLt).2⟩

end Make

end Cert.Proof.Cover
-- ==== Proof.Compact.lean ====
/-
  The compaction's two lists, chunk by chunk: what they hold after each, and what they list in the end.
-/
module

public import proofs.«01_k».proof.Proof.Count
public import proofs.«01_k».proof.Proof.Cover

@[expose] public section

noncomputable section

namespace Cert.Proof.Compact

open Cert.KernelIdeal Cert.KernelIdeal.Gen Cert.Proof.Frag Cert.Proof.PreFrag Cert.Proof.Geom Cert.Proof.Count
open Idealize.ShloMosaic

variable {F : FTy → Type} [FloatOps F]

section OneList

variable (P : ℕ → Prop) [DecidablePred P]

/-- The tokens below `N` for which `P` holds are on the list, in order. -/
def Filled (N : ℕ) (kv : S208.Idx → BitVec 32) : Prop :=
  ∀ p, p < N → P p → ∀ h : Nat.count P p < 208, kv (ix208 (Nat.count P p) h) = BitVec.ofNat 32 p

/-- The list past its end, below `N`, is `w`. -/
def Padded (n N : ℕ) (w : BitVec 32) (kv : S208.Idx → BitVec 32) : Prop := ∀ q, q < N → ∀ h : q < 208, n ≤ q → kv (ix208 q h) = w

variable {P}

theorem Filled.chunk {j : Fin 13} {kv : Vec F S208 .i32} (hf : Filled P (16 * j.val) kv) {m : IVec S16 1} (hm : Says P j m) {n : IVec S16 32}
    (hn : ∀ y, n y = BitVec.ofNat 32 (Nat.count P (16 * j.val))) (h : InList (places n m)) :
    Filled P (16 * (j.val + 1)) (stored kv (places n m) (toks j) m h) := by
  have hpl : ∀ k : Fin 16, m (lane k) = 1#1 → (places n m (lane k)).toNat = Nat.count P (16 * j.val + k.val) := fun k hk => by
    have hc := Nat.count_le P (n := 16 * j.val + k.val)
    rw [places_lane P j m hm n hn, Nat.count_succ, if_pos ((hm k).mp hk), Nat.add_sub_cancel, BitVec.toNat_ofNat, Nat.mod_eq_of_lt (by omega)]
  intro p hp hPp hq
  by_cases hlt : p < 16 * j.val
  · rw [stored_miss kv (places n m) (toks j) m h _ hq, hf p hlt hPp hq]
    intro k hk
    rw [hpl k hk]
    exact (Nat.count_strict_mono hPp (by omega)).ne'
  · have hk : p - 16 * j.val < 16 := by omega
    have he : 16 * j.val + (p - 16 * j.val) = p := by omega
    have hmk : m (lane ⟨p - 16 * j.val, hk⟩) = 1#1 := (hm _).mpr (by show P (16 * j.val + (p - 16 * j.val)); rw [he]; exact hPp)
    refine stored_hit kv (places n m) (toks j) m h _ hq _ ⟨p - 16 * j.val, hk⟩ hmk ?_ ?_
    · rw [hpl _ hmk]; show Nat.count P (16 * j.val + (p - 16 * j.val)) = _; rw [he]
    · intro k hk' e
      rw [hpl k hk'] at e
      rw [toks_lane, Nat.count_injective ((hm k).mp hk') hPp e]

theorem ge_lane (j : Fin 13) (n : IVec S16 32) (nk : ℕ) (hnk : nk < 2 ^ 31) (hn : ∀ y, n y = BitVec.ofNat 32 nk) (k : Fin 16) :
    cmpi .sge (toks j) n (lane k) = 1#1 ↔ nk ≤ 16 * j.val + k.val := by
  show IntOp.cmpi .sge (toks j (lane k)) (n (lane k)) = 1#1 ↔ _
  rw [toks_lane, hn]
  exact sge_word _ _ (by have := j.isLt; have := k.isLt; omega) hnk

theorem toks_toNat (j : Fin 13) (k : Fin 16) : (toks j (lane k)).toNat = 16 * j.val + k.val := by
  rw [toks_lane, BitVec.toNat_ofNat, Nat.mod_eq_of_lt (by omega)]

theorem toks_in (j : Fin 13) : InList (toks j) := fun a y => by
  have ha : a = 0 := Subsingleton.elim _ _
  subst ha
  rw [eq_lane y]
  show (toks j (lane (y 0))).toNat < 208
  have hy : (y 0).val < 16 := (y 0).isLt
  rw [show (toks j (lane (y 0))).toNat = _ from toks_toNat j (y 0)]
  omega

section PadStep

variable {j : Fin 13} {kv : Vec F S208 .i32} {n v : IVec S16 32} {nk : ℕ} (hnk : nk < 2 ^ 31) (hn : ∀ y, n y = BitVec.ofNat 32 nk) (h : InList (toks j))

include hnk hn in
theorem Padded.chunk {w : BitVec 32} (hv : ∀ y, v y = w) (hp : Padded nk (16 * j.val) w kv) :
    Padded nk (16 * (j.val + 1)) w (stored kv (toks j) v (cmpi .sge (toks j) n) h) := by
  intro q hq hq' hle
  by_cases hlt : q < 16 * j.val
  · rw [stored_miss kv (toks j) v _ h q hq', hp q hlt hq' hle]
    intro k _
    rw [toks_toNat]; omega
  · refine stored_hit kv (toks j) v _ h q hq' w ⟨q - 16 * j.val, by omega⟩ ((ge_lane j n nk hnk hn _).mpr ?_) ?_ fun k _ _ => hv _
    · show nk ≤ 16 * j.val + (q - 16 * j.val); omega
    · rw [toks_toNat]; show 16 * j.val + (q - 16 * j.val) = q; omega

include hnk hn in
theorem Filled.pad {N : ℕ} (hlt : ∀ p, p < N → P p → Nat.count P p < nk) (hf : Filled P N kv) :
    Filled P N (stored kv (toks j) v (cmpi .sge (toks j) n) h) := by
  intro p hp hPp hq
  rw [stored_miss kv (toks j) v _ h _ hq, hf p hp hPp hq]
  intro k hk e
  have hk' := (ge_lane j n nk hnk hn k).mp hk
  rw [toks_toNat] at e
  have := hlt p hp hPp
  omega

end PadStep

theorem count_onto (N q : ℕ) (h : q < Nat.count P N) : ∃ p, p < N ∧ P p ∧ Nat.count P p = q := by
  induction N with
  | zero => rw [Nat.count_zero] at h; omega
  | succ N ih =>
    rw [Nat.count_succ] at h
    by_cases hq : q < Nat.count P N
    · obtain ⟨p, hp, hP⟩ := ih hq; exact ⟨p, by omega, hP⟩
    · by_cases hP : P N
      · rw [if_pos hP] at h; exact ⟨N, by omega, hP, by omega⟩
      · rw [if_neg hP] at h; omega

/-- The list filled and padded lists the tokens for which `P` holds. -/
theorem listed (hP : ∀ p, P p → p < 196) {kv : S208.Idx → BitVec 32} (hf : Filled P 208 kv) {w : BitVec 32} (hp : Padded (Nat.count P 208) 208 w kv)
    (hw : (∃ p, P p) → w.toNat < 196 ∧ P w.toNat) : Cover.Listed P kv (Nat.count P 208) where
  sound q h hq := by
    by_cases hlt : q < Nat.count P 208
    · obtain ⟨p, hp', hPp, rfl⟩ := count_onto 208 q hlt
      have := hP p hPp
      rw [hf p hp' hPp h, BitVec.toNat_ofNat, Nat.mod_eq_of_lt (by omega)]
      exact ⟨this, hPp⟩
    · rw [hp q h h (by omega)]
      obtain ⟨p, _, hPp, _⟩ := count_onto (P := P) 208 0 (by omega)
      exact hw ⟨p, hPp⟩
  complete p hp' hPp := by
    have h1 : Nat.count P p < Nat.count P 208 := Nat.count_strict_mono hPp (by omega)
    have h2 := Nat.count_le P (n := p)
    refine ⟨Nat.count P p, by omega, h1, ?_⟩
    rw [hf p (by omega) hPp, BitVec.toNat_ofNat, Nat.mod_eq_of_lt (by omega)]

end OneList

/-! ## Both lists -/

variable (mv : S208.Idx → BitVec 32)

/-- What the compaction holds before chunk `j`. -/
structure At (j : ℕ) (n z : IVec S16 32) (l : BitVec 32) (kv zv : S208.Idx → BitVec 32) : Prop where
  kept : ∀ y, n y = BitVec.ofNat 32 (Nat.count (keepP mv) (16 * j))
  zeroed : ∀ y, z y = BitVec.ofNat 32 (Nat.count (zeroP mv) (16 * j))
  last : Last (keepP mv) (16 * j) l
  kfill : Filled (keepP mv) (16 * j) kv
  zfill : Filled (zeroP mv) (16 * j) zv

theorem At.start (kv zv : S208.Idx → BitVec 32) : At mv 0 zeros zeros 0#32 kv zv where
  kept _ := rfl
  zeroed _ := rfl
  last := ⟨0, by decide, rfl, .inr ⟨rfl, fun p hp => absurd hp (by omega)⟩⟩
  kfill p hp := absurd hp (by omega)
  zfill p hp := absurd hp (by omega)

theorem not_keep_zero : ¬ keepP mv 0 := fun h => absurd h.1 (by omega)

section Chunk

variable {mv} {j : Fin 13} {n z : IVec S16 32} {l : BitVec 32} {kv zv : Vec F S208 .i32} (A : At mv j.val n z l kv zv)
  {v : IVec S16 32} (hv : ∀ k : Fin 16, v (lane k) = mv (ix208 (16 * j.val + k.val) (tok_lt j k)))

include A hv

theorem At.inK : InList (places n (keepM j v)) := places_in (keepP mv) j _ (keepM_says mv j v hv) n A.kept

theorem At.inZ : InList (places z (zeroM j v)) := places_in (zeroP mv) j _ (zeroM_says mv j v hv) z A.zeroed

theorem At.chunk (hk : InList (places n (keepM j v))) (hz : InList (places z (zeroM j v))) :
    At mv (j.val + 1) (total n (keepM j v)) (total z (zeroM j v)) (latest l j (keepM j v))
      (stored kv (places n (keepM j v)) (toks j) (keepM j v) hk) (stored zv (places z (zeroM j v)) (toks j) (zeroM j v) hz) where
  kept y := total_eq (keepP mv) j _ (keepM_says mv j v hv) n A.kept y
  zeroed y := total_eq (zeroP mv) j _ (zeroM_says mv j v hv) z A.zeroed y
  last := latest_last _ (not_keep_zero mv) j _ (keepM_says mv j v hv) l A.last
  kfill := A.kfill.chunk (keepM_says mv j v hv) A.kept hk
  zfill := A.zfill.chunk (zeroM_says mv j v hv) A.zeroed hz

end Chunk

theorem small (P : ℕ → Prop) [DecidablePred P] (n : ℕ) (h : n ≤ 208) : Nat.count P n < 2 ^ 31 := by
  have := Nat.count_le P (n := n)
  omega

/-- What the lists hold before chunk `j` of the filling up. -/
structure Past (j : ℕ) (n z : IVec S16 32) (l : BitVec 32) (kv zv : S208.Idx → BitVec 32) : Prop where
  all : At mv 13 n z l kv zv
  kpad : Padded (Nat.count (keepP mv) 208) (16 * j) l kv
  zpad : Padded (Nat.count (zeroP mv) 208) (16 * j) 0#32 zv

theorem Past.start {n z : IVec S16 32} {l : BitVec 32} {kv zv : S208.Idx → BitVec 32} (A : At mv 13 n z l kv zv) : Past mv 0 n z l kv zv where
  all := A
  kpad q hq := absurd hq (by omega)
  zpad q hq := absurd hq (by omega)

theorem Past.chunk {j : Fin 13} {n z : IVec S16 32} {l : BitVec 32} {kv zv : Vec F S208 .i32} (A : Past mv j.val n z l kv zv) (h h' : InList (toks j)) :
    Past mv (j.val + 1) n z l (stored kv (toks j) (muli ones (broadcast S16 l)) (cmpi .sge (toks j) n) h)
      (stored zv (toks j) zeros (cmpi .sge (toks j) z) h') where
  all := {
    kept := A.all.kept
    zeroed := A.all.zeroed
    last := A.all.last
    kfill := A.all.kfill.pad (nk := Nat.count (keepP mv) 208) (small _ _ (by decide)) A.all.kept h
      fun p hp hP => Nat.count_strict_mono hP hp
    zfill := A.all.zfill.pad (nk := Nat.count (zeroP mv) 208) (small _ _ (by decide)) A.all.zeroed h'
      fun p hp hP => Nat.count_strict_mono hP hp }
  kpad := A.kpad.chunk (small _ _ (by decide)) A.all.kept h fun y => by
    show 1#32 * l = l
    rw [BitVec.one_mul]
  zpad := A.zpad.chunk (small _ _ (by decide)) A.all.zeroed h' fun y => rfl

section Done

variable {mv} {n z : IVec S16 32} {l : BitVec 32} {kv zv : S208.Idx → BitVec 32} (A : Past mv 13 n z l kv zv)

include A

theorem Past.nk : (greatest n).toNat = Nat.count (keepP mv) 208 := by
  have := Nat.count_le (keepP mv) (n := 16 * 13)
  rw [greatest_const n _ (by omega) A.all.kept, BitVec.toNat_ofNat, Nat.mod_eq_of_lt (by omega)]

theorem Past.nz : (greatest z).toNat = Nat.count (zeroP mv) 208 := by
  have := Nat.count_le (zeroP mv) (n := 16 * 13)
  rw [greatest_const z _ (by omega) A.all.zeroed, BitVec.toNat_ofNat, Nat.mod_eq_of_lt (by omega)]

theorem Past.nk_le : (greatest n).toNat ≤ 208 := by rw [A.nk]; exact Nat.count_le _

theorem Past.nz_le : (greatest z).toNat ≤ 208 := by rw [A.nz]; exact Nat.count_le _

theorem Past.listK : Cover.Listed (keepP mv) kv (greatest n).toNat := by
  rw [A.nk]
  refine listed (fun p hp => hp.2.1) A.all.kfill A.kpad fun ⟨p, hp⟩ => ?_
  obtain ⟨L, hL, e, h⟩ := A.all.last
  rw [e, BitVec.toNat_ofNat, Nat.mod_eq_of_lt (by omega)]
  rcases h with h | ⟨_, h⟩
  · exact ⟨h.2.1, h⟩
  · have := hp.2.1
    exact absurd hp (h p (by omega))

theorem Past.listZ : Cover.Listed (fun p => ¬ keepP mv p) zv (greatest z).toNat := by
  rw [A.nz]
  have hl := listed (P := zeroP mv) (fun p hp => hp.1) A.all.zfill A.zpad fun _ => ⟨by decide, by decide, not_keep_zero mv⟩
  exact ⟨fun q h hq => ⟨(hl.sound q h hq).1, (hl.sound q h hq).2.2⟩, fun p hp hP => hl.complete p hp ⟨hp, hP⟩⟩

end Done

end Cert.Proof.Compact
-- ==== Proof.Setup.lean ====
/-
  From the tile's whole buffers to the batches' state, and back.
-/
module

public import proofs.«01_k».proof.Proof.Cover
public import Idealize.ShloMosaic.Lib.Ring

@[expose] public section

noncomputable section

namespace Cert.Proof.Setup

open Cert.KernelIdeal Cert.KernelIdeal.Gen Cert.Proof.Frag Cert.Proof.Geom Cert.Proof.Marks Cert.Proof.Steps Cert.Proof.Copies Cert.Proof.Ring
open Cert.Proof.Loop (rowsAfter Tl)
open Cert.Proof.Ends (bigSep_sep_eq Rest)
open Cert.Proof.Cover
open Idealize.ShloMosaic.Ring (lead_disjoint lead_cover pointsTo_sub_blocks pointsTo_sub_blocks_join_exists)
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

/-! ## Families of rectangles of a view -/

section Rects

variable {κ : Kind} {sp : Space} {s : Shape} {e : EltTy} (v : View sig κ sp s e) {B : Type} [Fintype B] (r : B → Rect s)

theorem slices_disjoint (hd : ∀ b b', b ≠ b' → Disjoint (r b).set (r b').set) (b b' : B) (h : b ≠ b') :
    Disjoint (v.slice (r b)).set (v.slice (r b')).set := by
  rw [View.set_slice, View.set_slice]
  exact (Finset.disjoint_map _).mpr (hd b b' h)

theorem slices_cover [DecidableEq v.ty.Idx] [DecidableEq s.Idx] (hc : Finset.univ.biUnion (fun b => (r b).set) = Finset.univ) :
    Finset.univ.biUnion (fun b => (v.slice (r b)).set) = v.set := by
  ext x
  rw [Finset.mem_biUnion]
  constructor
  · rintro ⟨b, -, hx⟩
    exact v.set_slice_subset _ hx
  · intro hx
    obtain ⟨y, -, rfl⟩ := Finset.mem_map.mp hx
    have := Finset.mem_univ y
    rw [← hc, Finset.mem_biUnion] at this
    obtain ⟨b, hb, hy⟩ := this
    refine ⟨b, hb, ?_⟩
    rw [View.set_slice]
    exact Finset.mem_map_of_mem _ hy

end Rects

variable {F : FTy → Type} [FloatOps F] {U : Type} [URA U]

local notation "𝕄" => MT nD τ sig (HIx 1) (Elt F) ℕ U ℕ

/-! ## A list's windows, the ring's slots -/

section Windows

theorem win_rect_disjoint (j j' : Fin 13) (h : j ≠ j') :
    Disjoint (Rect.unit (s := S624) ![48 * j.val] S48.size (inb_win j)).set (Rect.unit (s := S624) ![48 * j'.val] S48.size (inb_win j')).set :=
  lead_disjoint (s := S624) 0 48 (fun j => ![48 * j.val]) S48.size inb_win (fun _ => rfl) rfl j j' h

theorem win_rect_cover : Finset.univ.biUnion (fun j : Fin 13 => (Rect.unit (s := S624) ![48 * j.val] S48.size (inb_win j)).set) = Finset.univ :=
  lead_cover (s := S624) 0 48 (fun j => ![48 * j.val]) S48.size inb_win (fun _ => rfl) (fun j a ha => absurd (Subsingleton.elim a 0) ha) rfl
    (fun a ha => absurd (Subsingleton.elim a 0) ha) rfl

end Windows

variable (C : Ctx F U)

theorem win_set (lst : Memref sig .scVector .vmem S624 .i32) (j : Fin 13) :
    (win lst j).view.set = (lst.view.slice (Rect.unit (s := S624) ![48 * j.val] S48.size (inb_win j))).set := rfl

theorem win_disjoint (lst : Memref sig .scVector .vmem S624 .i32) (j j' : Fin 13) (h : j ≠ j') : Disjoint (win lst j).view.set (win lst j').view.set := by
  have := slices_disjoint lst.view (fun j : Fin 13 => Rect.unit (s := S624) ![48 * j.val] S48.size (inb_win j)) win_rect_disjoint j j' h
  rw [← win_set lst j, ← win_set lst j'] at this
  exact this

theorem win_cover (lst : Memref sig .scVector .vmem S624 .i32) [DecidableEq lst.view.ty.Idx] :
    Finset.univ.biUnion (fun j : Fin 13 => (win lst j).view.set) = lst.view.set := by
  classical
  have := slices_cover lst.view (fun j : Fin 13 => Rect.unit (s := S624) ![48 * j.val] S48.size (inb_win j)) win_rect_cover
  rw [← this]

theorem some_contents (ℓ : Loc nD τ sig) (I : Finset (Idx ℓ)) (l : Buf (Elt F) ℓ) :
    (ℓ ↦[I]{fullShare} l : sProp 𝕄) ⊢ iprop(∃ l, ℓ ↦[I]{fullShare} l) := by
  iintro H
  iexists l
  iexact H

theorem win_split (lst : Memref sig .scVector .vmem S624 .i32) :
    iprop(∃ l, lst.view.loc C.t ↦[lst.view.set]{fullShare} l)
      ⊢ (bigSep Finset.univ (fun j : Fin 13 => iprop(∃ l, lst.view.loc C.t ↦[(win lst j).view.set]{fullShare} l)) : sProp 𝕄) := by
  classical
  iintro ⟨%l, H⟩
  iapply (show (lst.view.loc C.t ↦[lst.view.set]{fullShare} l : sProp 𝕄) ⊢ _ from by
    rw [pointsTo_sub_blocks (ℓ := lst.view.loc C.t) (fun j : Fin 13 => (win lst j).view.set) (win_disjoint lst) lst.view.set (win_cover lst) l]
    exact BI.bigSep_mono fun j _ => some_contents _ _ l)
  iexact H

theorem win_join (lst : Memref sig .scVector .vmem S624 .i32) :
    (bigSep Finset.univ (fun j : Fin 13 => iprop(∃ l, lst.view.loc C.t ↦[(win lst j).view.set]{fullShare} l)) : sProp 𝕄)
      ⊢ iprop(∃ l, lst.view.loc C.t ↦[lst.view.set]{fullShare} l) := by
  classical
  exact pointsTo_sub_blocks_join_exists (ℓ := lst.view.loc C.t) (fun j : Fin 13 => (win lst j).view.set) (win_disjoint lst) lst.view.set (win_cover lst)
    (listBuf lst F fun _ => 0#32)

theorem slot_rect_disjoint (j j' : Fin 4) (h : j ≠ j') :
    Disjoint (Rect.unit (s := S4x48x2x128) ![j.val, 0, 0, 0] S1x48x2x128.size (inb_slot j)).set
      (Rect.unit (s := S4x48x2x128) ![j'.val, 0, 0, 0] S1x48x2x128.size (inb_slot j')).set :=
  lead_disjoint (s := S4x48x2x128) 0 1 (fun j => ![j.val, 0, 0, 0]) S1x48x2x128.size inb_slot (fun j => (Nat.one_mul _).symm) rfl j j' h

theorem slot_rect_cover :
    Finset.univ.biUnion (fun j : Fin 4 => (Rect.unit (s := S4x48x2x128) ![j.val, 0, 0, 0] S1x48x2x128.size (inb_slot j)).set) = Finset.univ :=
  lead_cover (s := S4x48x2x128) 0 1 (fun j => ![j.val, 0, 0, 0]) S1x48x2x128.size inb_slot (fun j => (Nat.one_mul _).symm)
    (fun j a ha => by fin_cases a; · exact absurd rfl ha
                      all_goals rfl) rfl
    (fun a ha => by fin_cases a; · exact absurd rfl ha
                    all_goals rfl) rfl

theorem slot_set (g : Memref sig .scVector .vmem S4x48x2x128 .f32) (s : Fin 4) :
    (slot g s).view.set = (g.view.slice (Rect.unit (s := S4x48x2x128) ![s.val, 0, 0, 0] S1x48x2x128.size (inb_slot s))).set :=
  View.set_reshape _ _

theorem slot_disjoint (g : Memref sig .scVector .vmem S4x48x2x128 .f32) (s s' : Fin 4) (h : s ≠ s') :
    Disjoint (slot g s).view.set (slot g s').view.set := by
  have := slices_disjoint g.view (fun j : Fin 4 => Rect.unit (s := S4x48x2x128) ![j.val, 0, 0, 0] S1x48x2x128.size (inb_slot j)) slot_rect_disjoint s s' h
  rw [← slot_set g s, ← slot_set g s'] at this
  exact this

theorem slot_cover (g : Memref sig .scVector .vmem S4x48x2x128 .f32) [DecidableEq g.view.ty.Idx] :
    Finset.univ.biUnion (fun s : Fin 4 => (slot g s).view.set) = g.view.set := by
  classical
  have := slices_cover g.view (fun j : Fin 4 => Rect.unit (s := S4x48x2x128) ![j.val, 0, 0, 0] S1x48x2x128.size (inb_slot j)) slot_rect_cover
  rw [← this]
  exact Finset.biUnion_congr rfl fun s _ => slot_set g s

theorem slot_split : iprop(∃ l, C.g.view.loc C.t ↦[C.g.view.set]{fullShare} l)
      ⊢ (bigSep Finset.univ (fun s : Fin 4 => iprop(∃ l, (slot C.g s).view.loc C.t ↦[(slot C.g s).view.set]{fullShare} l)) : sProp 𝕄) := by
  classical
  iintro ⟨%l, H⟩
  iapply (show (C.g.view.loc C.t ↦[C.g.view.set]{fullShare} l : sProp 𝕄) ⊢ _ from by
    rw [pointsTo_sub_blocks (ℓ := C.g.view.loc C.t) (fun j : Fin 4 => (slot C.g j).view.set) (slot_disjoint C.g) C.g.view.set (slot_cover C.g) l]
    exact BI.bigSep_mono fun j _ => some_contents _ _ l)
  iexact H

theorem slot_join (l₀ : Buf (Elt F) (C.g.view.loc C.t)) :
    (bigSep Finset.univ (fun s : Fin 4 => iprop(∃ l, (slot C.g s).view.loc C.t ↦[(slot C.g s).view.set]{fullShare} l)) : sProp 𝕄)
      ⊢ iprop(∃ l, C.g.view.loc C.t ↦[C.g.view.set]{fullShare} l) := by
  classical
  exact pointsTo_sub_blocks_join_exists (ℓ := C.g.view.loc C.t) (fun j : Fin 4 => (slot C.g j).view.set) (slot_disjoint C.g) C.g.view.set (slot_cover C.g) l₀

/-! ## The output's pieces -/

/-- The output in write mode, cut into the chunks' pieces. -/
theorem marks_split :
    (tok C.emb ((rowsOf C.out).view.loc C.t) C.T fullShare C.f C.G ∅ : sProp 𝕄)
      ⊢ iprop(bigSep Finset.univ (fun j : Fin 13 => C.mks (cut 25 fullShare j.val) ∅)
          ∗ bigSep Finset.univ (fun j : Fin 13 => C.mks (cut 25 fullShare (13 + j.val)) ∅)) := by
  refine (tok_cut_same 25 fullShare ∅).1.trans (Entails.of_eq ?_)
  refine (BI.bigSep_univ_equiv (finSumFinEquiv (m := 13) (n := 13)) _).trans ?_
  rw [BI.bigSep_univ_sum]
  refine congrArg₂ _ (BI.bigSep_congr fun j _ => ?_) (BI.bigSep_congr fun j _ => ?_)
  · unfold Ctx.mks; rw [markSet_empty]; rfl
  · unfold Ctx.mks; rw [markSet_empty]; rfl

/-- … and put together. -/
theorem marks_join (RK RZ : Fin 13 → Finset ℕ) (hT : ∀ e ∈ C.T, (∃ j, e ∈ markSet (rowsOf C.out).view (RK j)) ∨ ∃ j, e ∈ markSet (rowsOf C.out).view (RZ j)) :
    (iprop(bigSep Finset.univ (fun j : Fin 13 => C.mks (cut 25 fullShare j.val) (RK j))
          ∗ bigSep Finset.univ (fun j : Fin 13 => C.mks (cut 25 fullShare (13 + j.val)) (RZ j))) : sProp 𝕄)
      ⊢ iprop(∃ W, ⌜C.T ⊆ W⌝ ∗ tok C.emb ((rowsOf C.out).view.loc C.t) C.T fullShare C.f C.G W) := by
  classical
  let Wm : Fin 13 ⊕ Fin 13 → Finset (Idx ((rowsOf C.out).view.loc C.t)) := Sum.elim (fun j => markSet (rowsOf C.out).view (RK j)) (fun j => markSet (rowsOf C.out).view (RZ j))
  have key : (iprop(bigSep Finset.univ (fun j : Fin 13 => C.mks (cut 25 fullShare j.val) (RK j))
          ∗ bigSep Finset.univ (fun j : Fin 13 => C.mks (cut 25 fullShare (13 + j.val)) (RZ j))) : sProp 𝕄)
      = bigSep Finset.univ (fun i : Fin 26 => tok C.emb ((rowsOf C.out).view.loc C.t) C.T (cut 25 fullShare i.val) C.f C.G
          (Wm ((finSumFinEquiv (m := 13) (n := 13)).symm i))) := by
    refine Eq.trans ?_ (BI.bigSep_univ_equiv (finSumFinEquiv (m := 13) (n := 13)) _).symm
    rw [BI.bigSep_univ_sum]
    refine congrArg₂ _ (BI.bigSep_congr fun j _ => ?_) (BI.bigSep_congr fun j _ => ?_)
    · rw [Equiv.symm_apply_apply]; rfl
    · rw [Equiv.symm_apply_apply]; rfl
  rw [key]
  refine (tok_cut_fin 25 fullShare (fun i : Fin 26 => Wm ((finSumFinEquiv (m := 13) (n := 13)).symm i))).2.trans ?_
  iintro H
  iexists (Finset.univ.biUnion fun i : Fin 26 => Wm ((finSumFinEquiv (m := 13) (n := 13)).symm i))
  isplitr
  · ipureintro
    intro e he
    rw [Finset.mem_biUnion]
    rcases hT e he with ⟨j, hj⟩ | ⟨j, hj⟩
    · exact ⟨finSumFinEquiv (m := 13) (n := 13) (Sum.inl j), Finset.mem_univ _, by rw [Equiv.symm_apply_apply]; exact hj⟩
    · exact ⟨finSumFinEquiv (m := 13) (n := 13) (Sum.inr j), Finset.mem_univ _, by rw [Equiv.symm_apply_apply]; exact hj⟩
  · iexact H

/-! ## The whole -/

section Whole

variable {C} (L : Tl C) (q : PosShare TreeShare)

/-- What the tile holds around its batches: the output with `Q` of its write mode, everything else whole. -/
def Held (M : sProp 𝕄) : sProp 𝕄 :=
  iprop(M ∗ C.xs q
    ∗ ((L.z.view.loc C.t ↦[L.z.view.set]{fullShare} L.fz)
      ∗ (∃ l, L.kl.view.loc C.t ↦[L.kl.view.set]{fullShare} l) ∗ (∃ l, L.zl.view.loc C.t ↦[L.zl.view.set]{fullShare} l)
      ∗ (∃ l, C.g.view.loc C.t ↦[C.g.view.set]{fullShare} l))
    ∗ (bigSep Finset.univ (fun s : Fin 4 => semVal (C.t, SemLoc.dma (slotSem C.gs s)) 0)
      ∗ bigSep Finset.univ (fun s : Fin 4 => semVal (C.t, SemLoc.dma (slotSem C.ss s)) 0)
      ∗ semVal (C.t, SemLoc.dma L.zs.sem) 0)
    ∗ ((L.kt.view.loc C.t ↦[L.kt.view.set]{fullShare} L.kb) ∗ (L.zt.view.loc C.t ↦[L.zt.view.set]{fullShare} L.zb))
    ∗ wmInv C.emb C.ιwm ∗ (L.bat 0 (by decide)).Ow)

variable (hqx : L.qx = fun j => cut 12 q j.val) (hqz : L.qz = fun j => cut 12 fullShare j.val)
  (hqk : L.qk = fun j => cut 25 fullShare j.val) (hqm : L.qm = fun j => cut 25 fullShare (13 + j.val))

theorem idleK_eq (R : Fin 13 → Finset ℕ) (B : Bat C) : (bigSep Finset.univ (fun j => B.IdleK j (R j)) : sProp 𝕄)
    = iprop(bigSep Finset.univ (fun j => C.xs (B.qx j)) ∗ bigSep Finset.univ (fun j : Fin 13 => iprop(∃ l, B.kl.view.loc C.t ↦[(win B.kl j).view.set]{fullShare} l))
        ∗ bigSep Finset.univ (fun j => C.mks (B.qk j) (R j))) := by
  unfold Bat.IdleK
  rw [bigSep_sep_eq, bigSep_sep_eq]

theorem idleZ_eq (R : Fin 13 → Finset ℕ) (B : Bat C) : (bigSep Finset.univ (fun j => B.IdleZ j (R j)) : sProp 𝕄)
    = iprop(bigSep Finset.univ (fun j => (B.z.view.loc C.t ↦[B.z.view.set]{B.qz j} B.fz)) ∗ bigSep Finset.univ (fun j : Fin 13 => iprop(∃ l, B.zl.view.loc C.t ↦[(win B.zl j).view.set]{fullShare} l))
        ∗ bigSep Finset.univ (fun j => C.mks (B.qm j) (R j))) := by
  unfold Bat.IdleZ
  rw [bigSep_sep_eq, bigSep_sep_eq]

theorem slots_eq : (bigSep Finset.univ (Bat.Slot C) : sProp 𝕄)
    = iprop(bigSep Finset.univ (fun s : Fin 4 => iprop(∃ fs, (slot C.g s).view.loc C.t ↦[(slot C.g s).view.set]{fullShare} fs))
      ∗ bigSep Finset.univ (fun s : Fin 4 => semVal (C.t, SemLoc.dma (slotSem C.gs s)) 0)
      ∗ bigSep Finset.univ (fun s : Fin 4 => semVal (C.t, SemLoc.dma (slotSem C.ss s)) 0)) := by
  unfold Bat.Slot
  rw [bigSep_sep_eq, bigSep_sep_eq]

include hqx hqz hqk hqm in
theorem enter : Held L q (tok C.emb ((rowsOf C.out).view.loc C.t) C.T fullShare C.f C.G ∅) ⊢ (L.Inv 0 : sProp 𝕄) := by
  have e0 : ∀ tv n b₀, rowsAfter tv n b₀ 0 = fun _ => ∅ := fun tv n b₀ => funext fun j => Loop.rowsAfter_zero _ _ _ _
  unfold Tl.Inv Rest
  rw [idleK_eq, idleZ_eq, slots_eq]
  unfold Tl.RK Tl.RZ
  rw [e0, e0]
  unfold Held
  dsimp only [Tl.bat]
  rw [hqx, hqz, hqk, hqm]
  iintro ⟨HM, Hx, ⟨Hz, Hkl, Hzl, Hg⟩, ⟨Hgs, Hss, Hzs⟩, HT, #Hwm, HO⟩
  ihave HM := (marks_split C) $$ HM
  icases HM with ⟨HMk, HMz⟩
  ihave Hx := (pointsTo_cut 12 q).1 $$ Hx
  ihave Hz := (pointsTo_cut 12 fullShare).1 $$ Hz
  ihave Hkl := (win_split C L.kl) $$ Hkl
  ihave Hzl := (win_split C L.zl) $$ Hzl
  ihave Hg := (slot_split C) $$ Hg
  isplitl [Hzs]; · iexact Hzs
  isplitl [Hz Hzl HMz]
  · isplitl [Hz]; · iexact Hz
    isplitl [Hzl]; · iexact Hzl
    iexact HMz
  isplitl [Hx Hkl HMk]
  · isplitl [Hx]; · iexact Hx
    isplitl [Hkl]; · iexact Hkl
    iexact HMk
  isplitl [Hg Hgs Hss]
  · isplitl [Hg]; · iexact Hg
    isplitl [Hgs]; · iexact Hgs
    iexact Hss
  isplitl [HT]; · iexact HT
  isplitr; · iexact Hwm
  iexact HO

include hqx hqz hqk hqm in
theorem leave (l₀ : Buf (Elt F) (C.g.view.loc C.t)) (hT : ∀ e ∈ C.T, (∃ j, e ∈ markSet (rowsOf C.out).view (L.RK 8 j)) ∨ ∃ j, e ∈ markSet (rowsOf C.out).view (L.RZ 8 j)) :
    L.Inv 8 ⊢ (Held L q iprop(∃ W, ⌜C.T ⊆ W⌝ ∗ tok C.emb ((rowsOf C.out).view.loc C.t) C.T fullShare C.f C.G W) : sProp 𝕄) := by
  unfold Tl.Inv Rest
  rw [idleK_eq, idleZ_eq, slots_eq]
  unfold Held
  dsimp only [Tl.bat]
  rw [hqx, hqz, hqk, hqm]
  iintro ⟨Hzs, ⟨Hz, Hzl, HMz⟩, ⟨Hx, Hkl, HMk⟩, ⟨Hg, Hgs, Hss⟩, HT, #Hwm, HO⟩
  ihave Hx := (pointsTo_cut 12 q).2 $$ Hx
  ihave Hz := (pointsTo_cut 12 fullShare).2 $$ Hz
  ihave Hkl := (win_join C L.kl) $$ Hkl
  ihave Hzl := (win_join C L.zl) $$ Hzl
  ihave Hg := (slot_join C l₀) $$ Hg
  isplitl [HMk HMz]
  · iapply (marks_join C (L.RK 8) (L.RZ 8) hT)
    isplitl [HMk]; · iexact HMk
    iexact HMz
  isplitl [Hx]; · iexact Hx
  isplitl [Hz Hkl Hzl Hg]
  · isplitl [Hz]; · iexact Hz
    isplitl [Hkl]; · iexact Hkl
    isplitl [Hzl]; · iexact Hzl
    iexact Hg
  isplitl [Hgs Hss Hzs]
  · isplitl [Hgs]; · iexact Hgs
    isplitl [Hss]; · iexact Hss
    iexact Hzs
  isplitl [HT]; · iexact HT
  isplitr; · iexact Hwm
  iexact HO

/-- All the tile's rows are written by the end. -/
theorem all_written (keep : ℕ → Prop) (hK : Listed keep (L.kt.view.read (Elt F) L.kb) L.nk.toNat)
    (hZ : Listed (fun p => ¬ keep p) (L.zt.view.read (Elt F) L.zb) L.nz.toNat) (hT : C.T = markSet (rowsOf C.out).view (tileRows L.b₀)) :
    ∀ e ∈ C.T, (∃ j, e ∈ markSet (rowsOf C.out).view (L.RK 8 j)) ∨ ∃ j, e ∈ markSet (rowsOf C.out).view (L.RZ 8 j) := by
  classical
  intro e he
  rw [hT] at he
  obtain ⟨r, hr, hre⟩ : ∃ r ∈ tileRows L.b₀, e ∈ markSet (rowsOf C.out).view {r} := by
    unfold markSet at he ⊢
    simp only [Finset.mem_map, Finset.mem_filter, Finset.mem_univ, _root_.true_and, Finset.mem_singleton] at he ⊢
    obtain ⟨y, hy, rfl⟩ := he
    exact ⟨_, hy, y, rfl, rfl⟩
  by_cases h : keep (r / 768)
  · obtain ⟨j, hj⟩ := row_cover hK L.b₀ r hr h
    exact .inl ⟨j, markSet_mono _ (Finset.singleton_subset_iff.mpr hj) hre⟩
  · obtain ⟨j, hj⟩ := row_cover hZ L.b₀ r hr h
    exact .inr ⟨j, markSet_mono _ (Finset.singleton_subset_iff.mpr hj) hre⟩

variable [C.EC.LandsIn (upEmb : UEmb _ (MT nD τ sig (HIx 1) (Elt F) ℕ U ℕ))]
variable {defs : Defs nD τ sig (Elt F) Λ₀} (𝒱 : Variants) (bd : Option 𝒱.V)
variable (arg3 : Memref sig .scVector .hbm S208 .i32) (harg3 : arg3.IsWhole) (arg4 : Memref sig .scVector .hbm S48x2x128 .f32) (harg4 : arg4.IsWhole)
variable (hx : C.x.IsWhole) (ho : C.out.IsWhole) (hkt : L.kt.IsWhole) (hzt : L.zt.IsWhole) (hkl : L.kl.IsWhole) (hzl : L.zl.IsWhole) (hg : C.g.IsWhole)
variable (arg6 : Memref sig .scVector .vmem S208 .i32) (harg6 : arg6.IsWhole) (r0 r1 : DmaSems sig S_)

include hqx hqz hqk hqm in
/-- The batches, from whole buffers to whole buffers. -/
theorem wp_all (keep : ℕ → Prop) (hK : Listed keep (L.kt.view.read (Elt F) L.kb) L.nk.toNat)
    (hZ : Listed (fun p => ¬ keep p) (L.zt.view.read (Elt F) L.zb) L.nz.toNat) (hT : C.T = markSet (rowsOf C.out).view (tileRows L.b₀))
    (l₀ : Buf (Elt F) (C.g.view.loc C.t))
    (v1 : BitVec 32) (hv1 : 8 * v1.toNat = L.b₀) {α : Type} {k : Unit → Tile F C.i α} {Q : α → sProp 𝕄} :
    Held L q (tok C.emb ((rowsOf C.out).view.loc C.t) C.T fullShare C.f C.G ∅)
      ⊢ iprop((Held L q iprop(∃ W, ⌜C.T ⊆ W⌝ ∗ tok C.emb ((rowsOf C.out).view.loc C.t) C.T fullShare C.f C.G W)
          -∗ wp frame (wpE defs 𝒱 C.t bd) Set.univ (k ⟨⟩) Q)
      -∗ wp frame (wpE defs 𝒱 C.t bd) Set.univ
        (Scf.Loop.for k0_t1_loop k0_t1_ok ⟨⟩ (k0_t1_body (F := F) C.i C.x hx arg3 harg3 arg4 harg4 C.out ho arg6 harg6 L.kt hkt L.zt hzt L.kl hkl L.zl hzl C.g hg L.z L.hz C.gs C.ss L.zs r0 r1 v1 L.nk L.nz 0#32) >>= k) Q) := by
  have h1 := enter L q hqx hqz hqk hqm
  have h2 := leave L q hqx hqz hqk hqm l₀ (all_written L keep hK hZ hT)
  iintro H Hk
  ihave H := h1 $$ H
  iapply (L.wp_batches 𝒱 bd arg3 harg3 arg4 harg4 hx ho hkt hzt hkl hzl hg arg6 harg6 r0 r1 v1 hv1) $$ H
  iintro H
  ihave H := h2 $$ H
  iapply Hk
  iexact H

end Whole

end Cert.Proof.Setup
-- ==== Proof.Prelude.lean ====
/-
  A tile's run up to its batches: the mask and the zeros copied in, the two lists made.
-/
module

public import proofs.«01_k».proof.Proof.Compact
public import proofs.«01_k».proof.Proof.Setup
public import Idealize.ShloMosaic.Lib.SparseCore.Ops

@[expose] public section

noncomputable section

namespace Cert.Proof.Prelude

open Cert.KernelIdeal Cert.KernelIdeal.Gen Cert.Proof.Frag Cert.Proof.PreFrag Cert.Proof.Geom Cert.Proof.Steps Cert.Proof.Count Cert.Proof.Compact
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

local notation "𝕄" => MT nD τ sig (HIx 1) (Elt F) ℕ U ℕ

section Rules

variable {defs : Defs nD τ sig (Elt F) Λ₀} (𝒱 : Variants) (bd : Option 𝒱.V) (d : Dev nD) (i : grid0.Coords)
variable {α : Type} {Q : α → sProp (MT nD τ sig (HIx 1) (Elt F) ℕ U ℕ)}

/-! ## Copying in -/

/-- What a tile owes, and has waited for. -/
def Owing (O : CellTallies nD τ sig (HIx 1)) (W : Waits sig (HIx 1)) : sProp 𝕄 :=
  iprop(Transfers.MayWaits (thr d i) (default : HIx 1) O ∗ ∃ W', ⌜∀ p ∈ W', p ∈ W ∨ p.2 = default⌝ ∗ owes (thr d i) O W')

section Copy

variable {s : Shape} {e : EltTy} (src : Memref sig .scVector .hbm s e) (dst : Memref sig .scVector .vmem s e) (sem : DmaSem sig)
  (hsrc : src.view.WordExact) (hdst : dst.view.WordExact) (hty : DmaTarget.Typed (nD := nD) .hbm (.dma sem) (DmaTarget.here (p := .scVector ((i 0).castLE hcore0) ((i 1).castLE hsub0)) dst))

/-- A copy into the tile's memory, waited for. -/
def stage (k : Tile F i α) : Tile F i α := do
  Prog.lift (.enqueueDma src (.here dst) (.dma sem) hsrc hdst hty)
  Prog.lift (.waitDma2 sem src dst hsrc hdst)
  k

variable (EC : UEmb Counters (MT nD τ sig (HIx 1) (Elt F) ℕ U ℕ)) [EC.LandsIn (upEmb : UEmb _ (MT nD τ sig (HIx 1) (Elt F) ℕ U ℕ))]

include EC in
theorem wp_stage {q : PosShare TreeShare} {fs : Buf (Elt F) (src.view.loc (thr d i))} {O : CellTallies nD τ sig (HIx 1)} {W : Waits sig (HIx 1)}
    (h0 : 0 < dst.view.dmaCredit) {k : Tile F i α} :
    iprop((src.view.loc (thr d i) ↦[src.view.set]{q} fs) ∗ (∃ fd, dst.view.loc (thr d i) ↦[dst.view.set]{fullShare} fd) ∗ semVal (thr d i, SemLoc.dma sem) 0
        ∗ Owing d i O W)
      ⊢ iprop((iprop((src.view.loc (thr d i) ↦[src.view.set]{q} fs)
            ∗ (∃ fd, ⌜dst.view.read (Elt F) fd = src.view.read (Elt F) fs⌝ ∗ dst.view.loc (thr d i) ↦[dst.view.set]{fullShare} fd)
            ∗ semVal (thr d i, SemLoc.dma sem) 0 ∗ Owing d i O W)
          -∗ wp frame (wpE defs 𝒱 (thr d i) bd) Set.univ k Q)
        -∗ wp frame (wpE defs 𝒱 (thr d i) bd) Set.univ (stage i src dst sem hsrc hdst hty k) Q) := by
  have hprog : stage i src dst sem hsrc hdst hty k
      = .op (.enqueueDmaAs src (.here dst) .same (.dma sem) hsrc hdst hty) fun _ => .op (.waitDma2 sem src dst hsrc hdst) fun _ => k := rfl
  rw [hprog]
  unfold Owing
  iintro ⟨Hs, ⟨%fd, Hd⟩, Hv, #Hmw, %W', %hW, HO⟩ Hk
  iapply (Transfers.wp_dmaLocal EC 𝒱 (thr d i) bd (default : HIx 1) dst.view.dmaCredit rfl h0 subset_rfl) $$ [Hs Hd Hv]
  · isplitl [Hs]; · iexact Hs
    isplitl [Hd]; · iexact Hd
    iexact Hv
  iintro Hf
  iapply (Transfers.wp_waitLocalO EC 𝒱 (thr d i) bd (default : HIx 1) rfl) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]
  · iexists _
    isplitr
    rotate_left
    · iexact Hd
    · ipureintro
      exact View.read_write_univ _ _
  isplitl [Hv]; · iexact Hv
  isplitr; · iexact Hmw
  iexists _
  isplitr
  rotate_left
  · iexact HO
  · ipureintro
    intro p hp
    rcases Finset.mem_insert.mp hp with rfl | hp
    · exact .inr rfl
    · exact hW p hp

end Copy

/-! ## The lists -/

section Lists

variable (mk kt zt : Memref sig .scVector .vmem S208 .i32)

/-- A list holding `g`. -/
def Lst (m : Memref sig .scVector .vmem S208 .i32) (g : S208.Idx → BitVec 32) : sProp 𝕄 :=
  iprop(∃ b : Buf (Elt F) (m.view.loc (thr d i)), ⌜m.view.read (Elt F) b = g⌝ ∗ m.view.loc (thr d i) ↦[m.view.set]{fullShare} b)

omit [FloatOps F] in
theorem read_whole (m : Memref sig .scVector .vmem S208 .i32) (b : m.view.ty.Contents (Elt F)) :
    (m.access (.whole S208)).read (Elt F) b = m.view.read (Elt F) b := by
  funext y
  show m.view.read (Elt F) b ((Rect.whole S208).idx y) = _
  congr 1
  exact LoadRect.idx_whole y

theorem wp_put (m : Memref sig .scVector .vmem S208 .i32) (g : Vec F S208 .i32) (at' v : IVec S16 32) (mask : IVec S16 1) (h : InList at')
    (hs : (m.access (.whole S208)).Stores Finset.univ) {k : PUnit → Tile F i α} :
    (Lst d i m g : sProp 𝕄)
      ⊢ iprop((Lst d i m (stored g at' v mask h) -∗ wp frame (wpE defs 𝒱 (thr d i) bd) Set.univ (k ⟨⟩) Q)
        -∗ wp frame (wpE defs 𝒱 (thr d i) bd) Set.univ (SparseCore.vectorStoreIdx m ![at'] v mask false h hs >>= k) Q) := by
  have hset : (m.access (.whole S208)).set = m.view.set := (View.set_slice m.view _).trans (by rw [Rect.set_whole]; rfl)
  unfold Lst
  rw [← hset]
  iintro ⟨%b, %hb, H⟩ Hk
  iapply (SparseCore.wp_vectorStoreIdx 𝒱 (thr d i) bd Set.univ (base := m) (f := b)) $$ [H]
  · iexact H
  iintro H
  iapply Hk
  iexists _
  isplitr
  rotate_left
  · iexact H
  · ipureintro
    subst hb
    rw [← read_whole, View.read_write_univ, read_whole]

variable {q : PosShare TreeShare} (mb : Buf (Elt F) (mk.view.loc (thr d i))) (mv : S208.Idx → BitVec 32)

/-- The compaction before chunk `j`. -/
def AtS (j : ℕ) (n z : IVec S16 32) (l : BitVec 32) : sProp 𝕄 :=
  iprop((mk.view.loc (thr d i) ↦[mk.view.set]{q} mb) ∗ ∃ kv zv, ⌜At mv j n z l kv zv⌝ ∗ Lst d i kt kv ∗ Lst d i zt zv)

/-- The filling up before chunk `j`. -/
def PastS (j : ℕ) (n z : IVec S16 32) (l : BitVec 32) : sProp 𝕄 :=
  iprop(∃ kv zv, ⌜Past mv j n z l kv zv⌝ ∗ Lst d i kt kv ∗ Lst d i zt zv)

variable (hm : mk.view.read (Elt F) mb = mv)

include hm in
theorem read_lane (j : Fin 13) (k : Fin 16) :
    ((mk.access (listRect j)).read (Elt F) mb : Vec F S16 .i32) (lane k) = mv (ix208 (16 * j.val + k.val) (tok_lt j k)) := by
  subst hm
  change mk.view.read (Elt F) mb ((listRect j).emb (lane k)) = _
  congr 1
  funext a
  have ha : a = 0 := Subsingleton.elim _ _
  subst ha
  apply Fin.ext
  rw [Rect.emb_apply]
  change 16 * j.val + 1 * k.val = 16 * j.val + k.val
  omega

variable (dk dz : ∀ v, Decidable (InList v)) (dp : ∀ v, Decidable (InLists v))

include hm in
theorem wp_chunk (j : Fin 13) (n z : IVec S16 32) (l : BitVec 32) {k : IVec S16 32 → IVec S16 32 → BitVec 32 → Tile F i α} :
    (AtS d i mk kt zt (q := q) mb mv j.val n z l : sProp 𝕄)
      ⊢ iprop((∀ n', ∀ z', ∀ l', AtS d i mk kt zt (q := q) mb mv (j.val + 1) n' z' l' -∗ wp frame (wpE defs 𝒱 (thr d i) bd) Set.univ (k n' z' l') Q)
        -∗ wp frame (wpE defs 𝒱 (thr d i) bd) Set.univ (chunk i mk kt zt dk dz j n z l k) Q) := by
  have hprog : chunk i mk kt zt dk dz j n z l k
      = .op (.load mk (listRect j).toLoadRect (View.loadsAt_vmem h_S16)) fun v : Vec F S16 .i32 =>
        .op (.assume (InList (places n (keepM j v))) (dk _)) fun hk =>
        .op (.assume (InList (places z (zeroM j v))) (dz _)) fun hz =>
        SparseCore.vectorStoreIdx kt ![places n (keepM j v)] (toks j) (keepM j v) false hk.down (View.stores_vmem_bits_univ h_S208 rfl) >>= fun _ =>
        SparseCore.vectorStoreIdx zt ![places z (zeroM j v)] (toks j) (zeroM j v) false hz.down (View.stores_vmem_bits_univ h_S208 rfl) >>= fun _ =>
        k (total n (keepM j v)) (total z (zeroM j v)) (latest l j (keepM j v)) := rfl
  rw [hprog]
  unfold AtS
  iintro ⟨Hm, %kv, %zv, %A, Hkt, Hzt⟩ Hk
  have hv := read_lane d i mk mb mv hm j
  iapply (wp_load_rect 𝒱 (thr d i) bd Set.univ (m := mk) (r := listRect j) (q := q) (f := mb) (View.set_slice_subset _ _)) $$ [Hm]
  · iexact Hm
  iintro Hm
  iapply (wp_assume 𝒱 (thr d i) bd Set.univ (At.inK (F := F) A hv))
  iapply (wp_assume 𝒱 (thr d i) bd Set.univ (At.inZ (F := F) A hv))
  iapply (wp_put 𝒱 bd d i kt kv) $$ [Hkt]
  · iexact Hkt
  iintro Hkt
  iapply (wp_put 𝒱 bd d i zt zv) $$ [Hzt]
  · iexact Hzt
  iintro Hzt
  iapply Hk
  isplitl [Hm]; · iexact Hm
  iexists _
  iexists _
  isplitr
  rotate_left
  · isplitl [Hkt]; · iexact Hkt
    iexact Hzt
  · ipureintro
    exact A.chunk hv _ _

theorem wp_pad (j : Fin 13) (n z : IVec S16 32) (l : BitVec 32) {k : Tile F i α} :
    (PastS d i kt zt mv j.val n z l : sProp 𝕄)
      ⊢ iprop((PastS d i kt zt mv (j.val + 1) n z l -∗ wp frame (wpE defs 𝒱 (thr d i) bd) Set.univ k Q)
        -∗ wp frame (wpE defs 𝒱 (thr d i) bd) Set.univ (pad i kt zt dp j n z l k) Q) := by
  have hprog : pad i kt zt dp j n z l k
      = .op (.assume (InLists (toks j)) (dp _)) fun h =>
        SparseCore.vectorStoreIdx kt ![toks j] (muli ones (broadcast S16 l)) (cmpi .sge (toks j) n) false h.down.1 (View.stores_vmem_bits_univ h_S208 rfl) >>= fun _ =>
        SparseCore.vectorStoreIdx zt ![toks j] zeros (cmpi .sge (toks j) z) false h.down.2 (View.stores_vmem_bits_univ h_S208 rfl) >>= fun _ => k := rfl
  rw [hprog]
  unfold PastS
  iintro ⟨%kv, %zv, %A, Hkt, Hzt⟩ Hk
  iapply (wp_assume 𝒱 (thr d i) bd Set.univ (⟨toks_in j, toks_in j⟩ : InLists (toks j)))
  iapply (wp_put 𝒱 bd d i kt kv) $$ [Hkt]
  · iexact Hkt
  iintro Hkt
  iapply (wp_put 𝒱 bd d i zt zv) $$ [Hzt]
  · iexact Hzt
  iintro Hzt
  iapply Hk
  iexists _
  iexists _
  isplitr
  rotate_left
  · isplitl [Hkt]; · iexact Hkt
    iexact Hzt
  · ipureintro
    exact A.chunk mv _ _

end Lists

end Rules

end Cert.Proof.Prelude
-- ==== Proof.Tile.lean ====
/-
  A tile's whole run: from its buffers, shares of the inputs and its own rows of the output, to the rows written.
-/
module

public import proofs.«01_k».proof.Proof.Prelude

@[expose] public section

noncomputable section

namespace Cert.Proof.Tile

open Cert.KernelIdeal Cert.KernelIdeal.Gen Cert.Proof.Frag Cert.Proof.PreFrag Cert.Proof.Geom Cert.Proof.Marks Cert.Proof.Steps Cert.Proof.Copies Cert.Proof.Ring
open Cert.Proof.Count Cert.Proof.Compact Cert.Proof.Cover Cert.Proof.Prelude
open Cert.Proof.Loop (Tl)
open Cert.Proof.Setup (Held wp_all)
open Idealize.ShloMosaic Idealize.ShloMosaic.SparseCore
open Idealize.ShloMosaic.SparseCore.Cfg (HIx)
open Idealize.SL Idealize.SL.RA
open Idealize.SL.BI (sProp Storable bigSep)
open scoped Idealize.SL.BI
open Idealize.SL.BI.BIBase Idealize.SL.BI.Laws Idealize.SL.Sem Idealize.SL.ProofMode

variable {F : FTy → Type} [FloatOps F] {U : Type} [URA U]

theorem wid_eq (i : grid0.Coords) : (wid i).toNat = (i 1).val * 2 + (i 0).val := by
  have h1 : (i 1).val < 16 := (i 1).isLt
  have h0 : (i 0).val < 2 := (i 0).isLt
  show (BitVec.ofNat 32 (i 1).val * 2#32 + BitVec.ofNat 32 (i 0).val).toNat = _
  rw [BitVec.toNat_add, BitVec.toNat_mul, BitVec.toNat_ofNat, BitVec.toNat_ofNat, BitVec.toNat_ofNat]
  omega

theorem wid_lt (i : grid0.Coords) : 8 * (wid i).toNat + 8 ≤ 256 := by
  have h1 : (i 1).val < 16 := (i 1).isLt
  have h0 : (i 0).val < 2 := (i 0).isLt
  rw [wid_eq]; omega

/-- A buffer of the tile's, whatever it holds. -/
abbrev Some' (d : Dev nD) (i : grid0.Coords) {s : Shape} {e : EltTy} (m : Memref sig .scVector .vmem s e) : sProp (MT nD τ sig (HIx 1) (Elt F) ℕ U ℕ) :=
  iprop(∃ b : Buf (Elt F) (m.view.loc (thr d i)), m.view.loc (thr d i) ↦[m.view.set]{fullShare} b)

section Run

variable (C : Ctx F U) (hx : C.x.IsWhole) (ho : C.out.IsWhole) (hg : C.g.IsWhole)
variable (arg3 : Memref sig .scVector .hbm S208 .i32) (harg3 : arg3.IsWhole) (arg4 : Memref sig .scVector .hbm S48x2x128 .f32) (harg4 : arg4.IsWhole)
variable (mk kt zt : Memref sig .scVector .vmem S208 .i32) (hmk : mk.IsWhole) (hkt : kt.IsWhole) (hzt : zt.IsWhole)
variable (kl zl : Memref sig .scVector .vmem S624 .i32) (hkl : kl.IsWhole) (hzl : zl.IsWhole)
variable (z : Memref sig .scVector .vmem S48x2x128 .f32) (hz : z.IsWhole) (zs r0 r1 : DmaSems sig S_)
variable (q q3 q4 : PosShare TreeShare) (f3 : Buf (Elt F) (arg3.view.loc C.t)) (f4 : Buf (Elt F) (arg4.view.loc C.t))
variable (O : CellTallies nD τ sig (HIx 1)) (W : Waits sig (HIx 1))

/-- What a tile is handed and hands back, its rows of the output apart. -/
def Kit : sProp (MT nD τ sig (HIx 1) (Elt F) ℕ U ℕ) :=
  iprop((C.xs q ∗ (arg3.view.loc C.t ↦[arg3.view.set]{q3} f3) ∗ (arg4.view.loc C.t ↦[arg4.view.set]{q4} f4))
    ∗ (Some' C.d C.i mk ∗ Some' C.d C.i kt ∗ Some' C.d C.i zt ∗ Some' C.d C.i kl ∗ Some' C.d C.i zl ∗ Some' C.d C.i C.g ∗ Some' C.d C.i z)
    ∗ (bigSep Finset.univ (fun s : Fin 4 => semVal (C.t, SemLoc.dma (slotSem C.gs s)) 0)
      ∗ bigSep Finset.univ (fun s : Fin 4 => semVal (C.t, SemLoc.dma (slotSem C.ss s)) 0)
      ∗ semVal (C.t, SemLoc.dma zs.sem) 0 ∗ semVal (C.t, SemLoc.dma r0.sem) 0 ∗ semVal (C.t, SemLoc.dma r1.sem) 0)
    ∗ wmInv C.emb C.ιwm ∗ Owing C.d C.i O W)

theorem start (mb : Buf (Elt F) (mk.view.loc C.t)) (mv : S208.Idx → BitVec 32) (kb : Buf (Elt F) (kt.view.loc C.t)) (zb : Buf (Elt F) (zt.view.loc C.t)) :
    iprop((mk.view.loc C.t ↦[mk.view.set]{fullShare} mb) ∗ (kt.view.loc C.t ↦[kt.view.set]{fullShare} kb) ∗ (zt.view.loc C.t ↦[zt.view.set]{fullShare} zb))
      ⊢ (AtS C.d C.i mk kt zt (q := fullShare) mb mv 0 zeros zeros 0#32 : sProp (MT nD τ sig (HIx 1) (Elt F) ℕ U ℕ)) := by
  unfold AtS Lst
  iintro ⟨Hm, Hk, Hz⟩
  isplitl [Hm]; · iexact Hm
  iexists (kt.view.read (Elt F) kb)
  iexists (zt.view.read (Elt F) zb)
  isplitr
  · ipureintro; exact At.start mv _ _
  isplitl [Hk]
  · iexists kb
    isplitr
    · ipureintro; rfl
    · iexact Hk
  · iexists zb
    isplitr
    · ipureintro; rfl
    · iexact Hz

theorem turn (mb : Buf (Elt F) (mk.view.loc C.t)) (mv : S208.Idx → BitVec 32) (n z' : IVec S16 32) (l : BitVec 32) :
    (AtS C.d C.i mk kt zt (q := fullShare) mb mv 13 n z' l : sProp (MT nD τ sig (HIx 1) (Elt F) ℕ U ℕ))
      ⊢ iprop((mk.view.loc C.t ↦[mk.view.set]{fullShare} mb) ∗ PastS C.d C.i kt zt mv 0 n z' l) := by
  unfold AtS PastS
  iintro ⟨Hm, %kv, %zv, %A, Hk, Hz⟩
  isplitl [Hm]; · iexact Hm
  iexists kv
  iexists zv
  isplitr
  · ipureintro; exact Past.start mv A
  isplitl [Hk]; · iexact Hk
  iexact Hz

variable [C.EC.LandsIn (upEmb : UEmb _ (MT nD τ sig (HIx 1) (Elt F) ℕ U ℕ))]
variable {defs : Defs nD τ sig (Elt F) Λ₀} (𝒱 : Variants) (bd : Option 𝒱.V)
variable (mv : S208.Idx → BitVec 32) (hmv : arg3.view.read (Elt F) f3 = mv) (z0 : Elt F .f32) (hz0 : ∀ y, arg4.view.read (Elt F) f4 y = z0)
variable (hT : C.T = markSet (rowsOf C.out).view (tileRows (8 * (wid C.i).toNat)))
variable (hG : C.tgt = outVal (keepP mv) ((rowsOf C.x).view.read (Elt F) C.fx) z0)
variable (hc3 : 0 < mk.view.dmaCredit) (hc4 : 0 < z.view.dmaCredit)

include hmv hz0 hT hG hc3 hc4 in
theorem wp_tile :
    iprop(((rowsOf C.out).view.loc C.t ↦[C.T]{fullShare} C.f) ∗ Kit C arg3 arg4 mk kt zt kl zl z zs r0 r1 q q3 q4 f3 f4 O W)
      ⊢ wp frame (wpE defs 𝒱 C.t bd) Set.univ
        (cc0__sc_body (F := F) C.i C.x hx arg3 harg3 arg4 harg4 C.out ho mk hmk kt hkt zt hzt kl hkl zl hzl C.g hg z hz C.gs C.ss zs r0 r1)
        fun _ => iprop(((rowsOf C.out).view.loc C.t ↦[C.T]{fullShare} C.G) ∗ Kit C arg3 arg4 mk kt zt kl zl z zs r0 r1 q q3 q4 f3 f4 O W) := by
  have hstage3 := fun (k : Tile F C.i PUnit) Q fs => wp_stage (defs := defs) 𝒱 bd C.d C.i arg3 mk r0.sem harg3.wordExact hmk.wordExact ⟨Or.inl rfl, trivial⟩ C.EC
    (q := q3) (fs := fs) (O := O) (W := W) hc3 (k := k) (Q := Q)
  have hstage4 := fun (k : Tile F C.i PUnit) Q fs => wp_stage (defs := defs) 𝒱 bd C.d C.i arg4 z r1.sem harg4.wordExact hz.wordExact ⟨Or.inl rfl, trivial⟩ C.EC
    (q := q4) (fs := fs) (O := O) (W := W) hc4 (k := k) (Q := Q)
  rw [tile_eq]
  unfold Kit
  iintro ⟨Hout, ⟨Hx, H3, H4⟩, ⟨Hmk, Hkt, Hzt, Hkl, Hzl, Hg, Hz⟩, ⟨Hgs, Hss, Hzs, Hr0, Hr1⟩, #Hwm, HO⟩
  iapply (hstage3 _ _ f3) $$ [H3 Hmk Hr0 HO]
  · isplitl [H3]; · iexact H3
    isplitl [Hmk]; · iexact Hmk
    isplitl [Hr0]; · iexact Hr0
    iexact HO
  iintro ⟨H3, ⟨%mb, %hmb, Hmk⟩, Hr0, HO⟩
  iapply (hstage4 _ _ f4) $$ [H4 Hz Hr1 HO]
  · isplitl [H4]; · iexact H4
    isplitl [Hz]; · iexact Hz
    isplitl [Hr1]; · iexact Hr1
    iexact HO
  iintro ⟨H4, ⟨%fz, %hfz, Hz⟩, Hr1, HO⟩
  icases Hkt with ⟨%kb₀, Hkt⟩
  icases Hzt with ⟨%zb₀, Hzt⟩
  have hm : mk.view.read (Elt F) mb = mv := hmb.trans hmv
  have hch := fun dk dz (j : Fin 13) n z' l (k : IVec S16 32 → IVec S16 32 → BitVec 32 → Tile F C.i PUnit) Q =>
    wp_chunk (U := U) (defs := defs) 𝒱 bd C.d C.i mk kt zt (q := fullShare) mb mv hm dk dz j n z' l (k := k) (Q := Q)
  have hpd := fun dp (j : Fin 13) n z' l (k : Tile F C.i PUnit) Q =>
    wp_pad (U := U) (defs := defs) 𝒱 bd C.d C.i kt zt mv dp j n z' l (k := k) (Q := Q)
  ihave H := (start C mk kt zt mb mv kb₀ zb₀) $$ [Hmk Hkt Hzt]
  · isplitl [Hmk]; · iexact Hmk
    isplitl [Hkt]; · iexact Hkt
    iexact Hzt
  iapply (hch _ _ 0 zeros zeros 0#32 _ _) $$ [H]
  · iexact H
  iintro %n0 %y0 %l0 H
  iapply (hch _ _ 1 n0 y0 l0 _ _) $$ [H]
  · iexact H
  iintro %n1 %y1 %l1 H
  iapply (hch _ _ 2 n1 y1 l1 _ _) $$ [H]
  · iexact H
  iintro %n2 %y2 %l2 H
  iapply (hch _ _ 3 n2 y2 l2 _ _) $$ [H]
  · iexact H
  iintro %n3 %y3 %l3 H
  iapply (hch _ _ 4 n3 y3 l3 _ _) $$ [H]
  · iexact H
  iintro %n4 %y4 %l4 H
  iapply (hch _ _ 5 n4 y4 l4 _ _) $$ [H]
  · iexact H
  iintro %n5 %y5 %l5 H
  iapply (hch _ _ 6 n5 y5 l5 _ _) $$ [H]
  · iexact H
  iintro %n6 %y6 %l6 H
  iapply (hch _ _ 7 n6 y6 l6 _ _) $$ [H]
  · iexact H
  iintro %n7 %y7 %l7 H
  iapply (hch _ _ 8 n7 y7 l7 _ _) $$ [H]
  · iexact H
  iintro %n8 %y8 %l8 H
  iapply (hch _ _ 9 n8 y8 l8 _ _) $$ [H]
  · iexact H
  iintro %n9 %y9 %l9 H
  iapply (hch _ _ 10 n9 y9 l9 _ _) $$ [H]
  · iexact H
  iintro %n10 %y10 %l10 H
  iapply (hch _ _ 11 n10 y10 l10 _ _) $$ [H]
  · iexact H
  iintro %n11 %y11 %l11 H
  iapply (hch _ _ 12 n11 y11 l11 _ _) $$ [H]
  · iexact H
  iintro %n12 %y12 %l12 H
  ihave H := (turn C mk kt zt mb mv n12 y12 l12) $$ [H]
  · iexact H
  icases H with ⟨Hmk, H⟩
  iapply (hpd _ 0 n12 y12 l12 _ _) $$ [H]
  · iexact H
  iintro H
  iapply (hpd _ 1 n12 y12 l12 _ _) $$ [H]
  · iexact H
  iintro H
  iapply (hpd _ 2 n12 y12 l12 _ _) $$ [H]
  · iexact H
  iintro H
  iapply (hpd _ 3 n12 y12 l12 _ _) $$ [H]
  · iexact H
  iintro H
  iapply (hpd _ 4 n12 y12 l12 _ _) $$ [H]
  · iexact H
  iintro H
  iapply (hpd _ 5 n12 y12 l12 _ _) $$ [H]
  · iexact H
  iintro H
  iapply (hpd _ 6 n12 y12 l12 _ _) $$ [H]
  · iexact H
  iintro H
  iapply (hpd _ 7 n12 y12 l12 _ _) $$ [H]
  · iexact H
  iintro H
  iapply (hpd _ 8 n12 y12 l12 _ _) $$ [H]
  · iexact H
  iintro H
  iapply (hpd _ 9 n12 y12 l12 _ _) $$ [H]
  · iexact H
  iintro H
  iapply (hpd _ 10 n12 y12 l12 _ _) $$ [H]
  · iexact H
  iintro H
  iapply (hpd _ 11 n12 y12 l12 _ _) $$ [H]
  · iexact H
  iintro H
  iapply (hpd _ 12 n12 y12 l12 _ _) $$ [H]
  · iexact H
  iintro H
  unfold PastS
  icases H with ⟨%kv, %zv, %A, Hkt, Hzt⟩
  unfold Lst
  icases Hkt with ⟨%kb, %hkb, Hkt⟩
  icases Hzt with ⟨%zb, %hzb, Hzt⟩
  icases Hg with ⟨%fg, Hg⟩
  have hK : Listed (keepP mv) (kt.view.read (Elt F) kb) (greatest n12).toNat := by rw [hkb]; exact A.listK
  have hZ : Listed (fun p => ¬ keepP mv p) (zt.view.read (Elt F) zb) (greatest y12).toNat := by rw [hzb]; exact A.listZ
  have hz1 : ∀ y, z.view.read (Elt F) fz y = z0 := fun y => by rw [hfz]; exact hz0 y
  have hall := fun (k : Unit → Tile F C.i PUnit) Q =>
    wp_all (C := C) (mkTl (keepP mv) z0 (8 * (wid C.i).toNat) (wid_lt C.i) hT hG kl zl kt zt kb zb z hz zs fz hz1 (greatest n12) (greatest y12) q O W A.nk_le A.nz_le hK hZ)
      q rfl rfl rfl rfl (defs := defs) 𝒱 bd arg3 harg3 arg4 harg4 hx ho hkt hzt hkl hzl hg mk hmk r0 r1 (keepP mv) hK hZ hT fg (wid C.i) rfl (k := k) (Q := Q)
  unfold Held Bat.Ow at hall
  dsimp only [Tl.bat] at hall
  unfold Owing
  imod (pointsTo_castIn (emb := C.emb) (ιwm := C.ιwm) (E := Set.univ) (f := C.f) (I := C.T) (fun i => some (C.G i))) $$ [Hout] with Hout
  · isplitr; · iexact Hwm
    iexact Hout
  iapply (hall _ _) $$ [Hout Hx Hz Hkl Hzl Hg Hgs Hss Hzs Hkt Hzt HO]
  · isplitl [Hout]; · iexact Hout
    isplitl [Hx]; · iexact Hx
    isplitl [Hz Hkl Hzl Hg]
    · isplitl [Hz]; · iexact Hz
      isplitl [Hkl]; · iexact Hkl
      isplitl [Hzl]; · iexact Hzl
      iexists fg; iexact Hg
    isplitl [Hgs Hss Hzs]
    · isplitl [Hgs]; · iexact Hgs
      isplitl [Hss]; · iexact Hss
      iexact Hzs
    isplitl [Hkt Hzt]
    · isplitl [Hkt]; · iexact Hkt
      iexact Hzt
    isplitr; · iexact Hwm
    iexact HO
  iintro ⟨⟨%M, %hM, Hout⟩, Hx, ⟨Hz, Hkl, Hzl, Hg⟩, ⟨Hgs, Hss, Hzs⟩, ⟨Hkt, Hzt⟩, -, HO⟩
  imod (willBeTo_castOut_some (emb := C.emb) (ιwm := C.ιwm) (E := Set.univ)) $$ [Hout] with Hout
  · isplitr; · iexact Hwm
    iexact Hout
  have hpw : ∀ e ∈ C.T, M.piecewise C.G C.f e = C.G e := fun e he => Finset.piecewise_eq_of_mem M C.G C.f (hM he)
  rw [show (pure ⟨⟩ : Tile F C.i PUnit) = Prog.ret ⟨⟩ from rfl, wp_ret]
  imodintro
  isplitl [Hout]
  · iapply (Entails.of_eq (pointsTo_congr (ℓ := (rowsOf C.out).view.loc C.t) hpw)) $$ [Hout]
    iexact Hout
  isplitl [Hx H3 H4]
  · isplitl [Hx]; · iexact Hx
    isplitl [H3]; · iexact H3
    iexact H4
  isplitl [Hmk Hkt Hzt Hkl Hzl Hg Hz]
  · isplitl [Hmk]; · iexists mb; iexact Hmk
    isplitl [Hkt]; · iexists kb; iexact Hkt
    isplitl [Hzt]; · iexists zb; iexact Hzt
    isplitl [Hkl]; · iexact Hkl
    isplitl [Hzl]; · iexact Hzl
    isplitl [Hg]; · iexact Hg
    iexists fz; iexact Hz
  isplitl [Hgs Hss Hzs Hr0 Hr1]
  · isplitl [Hgs]; · iexact Hgs
    isplitl [Hss]; · iexact Hss
    isplitl [Hzs]; · iexact Hzs
    isplitl [Hr0]; · iexact Hr0
    iexact Hr1
  isplitr; · iexact Hwm
  iexact HO

end Run

end Cert.Proof.Tile
-- ==== Proof.Pay.lean ====
/-
  What the one SparseCore call hands each tile and takes back, and how the arrays of the call divide into the tiles' parts.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import proofs.«01_k».proof.Proof.Tile

@[expose] public section

noncomputable section

namespace Cert.Proof.Launch

open Cert.KernelIdeal Cert.KernelIdeal.Gen Cert.Proof.Frag Cert.Proof.Geom Cert.Proof.Marks Cert.Proof.Cover Cert.Proof.Count
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the write marks, the copies' counters -/

abbrev UH : Type := URounds (GSem nD τ sig) ℕ
abbrev UU (F : FTy → Type) : Type := UH × (WmRA nD τ sig (Elt F) × Counters)

local notation "𝕄" => MT nD τ sig (HIx 1) (Elt F) ℕ (UU F) ℕ

abbrev EH : Emb UH (MT nD τ sig (HIx 1) (Elt F) ℕ (UU F) ℕ) := embL
/-- Where the write marks lie. -/
abbrev wmE : UEmb (WmRA nD τ sig (Elt F)) (UU F) := (UEmb.inl : UEmb _ (WmRA nD τ sig (Elt F) × Counters)).trans UEmb.inr

/-! ## The arrays of the call -/

abbrev xLoc (d : Dev nD) : Loc nD τ sig := (SparseCore.T d).loc main_v1
abbrev mLoc (d : Dev nD) : Loc nD τ sig := (SparseCore.T d).loc main_v4
abbrev zLoc (d : Dev nD) : Loc nD τ sig := (SparseCore.T d).loc main_v5
abbrev oLoc (d : Dev nD) : Loc nD τ sig := (SparseCore.T d).loc main_v6

abbrev xV : Memref sig .scVector .hbm S150528x2x128 .f32 := Memref.whole main_v1_scv
abbrev mV : Memref sig .scVector .hbm S208 .i32 := Memref.whole main_v4_scv
abbrev zV : Memref sig .scVector .hbm S48x2x128 .f32 := Memref.whole main_v5_scv
abbrev oV : Memref sig .scVector .hbm S150528x2x128 .f32 := Memref.whole main_v6_scv

/-- Addressing all rows of an array addresses the array. -/
theorem emb_rowsOf (x : Memref sig .scVector .hbm S150528x2x128 .f32) (y : S150528x2x128.Idx) : (rowsOf x).view.emb y = x.view.emb y := by
  change x.view.emb ((Rect.unit (s := S150528x2x128) ![0, 0, 0] S150528x2x128.size _).emb y) = _
  congr 1
  funext a
  apply Fin.ext
  rw [Rect.emb_apply]
  match a with
  | 0 => simp [Rect.unit]
  | 1 => simp [Rect.unit]
  | 2 => simp [Rect.unit]

theorem emb_x (y : S150528x2x128.Idx) : (rowsOf xV).view.emb y = y := emb_rowsOf xV y
theorem emb_o (y : S150528x2x128.Idx) : (rowsOf oV).view.emb y = y := emb_rowsOf oV y

theorem read_x (f : S150528x2x128.Idx → Elt F .f32) : (rowsOf xV).view.read (Elt F) f = f :=
  funext fun y => (View.read_apply _ _).trans ((cast_eq _ _).trans (congrArg f (emb_x y)))
theorem read_o (f : S150528x2x128.Idx → Elt F .f32) : (rowsOf oV).view.read (Elt F) f = f :=
  funext fun y => (View.read_apply _ _).trans ((cast_eq _ _).trans (congrArg f (emb_o y)))

theorem set_x : (rowsOf xV).view.set = Finset.univ :=
  Finset.eq_univ_iff_forall.mpr fun y => Finset.mem_map.mpr ⟨y, Finset.mem_univ _, emb_x y⟩

/-- The output rows of tile number `w`. -/
abbrev tileSet (w : ℕ) : Finset S150528x2x128.Idx := markSet (rowsOf oV).view (tileRows (8 * w))

theorem mem_tileSet {w : ℕ} {y : S150528x2x128.Idx} : y ∈ tileSet w ↔ (y 0).val ∈ tileRows (8 * w) := by
  constructor
  · intro h
    obtain ⟨y', hy', e⟩ := Finset.mem_map.mp h
    rw [Finset.mem_filter] at hy'
    have : y' = y := (emb_o y').symm.trans e
    rw [← this]; exact hy'.2
  · intro h
    exact Finset.mem_map.mpr ⟨y, Finset.mem_filter.mpr ⟨Finset.mem_univ _, h⟩, emb_o y⟩

theorem tiles_disjoint : ∀ w ∈ (Finset.univ : Finset (Fin 32)), ∀ w' ∈ (Finset.univ : Finset (Fin 32)), w ≠ w' → Disjoint (tileSet w.val) (tileSet w'.val) := by
  intro w _ w' _ hne
  rw [Finset.disjoint_left]
  intro y h h'
  rw [mem_tileSet, mem_tileRows] at h h'
  exact hne (Fin.ext (by omega))

theorem tiles_cover : (Finset.univ : Finset (Fin 32)).biUnion (fun w => tileSet w.val) = Finset.univ := by
  refine Finset.eq_univ_iff_forall.mpr fun y => ?_
  have hy : (y 0).val < 150528 := (y 0).isLt
  have hb : (y 0).val / 3 % 256 < 256 := Nat.mod_lt _ (by decide)
  refine Finset.mem_biUnion.mpr ⟨⟨(y 0).val / 3 % 256 / 8, by omega⟩, Finset.mem_univ _, ?_⟩
  rw [mem_tileSet, mem_tileRows]
  refine ⟨hy, ?_, ?_⟩ <;> dsimp only <;> omega

/-! ## The parts -/

/-- What the arrays of the call hold when it starts, and what the output holds when it is done. -/
structure Vals (F : FTy → Type) where
  x : S150528x2x128.Idx → Elt F .f32
  m : S208.Idx → Elt F .i32
  z : S48x2x128.Idx → Elt F .f32
  o : S150528x2x128.Idx → Elt F .f32
  z0 : Elt F .f32

/-- The output when the call is done. -/
def Vals.G (v : Vals F) : S150528x2x128.Idx → Elt F .f32 := outVal (keepP v.m) v.x v.z0

variable (v : Dev nD → Vals F)

/-- Tile number `w`'s shares of the arrays the call reads. -/
abbrev insPts (d : Dev nD) (w : ℕ) : sProp 𝕄 :=
  iprop((xLoc d ↦{cut 31 fullShare w} (v d).x) ∗ (mLoc d ↦{cut 31 fullShare w} (v d).m) ∗ (zLoc d ↦{cut 31 fullShare w} (v d).z))
/-- Tile number `w`'s rows of the output. -/
abbrev rowPts (d : Dev nD) (w : ℕ) (f : S150528x2x128.Idx → Elt F .f32) : sProp 𝕄 := oLoc d ↦[tileSet w]{fullShare} f

/-- The number of the tile on subcore `i` of SparseCore `c`. -/
abbrev wn (c i : ℕ) : ℕ := i * 2 + c

/-- All the arrays of the call, the output at contents `f`. -/
abbrev allPts (d : Dev nD) (f : S150528x2x128.Idx → Elt F .f32) : sProp 𝕄 :=
  iprop((oLoc d ↦{fullShare} f) ∗ (xLoc d ↦{fullShare} (v d).x) ∗ (mLoc d ↦{fullShare} (v d).m) ∗ (zLoc d ↦{fullShare} (v d).z))

theorem all_eq (d : Dev nD) (f : S150528x2x128.Idx → Elt F .f32) :
    (allPts v d f : sProp 𝕄) = bigSep Finset.univ (fun c : Fin 2 => bigSep Finset.univ fun i : Fin 16 => iprop(rowPts d (wn c.val i.val) f ∗ insPts v d (wn c.val i.val))) := by
  have h : (allPts v d f : sProp 𝕄) = bigSep Finset.univ (fun w : Fin 32 => iprop(rowPts d w.val f ∗ insPts v d w.val)) := by
    rw [bigSep_sep', bigSep_sep', bigSep_sep', ← pointsTo_biUnion Finset.univ (ℓ := oLoc d) (fun w : Fin 32 => tileSet w.val) tiles_disjoint, tiles_cover,
      ← BI.Entails.antisymm (pointsTo_cut 31 fullShare).1 (pointsTo_cut 31 fullShare).2,
      ← BI.Entails.antisymm (pointsTo_cut 31 fullShare).1 (pointsTo_cut 31 fullShare).2,
      ← BI.Entails.antisymm (pointsTo_cut 31 fullShare).1 (pointsTo_cut 31 fullShare).2]
  rw [h, bigSep_univ_equiv ((Equiv.prodComm (Fin 2) (Fin 16)).trans finProdFinEquiv) (fun w : Fin (16 * 2) => iprop(rowPts d w.val f ∗ insPts v d w.val) : Fin 32 → sProp 𝕄),
    bigSep_univ_prod]
  refine bigSep_congr fun c _ => bigSep_congr fun i _ => ?_
  have hw : (((Equiv.prodComm (Fin 2) (Fin 16)).trans finProdFinEquiv) (c, i)).val = wn c.val i.val := by
    simp [finProdFinEquiv, wn]; omega
  rw [hw]

/-- What tile `i` of SparseCore `c` is handed, and hands back. -/
abbrev goPts (d : Dev nD) (c i : ℕ) : sProp 𝕄 := iprop(rowPts d (wn c i) (v d).o ∗ insPts v d (wn c i))
abbrev tdPts (d : Dev nD) (c i : ℕ) : sProp 𝕄 := iprop(rowPts d (wn c i) (v d).G ∗ insPts v d (wn c i))

def P : (K (F := F)).Pay (nD := nD) (Val := Elt F) (Name := ℕ) (U := UU F) where
  st := fun q d c => match q with | 0 => bigSep Finset.univ fun i : Fin 16 => goPts v d c.val i.val
  dn := fun q d c => match q with | 0 => bigSep Finset.univ fun i : Fin 16 => tdPts v d c.val i.val
  go := fun q d c i => match q with | 0 => goPts v d c.val i.val
  td := fun q d c i => match q with | 0 => tdPts v d c.val i.val
  x := fun _ _ => iprop(∃ ι, wmInv wmE ι)

instance P_storable : (P (F := F) v).IsStorable where
  st q d c := match q with
    | 0 => (inferInstance : BI.Storable (upEmb : UEmb _ 𝕄) (bigSep Finset.univ fun i : Fin 16 => goPts v d c.val i.val))
  dn q d c := match q with
    | 0 => (inferInstance : BI.Storable (upEmb : UEmb _ 𝕄) (bigSep Finset.univ fun i : Fin 16 => tdPts v d c.val i.val))
  go q d c i := match q with
    | 0 => (inferInstance : BI.Storable (upEmb : UEmb _ 𝕄) (goPts v d c.val i.val))
  td q d c i := match q with
    | 0 => (inferInstance : BI.Storable (upEmb : UEmb _ 𝕄) (tdPts v d c.val i.val))

end Cert.Proof.Launch

end
-- ==== Proof.Task.lean ====
/-
  The task of the SparseCore call on one vector subcore: its buffers and semaphores out of the subcore's own, its run, and what it hands back.
-/
module

public import proofs.«01_k».proof.Proof.Pay

@[expose] public section

noncomputable section

namespace Cert.Proof.Launch

open Cert.KernelIdeal Cert.KernelIdeal.Gen Cert.Proof.Frag Cert.Proof.PreFrag Cert.Proof.Geom Cert.Proof.Marks Cert.Proof.Cover Cert.Proof.Count
open Cert.Proof.Copies (Ctx)
open Cert.Proof.Prelude (Owing)
open Cert.Proof.Tile (Kit Some' wp_tile wid_eq)
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (d : Dev nD) (L : grid0.Coords)

abbrev cV (L : grid0.Coords) : Fin τ.nSC := (L 0).castLE hcore0
abbrev jV (L : grid0.Coords) : Fin τ.nSub := (L 1).castLE hsub0

/-! ## The task's semaphores and buffers -/

/-- The task's semaphores: the ring's fetches, the ring's sends, the fills, the two of its own copies. -/
abbrev cell : Fin 4 ⊕ (Fin 4 ⊕ Fin 3) → SemLoc sig :=
  Sum.elim (fun s => .dma (slotSem cc0_scratch7 s))
    (Sum.elim (fun s => .dma (slotSem cc0_scratch8 s)) (fun k => match k with | 0 => .dma cc0_scratch9.sem | 1 => .dma cc0_scoped0.sem | 2 => .dma cc0_scoped1.sem))

theorem cell_inj : ∀ a b, cell a = cell b → a = b := by decide
theorem cell_scoped : ∀ a, (cell a).isScoped .scVector = true := by decide

abbrev gcell (a : Fin 4 ⊕ (Fin 4 ⊕ Fin 3)) : GSem nD τ sig := (V d (cV L) (jV L), cell a)

theorem bigSep_three {M : Type} [URA M] (Φ : Fin 3 → sProp M) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- What the task leaves alone of its semaphores. -/
abbrev semRest : Finset (GSem nD τ sig) := ownCells (V d (cV L) (jV L)) \ Finset.univ.image (gcell d L)

theorem cells_sep {M : Type} [URA M] (Φ : SemLoc sig → sProp M) :
    bigSep Finset.univ (fun a => Φ (cell a))
      = iprop(bigSep Finset.univ (fun s : Fin 4 => Φ (.dma (slotSem cc0_scratch7 s))) ∗ bigSep Finset.univ (fun s : Fin 4 => Φ (.dma (slotSem cc0_scratch8 s)))
          ∗ Φ (.dma cc0_scratch9.sem) ∗ Φ (.dma cc0_scoped0.sem) ∗ Φ (.dma cc0_scoped1.sem)) := by
  rw [bigSep_univ_sum, bigSep_univ_sum, bigSep_three]
  rfl

theorem cells_own : Finset.univ.image (gcell d L) ⊆ ownCells (V d (cV L) (jV L)) := by
  intro g hg
  obtain ⟨a, _, e⟩ := Finset.mem_image.mp hg
  rw [← e]
  exact (mem_ownCells (g := gcell d L a)).mpr ⟨rfl, cell_scoped a⟩

theorem gcell_inj : Set.InjOn (gcell d L) (Finset.univ : Finset (Fin 4 ⊕ (Fin 4 ⊕ Fin 3))) :=
  fun a _ b _ h => cell_inj a b (congrArg Prod.snd h)

theorem ownSems0_V :
    (ownSems0 (V d (cV L) (jV L)) : sProp 𝕄)
      = iprop((bigSep Finset.univ (fun s : Fin 4 => semVal (V d (cV L) (jV L), SemLoc.dma (slotSem cc0_scratch7 s)) 0)
          ∗ bigSep Finset.univ (fun s : Fin 4 => semVal (V d (cV L) (jV L), SemLoc.dma (slotSem cc0_scratch8 s)) 0)
          ∗ semVal (V d (cV L) (jV L), SemLoc.dma cc0_scratch9.sem) 0 ∗ semVal (V d (cV L) (jV L), SemLoc.dma cc0_scoped0.sem) 0
          ∗ semVal (V d (cV L) (jV L), SemLoc.dma cc0_scoped1.sem) 0)
        ∗ bigSep (semRest d L) fun g => semVal g 0) := by
  unfold SparseCore.Cfg.ownSems0
  refine (BI.bigSep_sdiff_split (cells_own d L)).trans ?_
  rw [SparseCore.bigSep_image_of_injOn (gcell_inj d L), ← cells_sep (fun c => (semVal (V d (cV L) (jV L), c) 0 : sProp 𝕄))]
  rfl

/-- The task's buffers. -/
abbrev bufs : Finset (Ref sig .scVector) := {cc0_scratch0, cc0_scratch1, cc0_scratch2, cc0_scratch3, cc0_scratch4, cc0_scratch5, cc0_scratch6}

/-- What the task leaves alone of its buffers. -/
abbrev bufRest : Finset (DevRef τ sig) :=
  ownRefs (τ := τ) (.scVector (cV L) (jV L)) \ bufs.image (Proc.scVector (cV L) (jV L)).devRef

theorem bufs_sep {M : Type} [URA M] (Φ : Ref sig .scVector → sProp M) :
    bigSep bufs Φ = iprop(Φ cc0_scratch0 ∗ Φ cc0_scratch1 ∗ Φ cc0_scratch2 ∗ Φ cc0_scratch3 ∗ Φ cc0_scratch4 ∗ Φ cc0_scratch5 ∗ Φ cc0_scratch6) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f))
        ∗ bigSep (bufRest L) fun b => iprop(∃ f, ((d, b) : Loc nD τ sig) ↦{fullShare} f)) := by
  unfold SparseCore.Cfg.ownBufs
  have hsub : bufs.image (Proc.scVector (cV L) (jV L)).devRef ⊆ ownRefs (τ := τ) (.scVector (cV L) (jV L)) := by
    intro b hb
    obtain ⟨r, hr, rfl⟩ := Finset.mem_image.mp hb
    simp only [bufs, Finset.mem_insert, Finset.mem_singleton] at hr
    rcases hr with rfl | rfl | rfl | rfl | rfl | rfl | rfl <;> exact SparseCore.Cfg.mem_ownRefs_of_owner rfl
  refine (BI.bigSep_sdiff_split hsub).trans ?_
  rw [SparseCore.bigSep_image_of_injOn (fun a _ b _ h => Proc.devRef_injective _ h)]
  exact congrArg (fun X : sProp 𝕄 => iprop(X ∗ bigSep (bufRest L) fun b => iprop(∃ f, ((d, b) : Loc nD τ sig) ↦{fullShare} f)))
    (bufs_sep fun b => iprop(∃ f, (V d (cV L) (jV L)).loc b ↦{fullShare} f))

/-! ## The run -/

variable [FloatOps F] (v : Dev nD → Vals F)

/-- The counters the copies count with. -/
abbrev cE : UEmb Counters (MT nD τ sig (HIx 1) (Elt F) ℕ (UU F) ℕ) := countersEmb

/-- The tile's fixed data. -/
def ctx (ι : ℕ) : Ctx F (UU F) where
  EC := cE
  emb := wmE
  ιwm := ι
  d := d
  i := L
  x := xV
  out := oV
  g := Memref.whole cc0_scratch5
  gs := cc0_scratch7
  ss := cc0_scratch8
  fx := (v d).x
  T := tileSet (wid L).toNat
  f := (v d).o
  G := (v d).G

instance (ι : ℕ) : (ctx d L v ι).EC.LandsIn (upEmb : UEmb _ 𝕄) := inferInstanceAs ((cE (F := F)).LandsIn (upEmb : UEmb _ 𝕄))

abbrev sV0 : Memref sig .scVector .vmem S208 .i32 := Memref.whole cc0_scratch0
abbrev sV1 : Memref sig .scVector .vmem S208 .i32 := Memref.whole cc0_scratch1
abbrev sV2 : Memref sig .scVector .vmem S208 .i32 := Memref.whole cc0_scratch2
abbrev sV3 : Memref sig .scVector .vmem S624 .i32 := Memref.whole cc0_scratch3
abbrev sV4 : Memref sig .scVector .vmem S624 .i32 := Memref.whole cc0_scratch4
abbrev sV5 : Memref sig .scVector .vmem S4x48x2x128 .f32 := Memref.whole cc0_scratch5
abbrev sV6 : Memref sig .scVector .vmem S48x2x128 .f32 := Memref.whole cc0_scratch6

/-- The tile's kit, at its data. -/
abbrev kit (ι : ℕ) (w : ℕ) (O : CellTallies nD τ sig (HIx 1)) (W : Waits sig (HIx 1)) : sProp 𝕄 :=
  Kit (ctx d L v ι) mV zV sV0 sV1 sV2 sV3 sV4 sV6 cc0_scratch9 cc0_scoped0 cc0_scoped1 (cut 31 fullShare w) (cut 31 fullShare w) (cut 31 fullShare w)
    (v d).m (v d).z O W

theorem kit_eq (ι w : ℕ) (O : CellTallies nD τ sig (HIx 1)) (W : Waits sig (HIx 1)) :
    kit d L v ι w O W
      = iprop(insPts v d w
        ∗ ((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f))
        ∗ (bigSep Finset.univ (fun s : Fin 4 => semVal (V d (cV L) (jV L), SemLoc.dma (slotSem cc0_scratch7 s)) 0)
          ∗ bigSep Finset.univ (fun s : Fin 4 => semVal (V d (cV L) (jV L), SemLoc.dma (slotSem cc0_scratch8 s)) 0)
          ∗ semVal (V d (cV L) (jV L), SemLoc.dma cc0_scratch9.sem) 0 ∗ semVal (V d (cV L) (jV L), SemLoc.dma cc0_scoped0.sem) 0
          ∗ semVal (V d (cV L) (jV L), SemLoc.dma cc0_scoped1.sem) 0)
        ∗ wmInv wmE ι ∗ Owing d L O W) := by
  have h0 : (sV0).view.set = Finset.univ := View.set_whole _
  have h1 : (sV1).view.set = Finset.univ := View.set_whole _
  have h2 : (sV2).view.set = Finset.univ := View.set_whole _
  have h3 : (sV3).view.set = Finset.univ := View.set_whole _
  have h4 : (sV4).view.set = Finset.univ := View.set_whole _
  have h5 : (sV5).view.set = Finset.univ := View.set_whole _
  have h6 : (sV6).view.set = Finset.univ := View.set_whole _
  have hm : (mV).view.set = Finset.univ := View.set_whole _
  have hz : (zV).view.set = Finset.univ := View.set_whole _
  unfold kit Kit Some'
  rw [show (ctx d L v ι).xs (cut 31 fullShare w) = ((rowsOf xV).view.loc (V d (cV L) (jV L)) ↦[(rowsOf xV).view.set]{cut 31 fullShare w} (v d).x) from rfl,
    set_x, h0, h1, h2, h3, h4, h6, hm, hz, show (ctx d L v ι).g = sV5 from rfl, h5]
  rfl

theorem tile_body (hF : (K (F := F)).Facts) (hz0 : ∀ d y, (v d).z y = (v d).z0) (O : CellTallies nD τ sig (HIx 1)) (W : Waits sig (HIx 1)) (hO : ∀ g, O g none = 0) :
    iprop(levAts (K (F := F)).L (K (F := F)).lev ∗ (∃ ι, wmInv wmE ι)
        ∗ (rowPts d (wid L).toNat (v d).o ∗ insPts v d (wid L).toNat)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L xV (Memref.isWhole_whole _) mV (Memref.isWhole_whole _) zV (Memref.isWhole_whole _) oV (Memref.isWhole_whole _)
            sV0 (Memref.isWhole_whole _) sV1 (Memref.isWhole_whole _) sV2 (Memref.isWhole_whole _) sV3 (Memref.isWhole_whole _) sV4 (Memref.isWhole_whole _)
            sV5 (Memref.isWhole_whole _) sV6 (Memref.isWhole_whole _) cc0_scratch7 cc0_scratch8 cc0_scratch9 cc0_scoped0 cc0_scoped1)
          fun _ => iprop((rowPts d (wid L).toNat (v d).G ∗ insPts v d (wid L).toNat)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hrun : ∀ ι, iprop(rowPts d (wid L).toNat (v d).o ∗ kit d L v ι (wid L).toNat O W)
      ⊢ wp frame (wpE (defs₀ (F := F)) 𝒱₀ (V d (cV L) (jV L)) none) Set.univ
          (cc0__sc_body (F := F) L xV (Memref.isWhole_whole _) mV (Memref.isWhole_whole _) zV (Memref.isWhole_whole _) oV (Memref.isWhole_whole _)
            sV0 (Memref.isWhole_whole _) sV1 (Memref.isWhole_whole _) sV2 (Memref.isWhole_whole _) sV3 (Memref.isWhole_whole _) sV4 (Memref.isWhole_whole _)
            sV5 (Memref.isWhole_whole _) sV6 (Memref.isWhole_whole _) cc0_scratch7 cc0_scratch8 cc0_scratch9 cc0_scoped0 cc0_scoped1)
          fun _ => iprop(rowPts d (wid L).toNat (v d).G ∗ kit d L v ι (wid L).toNat O W) := fun ι =>
    wp_tile (ctx d L v ι) (Memref.isWhole_whole _) (Memref.isWhole_whole _) (Memref.isWhole_whole _) mV (Memref.isWhole_whole _) zV (Memref.isWhole_whole _)
      sV0 sV1 sV2 (Memref.isWhole_whole _) (Memref.isWhole_whole _) (Memref.isWhole_whole _) sV3 sV4 (Memref.isWhole_whole _) (Memref.isWhole_whole _)
      sV6 (Memref.isWhole_whole _) cc0_scratch9 cc0_scoped0 cc0_scoped1 _ _ _ (v d).m (v d).z O W (defs := defs₀ (F := F)) 𝒱₀ none
      (v d).m (View.read_whole _ _) (v d).z0 (fun y => (congrFun (show zV.view.read (Elt F) (v d).z = (v d).z from View.read_whole _ _) y).trans (hz0 d y)) rfl
      ((read_o (v d).G).trans (congrArg (fun X => outVal (keepP (v d).m) X (v d).z0) (read_x (v d).x)).symm) (by decide) (by decide)
  rw [(K (F := F)).scopedBufs_V hF d (cV L) (jV L), SparseCore.Cfg.scopedSems0_V (Val := Elt F) d (cV L) (jV L), ownSems0_V, ownBufs_V]
  simp only [kit_eq] at hrun
  iintro ⟨#Hlv, ⟨%ι, #Hwm⟩, ⟨Ho, Hin⟩, ⟨Hb, Hbufs⟩, ⟨Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hrun := (hrun ι) $$ [Ho Hin Hb Hs HO Hmw]
  · isplitl [Ho]; · iexact Ho
    isplitl [Hin]; · iexact Hin
    isplitl [Hb]; · iexact Hb
    isplitl [Hs]; · iexact Hs
    isplitr; · iexact Hwm
    unfold Owing
    isplitl [Hmw]; · iexact Hmw
    iexists W
    isplitr
    · ipureintro; exact fun p hp => .inl hp
    · iexact HO
  iapply (wp_wand frame _ Set.univ) $$ Hrun
  iintro %u ⟨Ho, Hin, Hb, Hs, -, HO⟩
  unfold Owing
  icases HO with ⟨-, HO⟩
  isplitl [Ho Hin]
  · isplitl [Ho] <;> iassumption
  isplitl [Hb Hbufs]
  · isplitl [Hb] <;> iassumption
  isplitl [Hs Hsems]
  · isplitl [Hs] <;> iassumption
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (F := F) (coordsV c s)
          xV (Memref.isWhole_whole _) mV (Memref.isWhole_whole _) zV (Memref.isWhole_whole _) oV (Memref.isWhole_whole _)
          sV0 (Memref.isWhole_whole _) sV1 (Memref.isWhole_whole _) sV2 (Memref.isWhole_whole _) sV3 (Memref.isWhole_whole _) sV4 (Memref.isWhole_whole _)
          sV5 (Memref.isWhole_whole _) sV6 (Memref.isWhole_whole _) cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wid_coords (c : Fin (grid0.bound 0)) (s : Fin (grid0.bound 1)) : (wid (coordsV c s)).toNat = wn c.val s.val := wid_eq (coordsV c s)

set_option maxRecDepth 16384 in
theorem tileObl (hF : (K (F := F)).Facts) (hz0 : ∀ d y, (v d).z y = (v d).z0) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body d (coordsV ⟨_, hci.1⟩ ⟨_, hci.2⟩) v hF hz0 O W hO).trans (wp_mono frame _ _ fun _ => obl_post (q := 0))
  rw [wid_coords] at h
  exact h

end Cert.Proof.Launch

end
-- ==== Proof.Main.lean ====
/-
  The whole program's run: the host's operations before the SparseCore call, the call, the operations after it; the launch.
-/
module

public import proofs.«01_k».proof.Proof.Task

@[expose] public section

noncomputable section

namespace Cert.Proof.Launch

open Cert.KernelIdeal Cert.KernelIdeal.Gen Cert.Proof.Marks Cert.Proof.Cover Cert.Proof.Count
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ (UU F) ℕ

variable (m : (ℓ : Loc nD τ sig) → Buf (Elt F) ℓ) (ρ : Dev nD → PrngReg)

/-! ## The arrays of the program -/

abbrev a0 : DevRef τ sig := Proc.devRef .tc (main_arg0 : Ref sig .tc)
abbrev a1 : DevRef τ sig := Proc.devRef .tc (main_arg1 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev bc : DevRef τ sig := Proc.devRef .tc (main_c : Ref sig .tc)
abbrev b3 : DevRef τ sig := Proc.devRef .tc (main_v3 : Ref sig .tc)
abbrev b4 : DevRef τ sig := Proc.devRef .tc (main_v4 : Ref sig .tc)
abbrev bz : DevRef τ sig := Proc.devRef .tc (main_cst : Ref sig .tc)
abbrev b5 : DevRef τ sig := Proc.devRef .tc (main_v5 : Ref sig .tc)
abbrev b6 : DevRef τ sig := Proc.devRef .tc (main_v6 : Ref sig .tc)
abbrev b7 : DevRef τ sig := Proc.devRef .tc (main_v7 : Ref sig .tc)
abbrev b8 : DevRef τ sig := Proc.devRef .tc (main_v8 : Ref sig .tc)

/-- All of them; those of the call; those the claims read at the end. -/
abbrev SA : Finset (DevRef τ sig) := {a0, a1, b0, b1, b2, bc, b3, b4, bz, b5, b6, b7, b8}
abbrev SC : Finset (DevRef τ sig) := {b6, b1, b4, b5}
abbrev SE : Finset (DevRef τ sig) := {b8, a0, a1}

theorem SC_sub : SC ⊆ SA := by decide
theorem SE_sub : SE ⊆ SA := by decide

theorem unscoped_held (d : Dev nD) : (unscopedBufs d (fun b => m ((SparseCore.T d).loc b)) : sProp 𝕄) = held (T d) SA (fun b => m (d, b)) := by
  unfold unscopedBufs held
  rw [show (Finset.univ.filter fun b : Ref sig .tc => ¬ b.isScoped)
      = {main_arg0, main_arg1, main_v0, main_v1, main_v2, main_c, main_v3, main_v4, main_cst, main_v5, main_v6, main_v7, main_v8} by decide,
    show SA = ({main_arg0, main_arg1, main_v0, main_v1, main_v2, main_c, main_v3, main_v4, main_cst, main_v5, main_v6, main_v7, main_v8} : Finset (Ref sig .tc)).image
      (Proc.devRef .tc) by decide,
    SparseCore.bigSep_image_of_injOn (fun a _ b _ h => Proc.devRef_injective _ h)]

theorem held_in {S B : Finset (DevRef τ sig)} (h : B ⊆ S) (d : Dev nD) (W : Valuation τ sig (Elt F)) :
    (held (T d) S W : sProp 𝕄) = iprop(held (T d) B W ∗ held (T d) (S \ B) W) := by
  unfold held
  exact BI.bigSep_sdiff_split h

theorem held_SC (d : Dev nD) (W : Valuation τ sig (Elt F)) :
    (held (T d) SC W : sProp 𝕄)
      = iprop((oLoc d ↦{fullShare} W b6) ∗ (xLoc d ↦{fullShare} W b1) ∗ (mLoc d ↦{fullShare} W b4) ∗ zLoc d ↦{fullShare} W b5) := by
  unfold held
  rw [SparseCore.bigSep_insert' (by decide), SparseCore.bigSep_insert' (by decide), SparseCore.bigSep_insert' (by decide), bigSep_singleton]

abbrev rLoc (d : Dev nD) : Loc nD τ sig := (SparseCore.T d).loc main_v8
abbrev iLoc (d : Dev nD) : Loc nD τ sig := (SparseCore.T d).loc main_arg0
abbrev kLoc (d : Dev nD) : Loc nD τ sig := (SparseCore.T d).loc main_arg1

theorem held_SE (d : Dev nD) (W : Valuation τ sig (Elt F)) :
    (held (T d) SE W : sProp 𝕄)
      = iprop((rLoc d ↦{fullShare} W b8) ∗ (iLoc d ↦{fullShare} W a0) ∗ kLoc d ↦{fullShare} W a1) := by
  unfold held
  rw [SparseCore.bigSep_insert' (by decide), SparseCore.bigSep_insert' (by decide), bigSep_singleton]

/-! ## The host's operations -/

variable [FloatOps F]

abbrev op0 : HloOp τ sig (Elt F) := StableHlo.unary main_arg0 main_v0 ((transpose S196x256x768 [1, 0, 2] · transposes_S256x196x768_S196x256x768_1_0_2) : (⟨S256x196x768, .f32⟩ : BufTy).Contents (Elt F) → (⟨S196x256x768, .f32⟩ : BufTy).Contents (Elt F))
abbrev op1 : HloOp τ sig (Elt F) := StableHlo.reshape main_v0 main_v1 (rfl : (.f32 : EltTy) = .f32) shapeCasts_S196x256x768_S150528x2x128
abbrev op2 : HloOp τ sig (Elt F) := StableHlo.reshape main_arg1 main_v2 (rfl : (.i32 : EltTy) = .i32) shapeCasts_S196x1_S196
abbrev opc : HloOp τ sig (Elt F) := StableHlo.nullary main_c (constantI S_ 32 1#32)
abbrev op3 : HloOp τ sig (Elt F) := StableHlo.unary main_c main_v3 (broadcastInDim S12 ![] bcast_S_S12 : (⟨S_, .i32⟩ : BufTy).Contents (Elt F) → (⟨S12, .i32⟩ : BufTy).Contents (Elt F))
abbrev op4 : HloOp τ sig (Elt F) := StableHlo.binary main_v2 main_v3 main_v4 ((fun a b => concatenate S208 0 [⟨S196, a⟩, ⟨S12, b⟩] concatenates_S196_S12_S208_d0) : (⟨S196, .i32⟩ : BufTy).Contents (Elt F) → (⟨S12, .i32⟩ : BufTy).Contents (Elt F) → (⟨S208, .i32⟩ : BufTy).Contents (Elt F))
abbrev opz : HloOp τ sig (Elt F) := StableHlo.nullary main_cst (constant S_ .f32 0x00000000#32)
abbrev op5 : HloOp τ sig (Elt F) := StableHlo.unary main_cst main_v5 (broadcastInDim S48x2x128 ![] bcast_S_S48x2x128 : (⟨S_, .f32⟩ : BufTy).Contents (Elt F) → (⟨S48x2x128, .f32⟩ : BufTy).Contents (Elt F))
abbrev op7 : HloOp τ sig (Elt F) := StableHlo.reshape main_v6 main_v7 (rfl : (.f32 : EltTy) = .f32) shapeCasts_S150528x2x128_S196x256x768
abbrev op8 : HloOp τ sig (Elt F) := StableHlo.unary main_v7 main_v8 ((transpose S256x196x768 [1, 0, 2] · transposes_S196x256x768_S256x196x768_1_0_2) : (⟨S196x256x768, .f32⟩ : BufTy).Contents (Elt F) → (⟨S256x196x768, .f32⟩ : BufTy).Contents (Elt F))

theorem ne0 (W : Valuation τ sig (Elt F)) {b : DevRef τ sig} (h : b ≠ b0) : (op0 (F := F)).result W b = W b :=
  (op0 (F := F)).result_of_not_mem W (fun hb => h (Finset.mem_singleton.mp (show b ∈ ({b0} : Finset (DevRef τ sig)) from hb)))
theorem ne1 (W : Valuation τ sig (Elt F)) {b : DevRef τ sig} (h : b ≠ b1) : (op1 (F := F)).result W b = W b :=
  (op1 (F := F)).result_of_not_mem W (fun hb => h (Finset.mem_singleton.mp (show b ∈ ({b1} : Finset (DevRef τ sig)) from hb)))
theorem ne2 (W : Valuation τ sig (Elt F)) {b : DevRef τ sig} (h : b ≠ b2) : (op2 (F := F)).result W b = W b :=
  (op2 (F := F)).result_of_not_mem W (fun hb => h (Finset.mem_singleton.mp (show b ∈ ({b2} : Finset (DevRef τ sig)) from hb)))
theorem nec (W : Valuation τ sig (Elt F)) {b : DevRef τ sig} (h : b ≠ bc) : (opc (F := F)).result W b = W b :=
  (opc (F := F)).result_of_not_mem W (fun hb => h (Finset.mem_singleton.mp (show b ∈ ({bc} : Finset (DevRef τ sig)) from hb)))
theorem ne3 (W : Valuation τ sig (Elt F)) {b : DevRef τ sig} (h : b ≠ b3) : (op3 (F := F)).result W b = W b :=
  (op3 (F := F)).result_of_not_mem W (fun hb => h (Finset.mem_singleton.mp (show b ∈ ({b3} : Finset (DevRef τ sig)) from hb)))
theorem ne4 (W : Valuation τ sig (Elt F)) {b : DevRef τ sig} (h : b ≠ b4) : (op4 (F := F)).result W b = W b :=
  (op4 (F := F)).result_of_not_mem W (fun hb => h (Finset.mem_singleton.mp (show b ∈ ({b4} : Finset (DevRef τ sig)) from hb)))
theorem nez (W : Valuation τ sig (Elt F)) {b : DevRef τ sig} (h : b ≠ bz) : (opz (F := F)).result W b = W b :=
  (opz (F := F)).result_of_not_mem W (fun hb => h (Finset.mem_singleton.mp (show b ∈ ({bz} : Finset (DevRef τ sig)) from hb)))
theorem ne5 (W : Valuation τ sig (Elt F)) {b : DevRef τ sig} (h : b ≠ b5) : (op5 (F := F)).result W b = W b :=
  (op5 (F := F)).result_of_not_mem W (fun hb => h (Finset.mem_singleton.mp (show b ∈ ({b5} : Finset (DevRef τ sig)) from hb)))
theorem ne7 (W : Valuation τ sig (Elt F)) {b : DevRef τ sig} (h : b ≠ b7) : (op7 (F := F)).result W b = W b :=
  (op7 (F := F)).result_of_not_mem W (fun hb => h (Finset.mem_singleton.mp (show b ∈ ({b7} : Finset (DevRef τ sig)) from hb)))
theorem ne8 (W : Valuation τ sig (Elt F)) {b : DevRef τ sig} (h : b ≠ b8) : (op8 (F := F)).result W b = W b :=
  (op8 (F := F)).result_of_not_mem W (fun hb => h (Finset.mem_singleton.mp (show b ∈ ({b8} : Finset (DevRef τ sig)) from hb)))

/-- The arrays at the launch, and when the call starts. -/
def V0 (d : Dev nD) : Valuation τ sig (Elt F) := fun b => m (d, b)
def V1 (d : Dev nD) : Valuation τ sig (Elt F) :=
  (op5 (F := F)).result ((opz (F := F)).result ((op4 (F := F)).result ((op3 (F := F)).result ((opc (F := F)).result
    ((op2 (F := F)).result ((op1 (F := F)).result ((op0 (F := F)).result (V0 m d))))))))

/-- The word the call fills the rows of no kept token with. -/
def zero : Elt F .f32 := constant (F := F) S_ .f32 0x00000000#32 (fun a => a.elim0)

/-- What the call's arrays hold when it starts. -/
def vals (d : Dev nD) : Vals F where
  x := V1 m d b1
  m := V1 m d b4
  z := V1 m d b5
  o := V1 m d b6
  z0 := zero

/-- The arrays when the call is done, and at the end. -/
def V2 (d : Dev nD) : Valuation τ sig (Elt F) := Function.update (V1 m d) b6 (vals m d).G
def V3 (d : Dev nD) : Valuation τ sig (Elt F) := (op8 (F := F)).result ((op7 (F := F)).result (V2 m d))

theorem V2_b6 (d : Dev nD) : V2 m d b6 = (vals m d).G := Function.update_self _ _ _
theorem V2_ne (d : Dev nD) {b : DevRef τ sig} (h : b ≠ b6) : V2 m d b = V1 m d b := Function.update_of_ne h _ _

theorem V1_a0 (d : Dev nD) : V1 m d a0 = m (iLoc d) := by
  unfold V1
  rw [ne5 _ (by decide), nez _ (by decide), ne4 _ (by decide), ne3 _ (by decide), nec _ (by decide), ne2 _ (by decide), ne1 _ (by decide), ne0 _ (by decide)]
  rfl
theorem V1_a1 (d : Dev nD) : V1 m d a1 = m (kLoc d) := by
  unfold V1
  rw [ne5 _ (by decide), nez _ (by decide), ne4 _ (by decide), ne3 _ (by decide), nec _ (by decide), ne2 _ (by decide), ne1 _ (by decide), ne0 _ (by decide)]
  rfl

/-- The rows the call reads: the tokens outermost. -/
def xRows (d : Dev nD) : S150528x2x128.Idx → Elt F .f32 :=
  shapeCast S150528x2x128 (transpose S196x256x768 [1, 0, 2] (m (iLoc d) : S256x196x768.Idx → Elt F .f32) transposes_S256x196x768_S196x256x768_1_0_2) shapeCasts_S196x256x768_S150528x2x128
/-- The mask the call reads: filled up with ones. -/
def mask (d : Dev nD) : S208.Idx → BitVec 32 :=
  concatenate S208 0 [⟨S196, shapeCast S196 (m (kLoc d) : S196x1.Idx → BitVec 32) shapeCasts_S196x1_S196⟩, ⟨S12, fun _ => 1#32⟩] concatenates_S196_S12_S208_d0

theorem V1_b1 (d : Dev nD) : V1 m d b1 = xRows m d := by
  unfold V1
  rw [ne5 _ (by decide), nez _ (by decide), ne4 _ (by decide), ne3 _ (by decide), nec _ (by decide), ne2 _ (by decide)]
  refine (StableHlo.reshape_result _ _ _ _ _ _ _).trans ?_
  rw [StableHlo.unary_result]
  rfl

theorem V1_b4 (d : Dev nD) : V1 m d b4 = mask m d := by
  unfold V1
  rw [ne5 _ (by decide), nez _ (by decide)]
  refine (StableHlo.binary_result _ _ _ _ _ _ _ _).trans ?_
  rw [StableHlo.unary_result, StableHlo.nullary_result, ne3 _ (by decide), nec _ (by decide)]
  rw [show (op2 (F := F)).result ((op1 (F := F)).result ((op0 (F := F)).result (V0 m d))) b2
      = (shapeCast S196 (m (kLoc d) : S196x1.Idx → BitVec 32) shapeCasts_S196x1_S196 : S196.Idx → BitVec 32) from
    (StableHlo.reshape_result _ _ _ _ _ _ _).trans (by rw [ne1 _ (by decide), ne0 _ (by decide)]; rfl)]
  rfl

theorem V1_b5 (d : Dev nD) (y : S48x2x128.Idx) : (vals m d).z y = (vals m d).z0 := by
  show (V1 m d b5 : S48x2x128.Idx → Elt F .f32) y = zero
  have h : V1 m d b5 = (broadcastInDim S48x2x128 ![] bcast_S_S48x2x128 (constant (F := F) S_ .f32 0x00000000#32) : S48x2x128.Idx → Elt F .f32) := by
    unfold V1
    refine (StableHlo.unary_result _ _ _ _ _ _).trans ?_
    rw [StableHlo.nullary_result]
  rw [h]
  rfl

/-- The result: the call's output, the batch outermost again. -/
def result (d : Dev nD) : S256x196x768.Idx → Elt F .f32 :=
  transpose S256x196x768 [1, 0, 2] (shapeCast S196x256x768 (outVal (keepP (mask m d)) (xRows m d) zero) shapeCasts_S150528x2x128_S196x256x768)
    transposes_S196x256x768_S256x196x768_1_0_2

theorem G_eq (d : Dev nD) : (vals m d).G = outVal (keepP (mask m d)) (xRows m d) zero := by
  unfold Vals.G vals
  dsimp only
  rw [V1_b1, V1_b4]

theorem V3_b8 (d : Dev nD) : V3 m d b8 = result m d := by
  unfold V3 result
  refine (StableHlo.unary_result _ _ _ _ _ _).trans ?_
  rw [show (op7 (F := F)).result (V2 m d) b7 = (shapeCast S196x256x768 (outVal (keepP (mask m d)) (xRows m d) zero) shapeCasts_S150528x2x128_S196x256x768 : S196x256x768.Idx → Elt F .f32) from
    (StableHlo.reshape_result _ _ _ _ _ _ _).trans (by rw [V2_b6, G_eq]; rfl)]
theorem V3_a0 (d : Dev nD) : V3 m d a0 = m (iLoc d) := by
  unfold V3
  rw [ne8 _ (by decide), ne7 _ (by decide), V2_ne m d (by decide), V1_a0]
theorem V3_a1 (d : Dev nD) : V3 m d a1 = m (kLoc d) := by
  unfold V3
  rw [ne8 _ (by decide), ne7 _ (by decide), V2_ne m d (by decide), V1_a1]

/-! ## The sequencers' part and the launch -/

variable (v : Dev nD → Vals F)

theorem vecSplit : (K (F := F)).VecSplit' (P v) 0 := by
  intro d c
  show (bigSep Finset.univ fun i : Fin 16 => goPts v d c.val i.val) ⊢ |={Set.univ}=> iprop(
      (bigSep Finset.univ fun i : Fin 16 => goPts v d c.val i.val)
      ∗ ((bigSep Finset.univ fun i : Fin 16 => tdPts v d c.val i.val) -∗ bigSep Finset.univ fun i : Fin 16 => tdPts v d c.val i.val))
  iintro H; imodintro
  isplitl [H]; · iexact H
  iintro H; iexact H

/-- The launch element of the ghost state. -/
def u₀ : UU F := (initOf (K (F := F)).hsCells (K (F := F)).hsToks, (wm₀ nD τ sig (Elt F), 1))

omit [FloatOps F] in
theorem bigSep_emp' {I : Type} (s : Finset I) : (bigSep s fun _ => iprop(emp)) = (iprop(emp) : sProp 𝕄) := bigSep_emp_const s

omit [FloatOps F] in
theorem deal (ι : ℕ) : (wmInv wmE ι : sProp 𝕄) ⊢ bigSep Finset.univ fun thr : Thread nD τ => bigSep Finset.univ fun q : Fin 1 => iprop(∃ ι, wmInv wmE ι) := by
  refine bigSep_intro_persistent fun thr _ => bigSep_intro_persistent fun q _ => ?_
  iintro H; iexists ι; iexact H

include m ρ in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P v).x q thr) := by
  unfold u₀
  iintro Hu
  ihave H := (ownU_pair (initOf (K (F := F)).hsCells (K (F := F)).hsToks) (wm₀ nD τ sig (Elt F), (1 : Counters))) $$ Hu
  icases H with ⟨HH, Hw⟩
  ihave Hw := (show (BI.own (embR (wm₀ nD τ sig (Elt F), (1 : Counters))) : sProp 𝕄) ⊢ ownU (wmE (wm₀ nD τ sig (Elt F))) from .rfl) $$ Hw
  imod ((wmInv_alloc (emb := wmE (F := F)) (Ix := HIx 1) (Lvl := ℕ) (Name := ℕ) ⟨m, fun _ => 0, ρ⟩ : (ownU (wmE (wm₀ nD τ sig (Elt F))) : sProp 𝕄) ⊢ _)) $$ Hw with ⟨%ι, -, #Hwm⟩
  imodintro
  isplitl [HH]; · iexact HH
  isplitr; · rw [bigSep_emp']; iempintro
  iapply (deal (F := F) ι); iexact Hwm

/-! ## The host -/

theorem st0_eq (d : Dev nD) : (bigSep Finset.univ fun c : Fin ((K (F := F)).nCore 0) => (P v).st 0 d c) = (allPts v d (v d).o : sProp 𝕄) :=
  (all_eq v d (v d).o).symm
theorem dn0_eq (d : Dev nD) : (bigSep Finset.univ fun c : Fin ((K (F := F)).nCore 0) => (P v).dn 0 d c) = (allPts v d (v d).G : sProp 𝕄) :=
  (all_eq v d (v d).G).symm

theorem sub0 : (op0 (F := F)).bufs ⊆ SA := show ({a0, b0} : Finset (DevRef τ sig)) ⊆ SA by decide
theorem sub1 : (op1 (F := F)).bufs ⊆ SA := show ({b0, b1} : Finset (DevRef τ sig)) ⊆ SA by decide
theorem sub2 : (op2 (F := F)).bufs ⊆ SA := show ({a1, b2} : Finset (DevRef τ sig)) ⊆ SA by decide
theorem subc : (opc (F := F)).bufs ⊆ SA := show ({bc} : Finset (DevRef τ sig)) ⊆ SA by decide
theorem sub3 : (op3 (F := F)).bufs ⊆ SA := show ({bc, b3} : Finset (DevRef τ sig)) ⊆ SA by decide
theorem sub4 : (op4 (F := F)).bufs ⊆ SA := show ({b2, b3, b4} : Finset (DevRef τ sig)) ⊆ SA by decide
theorem subz : (opz (F := F)).bufs ⊆ SA := show ({bz} : Finset (DevRef τ sig)) ⊆ SA by decide
theorem sub5 : (op5 (F := F)).bufs ⊆ SA := show ({bz, b5} : Finset (DevRef τ sig)) ⊆ SA by decide
theorem sub7 : (op7 (F := F)).bufs ⊆ SA := show ({b6, b7} : Finset (DevRef τ sig)) ⊆ SA by decide
theorem sub8 : (op8 (F := F)).bufs ⊆ SA := show ({b7, b8} : Finset (DevRef τ sig)) ⊆ SA by decide

/-- The arrays before the call: those of the call, and the rest. -/
theorem before (d : Dev nD) : (held (T d) SA (V1 m d) : sProp 𝕄) = iprop(allPts (vals m) d (vals m d).o ∗ held (T d) (SA \ SC) (V1 m d)) := by
  rw [held_in SC_sub, held_SC]; rfl

theorem before' (d : Dev nD) :
    (held (T d) SA ((op5 (F := F)).result ((opz (F := F)).result ((op4 (F := F)).result ((op3 (F := F)).result ((opc (F := F)).result
      ((op2 (F := F)).result ((op1 (F := F)).result ((op0 (F := F)).result (V0 m d))))))))) : sProp 𝕄)
      = iprop(allPts (vals m) d (vals m d).o ∗ held (T d) (SA \ SC) (V1 m d)) := before m d

/-- And after it. -/
theorem after (d : Dev nD) : (held (T d) SA (V2 m d) : sProp 𝕄) = iprop(allPts (vals m) d (vals m d).G ∗ held (T d) (SA \ SC) (V1 m d)) := by
  rw [held_in SC_sub, held_SC, V2_b6, V2_ne m d (show b1 ≠ b6 by decide), V2_ne m d (show b4 ≠ b6 by decide), V2_ne m d (show b5 ≠ b6 by decide)]
  congr 1

/-- What the program leaves the claims. -/
abbrev FIN (d : Dev nD) : sProp 𝕄 :=
  iprop((rLoc d ↦{fullShare} result m d) ∗ (iLoc d ↦{fullShare} m (iLoc d)) ∗ kLoc d ↦{fullShare} m (kLoc d))

theorem finish (d : Dev nD) : (held (T d) SA (V3 m d) : sProp 𝕄) = iprop(FIN m d ∗ held (T d) (SA \ SE) (V3 m d)) := by
  rw [held_in SE_sub, held_SE, V3_b8, V3_a0, V3_a1]

theorem hmain (κ : GSem nD τ sig → ℕ) (d : Dev nD) :
    iprop((K (F := F)).ctx EH (P (vals m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, show (fun b => m (d, b)) = V0 m d from rfl]
  simp only [main, wp_bind, wp_pure]
  iintro ⟨#Hctx, Hst, ⟨Hb, Hheld, Hts, -⟩, -⟩
  iapply (wp_hlo_within 𝒱 (SparseCore.T d) none Set.univ (op := op0) (S := SA) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SA) sub1) $$ [Hb Hheld]
  · isplitl [Hb] <;> iassumption
  iintro ⟨Hb, Hheld⟩
  rw [wp_ret]; imodintro
  iapply (wp_hlo_within 𝒱 (SparseCore.T d) none Set.univ (op := op2) (S := SA) sub2) $$ [Hb Hheld]
  · isplitl [Hb] <;> iassumption
  iintro ⟨Hb, Hheld⟩
  rw [wp_ret]; imodintro
  iapply (wp_hlo_within 𝒱 (SparseCore.T d) none Set.univ (op := opc) (S := SA) subc) $$ [Hb Hheld]
  · isplitl [Hb] <;> iassumption
  iintro ⟨Hb, Hheld⟩
  rw [wp_ret]; imodintro
  iapply (wp_hlo_within 𝒱 (SparseCore.T d) none Set.univ (op := op3) (S := SA) sub3) $$ [Hb Hheld]
  · isplitl [Hb] <;> iassumption
  iintro ⟨Hb, Hheld⟩
  rw [wp_ret]; imodintro
  iapply (wp_hlo_within 𝒱 (SparseCore.T d) none Set.univ (op := op4) (S := SA) sub4) $$ [Hb Hheld]
  · isplitl [Hb] <;> iassumption
  iintro ⟨Hb, Hheld⟩
  rw [wp_ret]; imodintro
  iapply (wp_hlo_within 𝒱 (SparseCore.T d) none Set.univ (op := opz) (S := SA) subz) $$ [Hb Hheld]
  · isplitl [Hb] <;> iassumption
  iintro ⟨Hb, Hheld⟩
  rw [wp_ret]; imodintro
  iapply (wp_hlo_within 𝒱 (SparseCore.T d) none Set.univ (op := op5) (S := SA) sub5) $$ [Hb Hheld]
  · isplitl [Hb] <;> iassumption
  iintro ⟨Hb, Hheld⟩
  rw [wp_ret]; imodintro
  ihave Hh := (Entails.of_eq (before' m d)) $$ Hheld
  icases Hh with ⟨Hall, Hrest⟩
  iapply ((K (F := F)).wp_run (D (F := F)) 𝒱 (EH := EH) (P := P (vals m)) κ d 0) $$ [Hst Hall Hb Hrest Hts]
  isplitr; · iexact Hctx
  isplitl [Hst]; · iexact Hst
  isplitl [Hall]
  · rw [st0_eq]; iexact Hall
  iintro ⟨Hst, Hdn⟩
  ihave Hall := (Entails.of_eq (dn0_eq (vals m) d)) $$ Hdn
  iapply (wp_hlo_within 𝒱 (SparseCore.T d) none Set.univ (op := op7) (S := SA) sub7 (V := V2 m d)) $$ [Hb Hall Hrest]
  · isplitl [Hb]; · iexact Hb
    rw [after]
    isplitl [Hall] <;> iassumption
  iintro ⟨Hb, Hheld⟩
  rw [wp_ret]; imodintro
  iapply (wp_hlo_within 𝒱 (SparseCore.T d) none Set.univ (op := op8) (S := SA) sub8) $$ [Hb Hheld]
  · isplitl [Hb] <;> iassumption
  iintro ⟨Hb, Hheld⟩
  ihave Hh := (Entails.of_eq (show (held (T d) SA ((op8 (F := F)).result ((op7 (F := F)).result (V2 m d))) : sProp 𝕄) = _ from finish m d)) $$ Hheld
  icases Hh with ⟨Hfin, -⟩
  rw [wp_ret]; imodintro; imodintro
  isplitl [Hst]; · iexact Hst
  isplitl [Hfin]; · iexact Hfin
  isplitl [Hb] <;> iassumption

/-- What the claims read of device `d`'s final state. -/
def fq (d : Dev nD) (s' : Phys nD τ sig (Elt F)) : Prop :=
  s'.mem.mem (rLoc d) = result m d ∧ s'.mem.mem (iLoc d) = m (iLoc d) ∧ s'.mem.mem (kLoc d) = m (kLoc d)

theorem hfin (d : Dev nD) (s' : Phys nD τ sig (Elt F)) : iprop(FIN m d ∗ SI s') ⊢ (⌜fq m d s'⌝ : sProp 𝕄) := by
  iintro ⟨⟨Hr, Hx, Hk⟩, HSI⟩
  ihave H := (persistent_entails_right (SI_pointsTo_agree (st := s') (ℓ := rLoc d) (I := Finset.univ) (q := fullShare) (f := result m d))) $$ [HSI Hr]
  · isplitl [HSI] <;> iassumption
  icases H with ⟨%hr, HSI, -⟩
  ihave H := (persistent_entails_right (SI_pointsTo_agree (st := s') (ℓ := iLoc d) (I := Finset.univ) (q := fullShare) (f := m (iLoc d)))) $$ [HSI Hx]
  · isplitl [HSI] <;> iassumption
  icases H with ⟨%hx, HSI, -⟩
  ihave H := (SI_pointsTo_agree (st := s') (ℓ := kLoc d) (I := Finset.univ) (q := fullShare) (f := m (kLoc d))) $$ [HSI Hk]
  · isplitl [HSI] <;> iassumption
  icases H with %hk
  ipureintro
  exact ⟨funext fun i => hr i (Finset.mem_univ i), funext fun i => hx i (Finset.mem_univ i), funext fun i => hk i (Finset.mem_univ i)⟩

/-- What every run of the program ends with. -/
def QC : PUnit × MemSt nD τ sig (Elt F) → Prop := fun r =>
  (∀ c : Dev nD, r.2.mem (rLoc c) = result m c ∧ r.2.mem (iLoc c) = m (iLoc c) ∧ r.2.mem (kLoc c) = m (kLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq)
    (fun q _ => match q with | 0 => tileObl (vals m) facts (V1_b5 m))
    (fun q _ => match q with | 0 => SparseCore.Cfg.VecSplit.of_plain (vecSplit (vals m)))
    m ρ main (fun _ => iprop(emp)) (FIN m) (u₀ (F := F)) (sep_elim_left.trans (hu₀ m ρ (vals m))) (hmain m ρ) (fq m) (hfin m) (QC m) (fun _ h hz => ⟨h, hz⟩)

end Cert.Proof.Launch

end
-- ==== Proof.Result.lean ====
/-
  The kernel's result, read at one element.
-/
module

public import proofs.«01_k».proof.Proof.Main
public import Idealize.ShloMosaic.Lib.Pipeline.Value
public import Idealize.ShloMosaic.Lib.ValueIdxCore

@[expose] public section

noncomputable section

namespace Cert.Proof.Launch

open Cert.KernelIdeal Cert.KernelIdeal.Gen Cert.Proof.Geom Cert.Proof.Marks Cert.Proof.Cover Cert.Proof.Count
open Idealize.ShloMosaic Idealize.ShloMosaic.ValueIdx
open Idealize.SL.Sem

variable {F : FTy → Type} [FloatOps F]
variable (m : (ℓ : Loc nD τ sig) → Buf (Elt F) ℓ) (d : Dev nD)

/-- The mask word of token `p`. -/
def word (p : Fin 196) : BitVec 32 := (m (kLoc d) : S196x1.Idx → BitVec 32) (ix2 p 0)

/-- Where element `(b, p, l)` of the result lies among the call's rows of 256. -/
def place (b : Fin 256) (p : Fin 196) (l : Fin 768) : S150528x2x128.Idx :=
  ix3 ⟨((p.val * 256 + b.val) * 768 + l.val) / 256, by have := b.isLt; have := p.isLt; have := l.isLt; omega⟩
    ⟨((p.val * 256 + b.val) * 768 + l.val) / 128 % 2, by omega⟩ ⟨((p.val * 256 + b.val) * 768 + l.val) % 128, by omega⟩

theorem place_flat (b : Fin 256) (p : Fin 196) (l : Fin 768) :
    (S150528x2x128.rowMajor (place b p l)).val = (S196x256x768.rowMajor (ix3 p b l)).val := by
  rw [Shape.rowMajor_val_three, Shape.rowMajor_val_three]
  show ((((p.val * 256 + b.val) * 768 + l.val) / 256) * 2 + ((p.val * 256 + b.val) * 768 + l.val) / 128 % 2) * 128 + ((p.val * 256 + b.val) * 768 + l.val) % 128
    = (p.val * 256 + b.val) * 768 + l.val
  omega

theorem place_token (b : Fin 256) (p : Fin 196) (l : Fin 768) : (place b p l 0).val / 768 = p.val := by
  show ((p.val * 256 + b.val) * 768 + l.val) / 256 / 768 = p.val
  have := b.isLt; have := l.isLt; omega

/-- The call's rows hold the input's elements. -/
theorem xRows_place (b : Fin 256) (p : Fin 196) (l : Fin 768) :
    xRows m d (place b p l) = (m (iLoc d) : S256x196x768.Idx → Elt F .f32) (ix3 b p l) := by
  unfold xRows
  rw [shapeCast_apply _ _ _ (ix3 p b l) (place_flat b p l).symm]
  refine transpose_apply _ _ _ _ (ix3 b p l) fun a => ?_
  match a with
  | ⟨0, _⟩ => rfl
  | ⟨1, _⟩ => rfl
  | ⟨2, _⟩ => rfl

/-- The call's mask holds the input's words. -/
theorem mask_word (p : Fin 196) (h : p.val < 208) : mask m d (ix208 p.val h) = word m d p := by
  unfold mask
  refine (concatenate_pair_apply_left (t := S208) (s₁ := S196) (s₂ := S12) 0 _ _ concatenates_S196_S12_S208_d0 _ rfl (ix1 p)
    (fun a => by match a with | ⟨0, _⟩ => rfl)).trans ?_
  refine shapeCast_apply _ _ _ (ix2 p 0) ?_
  rw [Shape.rowMajor_val_two, Shape.rowMajor_val_one]
  show p.val * 1 + 0 = p.val
  omega

/-- A token is kept just when it is not the first and its mask word is zero. -/
theorem keepP_word (p : Fin 196) : keepP (mask m d) p.val ↔ 0 < p.val ∧ word m d p = 0#32 := by
  have h : p.val < 208 := Nat.lt_trans p.isLt (by decide)
  unfold keepP
  constructor
  · rintro ⟨h0, -, h', e⟩
    exact ⟨h0, (mask_word m d p h').symm.trans e⟩
  · rintro ⟨h0, e⟩
    exact ⟨h0, p.isLt, h, (mask_word m d p h).trans e⟩

/-- The kernel's result: a kept token's element is the input's, any other is zero. -/
theorem result_apply (b : Fin 256) (p : Fin 196) (l : Fin 768) :
    result m d (ix3 b p l)
      = if 0 < p.val ∧ word m d p = 0#32 then (m (iLoc d) : S256x196x768.Idx → Elt F .f32) (ix3 b p l) else zero := by
  unfold result
  rw [transpose_apply _ _ _ _ (ix3 p b l) (fun a => by
      match a with
      | ⟨0, _⟩ => rfl
      | ⟨1, _⟩ => rfl
      | ⟨2, _⟩ => rfl),
    shapeCast_apply _ _ _ (place b p l) (place_flat b p l)]
  unfold outVal
  rw [xRows_place]
  refine if_congr ?_ rfl rfl
  rw [place_token, keepP_word]

end Cert.Proof.Launch

end
-- ==== Proof.Zeroed.lean ====
/-
  The reference's result, read at one element: `x.at[:, idx, :].set(0)`, the indices `p * mask[p]` of a mask of zeros and ones.
-/
module

public import proofs.«01_k».proof.Proof.Gen.ReferenceIdeal.Run
public import Idealize.ShloMosaic.Lib.Pipeline.Value
public import Idealize.ShloMosaic.Lib.ValueIdxCore
public import Idealize.ShloMosaic.Lib.Routing.OpsSet

@[expose] public section

noncomputable section

namespace Cert.Proof.Zeroed

open Cert.ReferenceIdeal Cert.ReferenceIdeal.Gen
open Idealize.ShloMosaic Idealize.ShloMosaic.ValueIdx

/-! ## The indices -/

/-- The products `p * mask[p]`. -/
def prods (w : IVec S196x1 32) : IVec S196 32 :=
  shapeCast _ (muli (broadcastInDim S196x1 ![0] bcast_S196_S196x1_0 (iotaInDim S196 32 0)) w) shapeCasts_S196x1_S196

/-- The scatter's indices: a negative product counts from the end. -/
def indices (w : IVec S196x1 32) : IVec S196x1 32 :=
  broadcastInDim S196x1 ![0] bcast_S196_S196x1_0 (select (cmpi .slt (prods w) (broadcastInDim S196 ![] bcast_S_S196 (constantI S_ 32 0#32)))
    (addi (prods w) (broadcastInDim S196 ![] bcast_S_S196 (constantI S_ 32 196#32))) (prods w))

theorem prods_apply (w : IVec S196x1 32) (p : Fin 196) : prods w (ix1 p) = BitVec.ofNat 32 p.val * w (ix2 p 0) := by
  unfold prods
  rw [shapeCast_apply _ _ _ (ix2 p 0) (by
    rw [Shape.rowMajor_val_two, Shape.rowMajor_val_one]
    show p.val * 1 + 0 = p.val
    omega)]
  rfl

theorem indices_apply (w : IVec S196x1 32) (p : Fin 196) :
    indices w (ix2 p 0) = Scalar.select (IntOp.cmpi .slt (prods w (ix1 p)) 0#32) (prods w (ix1 p) + 196#32) (prods w (ix1 p)) := by
  unfold indices
  rw [broadcastInDim_apply _ _ _ _ (ix1 p) (fun a => by
    match a with
    | ⟨0, _⟩ => rfl)]
  rfl

/-- At a mask of zeros and ones, index `p` is `p` where the mask is one and 0 where it is zero. -/
theorem indices_int (w : IVec S196x1 32) (p : Fin 196) (h : w (ix2 p 0) = 0#32 ∨ w (ix2 p 0) = 1#32) :
    (indices w (ix2 p 0)).toInt = if w (ix2 p 0) = 0#32 then 0 else (p.val : Int) := by
  have hp := p.isLt
  have key : ∀ x : BitVec 32, x.toNat < 2 ^ 31 → Scalar.select (IntOp.cmpi .slt x 0#32) (x + 196#32) x = x :=
    fun x hx => Routing.wrap_of_lt x _ hx
  rw [indices_apply, prods_apply]
  rcases h with h | h
  · rw [h, if_pos rfl, BitVec.mul_zero, key _ (by decide)]
    rfl
  · have e : (BitVec.ofNat 32 p.val).toNat = p.val := by rw [BitVec.toNat_ofNat]; omega
    rw [h, if_neg (by decide), BitVec.mul_one, key _ (by rw [e]; omega)]
    exact StableHlo.Predicate.toInt_ofNat_small _ (by omega)

/-! ## Where the updates land -/

abbrev dims := scatter_S256x196x768_S196x1_S256x196x768_02_1_1_1

/-- Update `(b', k, l')` lands at `(b, p, l)` just when `b' = b`, `l' = l` and index `k`, read signed, is `p`. -/
theorem lands (idx : IVec S196x1 32) (b' b : Fin 256) (k p : Fin 196) (l' l : Fin 768) :
    dims.resultIdx? (ix3 b' k l') idx = some (ix3 b p l) ↔ b' = b ∧ (idx (ix2 k 0)).toInt = (p.val : Int) ∧ l' = l := by
  have s0 : dims.start (ix3 b' k l') idx 0 = 0 := by
    unfold ScatterDims.start
    exact dif_neg (by decide)
  have s2 : dims.start (ix3 b' k l') idx 2 = 0 := by
    unfold ScatterDims.start
    exact dif_neg (by decide)
  have s1 : dims.start (ix3 b' k l') idx 1 = (idx (ix2 k 0)).toInt := by
    unfold ScatterDims.start
    rw [dif_pos (by decide)]
    refine congrArg (fun q => (idx q).toInt) (funext fun a => ?_)
    match a with
    | ⟨0, _⟩ => rfl
    | ⟨1, _⟩ => exact Subsingleton.elim (α := Fin 1) _ _
  have w0 : dims.window (ix3 b' k l') 0 = b'.val := rfl
  have w1 : dims.window (ix3 b' k l') 1 = 0 := rfl
  have w2 : dims.window (ix3 b' k l') 2 = l'.val := rfl
  rw [Routing.resultIdx?_eq_some]
  constructor
  · intro h
    have h0 := h 0
    have h1 := h 1
    have h2 := h 2
    rw [s0, w0] at h0
    rw [s1, w1] at h1
    rw [s2, w2] at h2
    change (0 : Int) + (b'.val : Int) = (b.val : Int) at h0
    change (idx (ix2 k 0)).toInt + ((0 : ℕ) : Int) = (p.val : Int) at h1
    change (0 : Int) + (l'.val : Int) = (l.val : Int) at h2
    exact ⟨Fin.ext (by omega), by omega, Fin.ext (by omega)⟩
  · rintro ⟨rfl, h1, rfl⟩ a
    match a with
    | ⟨0, _⟩ =>
      refine (congrArg₂ (fun (x : Int) (y : ℕ) => x + (y : Int)) s0 w0).trans ?_
      show (0 : Int) + (b'.val : Int) = (b'.val : Int)
      omega
    | ⟨1, _⟩ =>
      refine (congrArg₂ (fun (x : Int) (y : ℕ) => x + (y : Int)) s1 w1).trans ?_
      show (idx (ix2 k 0)).toInt + ((0 : ℕ) : Int) = (p.val : Int)
      omega
    | ⟨2, _⟩ =>
      refine (congrArg₂ (fun (x : Int) (y : ℕ) => x + (y : Int)) s2 w2).trans ?_
      show (0 : Int) + (l'.val : Int) = (l'.val : Int)
      omega

/-! ## The result -/

variable {α : Type}

/-- The scatter of one value `z` at a mask of zeros and ones: the operand's element at a token that is not the first and whose mask word is zero, `z` at any other. -/
theorem scatter_apply (w : IVec S196x1 32) (hw : ∀ p : Fin 196, w (ix2 p 0) = 0#32 ∨ w (ix2 p 0) = 1#32) (x : S256x196x768.Idx → α)
    (u : S256x196x768.Idx → α) (z : α) (hu : ∀ j, u j = z) (b : Fin 256) (p : Fin 196) (l : Fin 768) :
    Host.scatter dims (fun _ b => b) x (indices w) u (ix3 b p l) = if 0 < p.val ∧ w (ix2 p 0) = 0#32 then x (ix3 b p l) else z := by
  have hit : ∀ k : Fin 196, (indices w (ix2 k 0)).toInt = (p.val : Int) →
      Host.scatter dims (fun _ b => b) x (indices w) u (ix3 b p l) = z := fun k hk =>
    Routing.scatter_set_hit dims x _ u _ z (fun j _ => hu j) (ix3 b k l) ((lands _ b b k p l l).2 ⟨rfl, hk, rfl⟩)
  by_cases h : 0 < p.val ∧ w (ix2 p 0) = 0#32
  · rw [if_pos h]
    refine Routing.scatter_set_miss dims x _ u _ fun j hj => ?_
    rw [eq_ix3 j] at hj
    have e := ((lands _ (j 0) b (j 1) p (j 2) l).1 hj).2.1
    have hi := indices_int w (j 1) (hw (j 1))
    by_cases hz : w (ix2 (j 1) 0) = 0#32
    · rw [if_pos hz] at hi
      have e' := hi.symm.trans e
      omega
    · rw [if_neg hz] at hi
      have e' : (j 1).val = p.val := Int.ofNat.inj (hi.symm.trans e)
      have e2 : (j 1 : Fin 196) = p := Fin.ext e'
      exact hz ((congrArg (fun q : Fin 196 => w (ix2 q 0)) e2).trans h.2)
  · rw [if_neg h]
    have hi := indices_int w p (hw p)
    by_cases hz : w (ix2 p 0) = 0#32
    · rw [if_pos hz] at hi
      have h0 : p.val = 0 := by
        by_contra hne
        exact h ⟨Nat.pos_of_ne_zero hne, hz⟩
      exact hit p (hi.trans (by rw [h0]; rfl))
    · rw [if_neg hz] at hi
      exact hit p hi

end Cert.Proof.Zeroed

end
-- ==== Proof.lean ====
/-
  The claims' proof: the kernel's run (Proof/Main.lean) gives its frames, the reference's generated run gives its own, and at a mask of zeros
  and ones the two results are equal element by element (Proof/Result.lean and Proof/Zeroed.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_mask_01
public import proofs.«01_k».proof.Proof.Result
public import proofs.«01_k».proof.Proof.Zeroed
public import Idealize.ShloMosaic.Lib.ReduceAll

@[expose] public section

noncomputable section

namespace Cert.Proof

open Idealize.ShloMosaic Idealize.ShloMosaic.ValueIdx Idealize.SL.Sem

/-! ## The frames -/

theorem frame_kernel : Cert.quiescent_Kernel := fun m ρ _ =>
  (θ_run (Cert.KernelIdeal.defs (F := Bits)) _ _).mono (fun _ h => ⟨fun c => ⟨(h.1 c).2.1, (h.1 c).2.2⟩, h.2⟩) (Launch.run_main (F := Bits) m ρ)

theorem frame_ideal : Cert.quiescent_KernelIdeal := fun m ρ _ =>
  (θ_run (Cert.KernelIdeal.defs (F := Ideal)) _ _).mono (fun _ h => ⟨fun c => ⟨(h.1 c).2.1, (h.1 c).2.2⟩, h.2⟩) (Launch.run_main (F := Ideal) m ρ)

theorem frame_reference : Cert.quiescent_ReferenceIdeal := fun m ρ _ =>
  (θ_run (Cert.ReferenceIdeal.defs (F := Ideal)) _ _).mono (fun r h => ⟨fun c => ⟨(h c).2.2.1, (h c).2.2.2⟩, sem_eq_zero_of_no_sems (by decide) r.2⟩)
    (Cert.ReferenceIdeal.Value.run (F := Ideal) m ρ)

/-! ## The equation -/

/-- The precondition says that every mask word is zero or one. -/
theorem words (x : FVec Ideal Cert.Pre_mask_01.S256x196x768 .f32) (w : IVec Cert.Pre_mask_01.S196x1 32)
    (h : Cert.Pre_mask_01.fn (F := Ideal) x w = fun _ => 1#1) (p : Fin 196) : w (ix2 p 0) = 0#32 ∨ w (ix2 p 0) = 1#32 := by
  haveI : Subsingleton Cert.Pre_mask_01.S_.Idx := ⟨fun a b => funext fun i => i.elim0⟩
  have e : IntOp.ori (IntOp.cmpi .eq (w (ix2 p 0)) 0#32) (IntOp.cmpi .eq (w (ix2 p 0)) 1#32) = 1#1 :=
    Host.reduce_andi_all _ _ Cert.Pre_mask_01.Gen.reducesTo_S196x1_S_d0_1 Cert.Pre_mask_01.Gen.h_S_ ix0 (congrFun h ix0) (ix2 p 0)
  exact (IntOp.ori_eq_one.1 e).imp IntOp.cmpi_eq.1 IntOp.cmpi_eq.1

/-- The reference's result is the kernel's. -/
theorem equal (m : (ℓ : Loc Cert.KernelIdeal.nD Cert.KernelIdeal.τ Cert.KernelIdeal.sig) → Buf (Elt Ideal) ℓ) (d : Dev Cert.KernelIdeal.nD)
    (hw : ∀ p : Fin 196, Launch.word m d p = 0#32 ∨ Launch.word m d p = 1#32) :
    Host.scatter Zeroed.dims (fun _ b => b) (m (Launch.iLoc d) : Cert.ReferenceIdeal.S256x196x768.Idx → Elt Ideal .f32) (Zeroed.indices (m (Launch.kLoc d)))
      (broadcastInDim Cert.ReferenceIdeal.S256x196x768 ![] Cert.ReferenceIdeal.Gen.bcast_S_S256x196x768 (constant (F := Ideal) Cert.ReferenceIdeal.S_ .f32 0x00000000#32))
      = Launch.result m d := by
  funext j
  rw [eq_ix3 j]
  refine (Zeroed.scatter_apply (m (Launch.kLoc d)) hw _ _ Launch.zero (fun _ => rfl) (j 0) (j 1) (j 2)).trans ?_
  exact (Launch.result_apply m d (j 0) (j 1) (j 2)).symm

theorem equation : Cert.algebraic_KernelIdeal_ReferenceIdeal_pre_mask_01 := fun m ρ m' ρ' hpre hagree =>
  ⟨fun c => Launch.result m c, fun c => m (Launch.kLoc c),
    (θ_run (Cert.KernelIdeal.defs (F := Ideal)) _ _).mono (fun _ h c => ⟨(h.1 c).1, (h.1 c).2.2, (h.1 c).2.1, (h.1 c).2.2⟩) (Launch.run_main (F := Ideal) m ρ),
    (θ_run (Cert.ReferenceIdeal.defs (F := Ideal)) _ _).mono (fun _ h c => ⟨(h c).1.trans (by
        rw [(hagree c).1, (hagree c).2]
        exact equal m c (words _ _ (hpre c))), (h c).2.1.trans (hagree c).2, (h c).2.2.1, (h c).2.2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_mask_01.Gen.facts,
    frame_kernel, frame_ideal, fun m ρ _ => frame_ideal m ρ trivial, frame_reference, fun m ρ _ => frame_reference m ρ trivial, trivial, equation⟩

end Cert.Proof

end
